-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  IdealRules.named_const.Statement Cert.Kernel4Ideal.κ "inv_rank" .f32 0x3BAAAAAB#32 ((1 / 192 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v48)) (v1 : (c : Dev Cert.Kernel4Ideal.nD) → Buf (Elt Ideal) ((c.tc : Thread Cert.Kernel4Ideal.nD Cert.Kernel4Ideal.τ).loc Cert.Kernel4Ideal.main_v53)) (v2 : (c : Dev Cert.Kernel4Ideal.nD) → Buf (Elt Ideal) ((c.tc : Thread Cert.Kernel4Ideal.nD Cert.Kernel4Ideal.τ).loc Cert.Kernel4Ideal.main_v54)) (v3 : (c : Dev Cert.Kernel4Ideal.nD) → Buf (Elt Ideal) ((c.tc : Thread Cert.Kernel4Ideal.nD Cert.Kernel4Ideal.τ).loc Cert.Kernel4Ideal.main_v55)) (v4 : (c : Dev Cert.Kernel4Ideal.nD) → Buf (Elt Ideal) ((c.tc : Thread Cert.Kernel4Ideal.nD Cert.Kernel4Ideal.τ).loc Cert.Kernel4Ideal.main_v42_0)) (v5 : (c : Dev Cert.Kernel4Ideal.nD) → Buf (Elt Ideal) ((c.tc : Thread Cert.Kernel4Ideal.nD Cert.Kernel4Ideal.τ).loc Cert.Kernel4Ideal.main_v42_1)) (v6 : (c : Dev Cert.Kernel4Ideal.nD) → Buf (Elt Ideal) ((c.tc : Thread Cert.Kernel4Ideal.nD Cert.Kernel4Ideal.τ).loc Cert.Kernel4Ideal.main_v42_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v48) = v0 c
          ∧ r.2.mem ((c.tc : Thread Cert.Kernel4Ideal.nD Cert.Kernel4Ideal.τ).loc Cert.Kernel4Ideal.main_v53) = v1 c
          ∧ r.2.mem ((c.tc : Thread Cert.Kernel4Ideal.nD Cert.Kernel4Ideal.τ).loc Cert.Kernel4Ideal.main_v54) = v2 c
          ∧ r.2.mem ((c.tc : Thread Cert.Kernel4Ideal.nD Cert.Kernel4Ideal.τ).loc Cert.Kernel4Ideal.main_v55) = v3 c
          ∧ r.2.mem ((c.tc : Thread Cert.Kernel4Ideal.nD Cert.Kernel4Ideal.τ).loc Cert.Kernel4Ideal.main_v42_0) = v4 c
          ∧ r.2.mem ((c.tc : Thread Cert.Kernel4Ideal.nD Cert.Kernel4Ideal.τ).loc Cert.Kernel4Ideal.main_v42_1) = v5 c
          ∧ r.2.mem ((c.tc : Thread Cert.Kernel4Ideal.nD Cert.Kernel4Ideal.τ).loc Cert.Kernel4Ideal.main_v42_3) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_v93) = v4 c
          ∧ r.2.mem ((c.tc : Thread Cert.Reference4Ideal.nD Cert.Reference4Ideal.τ).loc Cert.Reference4Ideal.main_v94) = v5 c
          ∧ r.2.mem ((c.tc : Thread Cert.Reference4Ideal.nD Cert.Reference4Ideal.τ).loc Cert.Reference4Ideal.main_v95) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def preserves_Kernel6_Kernel6Ideal : Prop :=
  True

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) →
    ∃ (v0 : (c : Dev Cert.Kernel8Ideal.nD) → Buf (Elt Ideal) ((c.tc : Thread Cert.Kernel8Ideal.nD Cert.Kernel8Ideal.τ).loc Cert.Kernel8Ideal.main_v21)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v21) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v85) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13))

def preserves_Kernel9_Kernel9Ideal : Prop :=
  IdealRules.named_const.Statement Cert.Kernel9Ideal.κ "inv_rank" .f32 0x3BAAAAAB#32 ((1 / 192 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v134_0)) (v1 : (c : Dev Cert.Kernel9Ideal.nD) → Buf (Elt Ideal) ((c.tc : Thread Cert.Kernel9Ideal.nD Cert.Kernel9Ideal.τ).loc Cert.Kernel9Ideal.main_v134_1)) (v2 : (c : Dev Cert.Kernel9Ideal.nD) → Buf (Elt Ideal) ((c.tc : Thread Cert.Kernel9Ideal.nD Cert.Kernel9Ideal.τ).loc Cert.Kernel9Ideal.main_v134_2)) (v3 : (c : Dev Cert.Kernel9Ideal.nD) → Buf (Elt Ideal) ((c.tc : Thread Cert.Kernel9Ideal.nD Cert.Kernel9Ideal.τ).loc Cert.Kernel9Ideal.main_v134_3)) (v4 : (c : Dev Cert.Kernel9Ideal.nD) → Buf (Elt Ideal) ((c.tc : Thread Cert.Kernel9Ideal.nD Cert.Kernel9Ideal.τ).loc Cert.Kernel9Ideal.main_v134_4)) (v5 : (c : Dev Cert.Kernel9Ideal.nD) → Buf (Elt Ideal) ((c.tc : Thread Cert.Kernel9Ideal.nD Cert.Kernel9Ideal.τ).loc Cert.Kernel9Ideal.main_v134_5)) (v6 : (c : Dev Cert.Kernel9Ideal.nD) → Buf (Elt Ideal) ((c.tc : Thread Cert.Kernel9Ideal.nD Cert.Kernel9Ideal.τ).loc Cert.Kernel9Ideal.main_v134_6)) (v7 : (c : Dev Cert.Kernel9Ideal.nD) → Buf (Elt Ideal) ((c.tc : Thread Cert.Kernel9Ideal.nD Cert.Kernel9Ideal.τ).loc Cert.Kernel9Ideal.main_v134_7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v134_0) = v0 c
          ∧ r.2.mem ((c.tc : Thread Cert.Kernel9Ideal.nD Cert.Kernel9Ideal.τ).loc Cert.Kernel9Ideal.main_v134_1) = v1 c
          ∧ r.2.mem ((c.tc : Thread Cert.Kernel9Ideal.nD Cert.Kernel9Ideal.τ).loc Cert.Kernel9Ideal.main_v134_2) = v2 c
          ∧ r.2.mem ((c.tc : Thread Cert.Kernel9Ideal.nD Cert.Kernel9Ideal.τ).loc Cert.Kernel9Ideal.main_v134_3) = v3 c
          ∧ r.2.mem ((c.tc : Thread Cert.Kernel9Ideal.nD Cert.Kernel9Ideal.τ).loc Cert.Kernel9Ideal.main_v134_4) = v4 c
          ∧ r.2.mem ((c.tc : Thread Cert.Kernel9Ideal.nD Cert.Kernel9Ideal.τ).loc Cert.Kernel9Ideal.main_v134_5) = v5 c
          ∧ r.2.mem ((c.tc : Thread Cert.Kernel9Ideal.nD Cert.Kernel9Ideal.τ).loc Cert.Kernel9Ideal.main_v134_6) = v6 c
          ∧ r.2.mem ((c.tc : Thread Cert.Kernel9Ideal.nD Cert.Kernel9Ideal.τ).loc Cert.Kernel9Ideal.main_v134_7) = v7 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v219) = v0 c
          ∧ r.2.mem ((c.tc : Thread Cert.Reference9Ideal.nD Cert.Reference9Ideal.τ).loc Cert.Reference9Ideal.main_v220) = v1 c
          ∧ r.2.mem ((c.tc : Thread Cert.Reference9Ideal.nD Cert.Reference9Ideal.τ).loc Cert.Reference9Ideal.main_v221) = v2 c
          ∧ r.2.mem ((c.tc : Thread Cert.Reference9Ideal.nD Cert.Reference9Ideal.τ).loc Cert.Reference9Ideal.main_v223) = v3 c
          ∧ r.2.mem ((c.tc : Thread Cert.Reference9Ideal.nD Cert.Reference9Ideal.τ).loc Cert.Reference9Ideal.main_v225) = v4 c
          ∧ r.2.mem ((c.tc : Thread Cert.Reference9Ideal.nD Cert.Reference9Ideal.τ).loc Cert.Reference9Ideal.main_v227) = v5 c
          ∧ r.2.mem ((c.tc : Thread Cert.Reference9Ideal.nD Cert.Reference9Ideal.τ).loc Cert.Reference9Ideal.main_v229) = v6 c
          ∧ r.2.mem ((c.tc : Thread Cert.Reference9Ideal.nD Cert.Reference9Ideal.τ).loc Cert.Reference9Ideal.main_v234) = v7 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite3 : Cert.Pre_finite3.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
-- ==== Pre_finite.lean ====
abbrev S8192x384 : Shape := ⟨2, ![8192, 384]⟩
abbrev S8192x128 : Shape := ⟨2, ![8192, 128]⟩
abbrev S8192x512 : Shape := ⟨2, ![8192, 512]⟩
abbrev S2x256x128 : Shape := ⟨3, ![2, 256, 128]⟩
abbrev S2x256x32 : Shape := ⟨3, ![2, 256, 32]⟩
abbrev S128x512 : Shape := ⟨2, ![128, 512]⟩
abbrev S_ : Shape := ⟨0, ![]⟩

class Facts : Prop where
  bcast_S_S8192x384 : S_.BroadcastsInDim S8192x384 (![] : Fin 0 → Fin S8192x384.rank)
  bitsLt_bf16_f32 : FTy.bits .bf16 < FTy.bits .f32
  bcast_S_S8192x128 : S_.BroadcastsInDim S8192x128 (![] : Fin 0 → Fin S8192x128.rank)
  bcast_S_S8192x512 : S_.BroadcastsInDim S8192x512 (![] : Fin 0 → Fin S8192x512.rank)
  bcast_S_S2x256x128 : S_.BroadcastsInDim S2x256x128 (![] : Fin 0 → Fin S2x256x128.rank)
  bcast_S_S2x256x32 : S_.BroadcastsInDim S2x256x32 (![] : Fin 0 → Fin S2x256x32.rank)
  bcast_S_S128x512 : S_.BroadcastsInDim S128x512 (![] : Fin 0 → Fin S128x512.rank)

variable [Facts]

def fn_part1 {F : FTy → Type} [FloatOps F] (main_arg6 : FVec F S128x512 .f32) (main_v2 : IVec S8192x384 1) (main_v6 : IVec S8192x128 1) (main_v10 : IVec S8192x512 1) (main_v14 : IVec S8192x128 1) (main_v17 : IVec S2x256x128 1) (main_v18 : FVec F S2x256x32 .f32) : IVec S8192x384 1 × IVec S8192x128 1 × IVec S8192x512 1 × IVec S8192x128 1 × IVec S2x256x128 1 × IVec S2x256x32 1 × IVec S128x512 1 :=
  let main_cst_4 : FVec F S_ .f32 := constant S_ .f32 0x7F800000#32
  let main_v19 : FVec F S2x256x32 .f32 := broadcastInDim S2x256x32 ![] bcast_S_S2x256x32 main_cst_4
  let main_v20 : IVec S2x256x32 1 := cmpf .olt main_v18 main_v19
  let main_v21 : FVec F S128x512 .f32 := Host.absf main_arg6
  let main_cst_5 : FVec F S_ .f32 := constant S_ .f32 0x7F800000#32
  let main_v22 : FVec F S128x512 .f32 := broadcastInDim S128x512 ![] bcast_S_S128x512 main_cst_5
  let main_v23 : IVec S128x512 1 := cmpf .olt main_v21 main_v22
  (main_v2, main_v6, main_v10, main_v14, main_v17, main_v20, main_v23)

def fn {F : FTy → Type} [FloatOps F] (main_arg0 : FVec F S8192x384 .f32) (main_arg1 : FVec F S8192x128 .bf16) (main_arg2 : FVec F S8192x512 .bf16) (main_arg3 : FVec F S8192x128 .bf16) (main_arg4 : FVec F S2x256x128 .f32) (main_arg5 : FVec F S2x256x32 .f32) (main_arg6 : FVec F S128x512 .f32) : IVec S8192x384 1 × IVec S8192x128 1 × IVec S8192x512 1 × IVec S8192x128 1 × IVec S2x256x128 1 × IVec S2x256x32 1 × IVec S128x512 1 :=
  let main_v0 : FVec F S8192x384 .f32 := Host.absf main_arg0
  let main_cst : FVec F S_ .f32 := constant S_ .f32 0x7F800000#32
  let main_v1 : FVec F S8192x384 .f32 := broadcastInDim S8192x384 ![] bcast_S_S8192x384 main_cst
  let main_v2 : IVec S8192x384 1 := cmpf .olt main_v0 main_v1
  let main_v3 : FVec F S8192x128 .f32 := (extf .f32 · bitsLt_bf16_f32) main_arg1
  let main_v4 : FVec F S8192x128 .f32 := Host.absf main_v3
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_v7 : FVec F S8192x512 .f32 := (extf .f32 · bitsLt_bf16_f32) main_arg2
  let main_v8 : FVec F S8192x512 .f32 := Host.absf main_v7
  let main_cst_1 : FVec F S_ .f32 := constant S_ .f32 0x7F800000#32
  let main_v9 : FVec F S8192x512 .f32 := broadcastInDim S8192x512 ![] bcast_S_S8192x512 main_cst_1
  let main_v10 : IVec S8192x512 1 := cmpf .olt main_v8 main_v9
  let main_v11 : FVec F S8192x128 .f32 := (extf .f32 · bitsLt_bf16_f32) main_arg3
  let main_v12 : FVec F S8192x128 .f32 := Host.absf main_v11
  let main_cst_2 : FVec F S_ .f32 := constant S_ .f32 0x7F800000#32
  let main_v13 : FVec F S8192x128 .f32 := broadcastInDim S8192x128 ![] bcast_S_S8192x128 main_cst_2
  let main_v14 : IVec S8192x128 1 := cmpf .olt main_v12 main_v13
  let main_v15 : FVec F S2x256x128 .f32 := Host.absf main_arg4
  let main_cst_3 : FVec F S_ .f32 := constant S_ .f32 0x7F800000#32
  let main_v16 : FVec F S2x256x128 .f32 := broadcastInDim S2x256x128 ![] bcast_S_S2x256x128 main_cst_3
  let main_v17 : IVec S2x256x128 1 := cmpf .olt main_v15 main_v16
  let main_v18 : FVec F S2x256x32 .f32 := Host.absf main_arg5
  fn_part1 (F := F) main_arg6 main_v2 main_v6 main_v10 main_v14 main_v17 main_v18
-- ==== Pre_finite3.lean ====
abbrev S8192x1024 : Shape := ⟨2, ![8192, 1024]⟩
abbrev S2x1x6144 : Shape := ⟨3, ![2, 1, 6144]⟩
abbrev S1024 : Shape := ⟨1, ![1024]⟩
abbrev S8192x256 : Shape := ⟨2, ![8192, 256]⟩
abbrev S8192x2688 : Shape := ⟨2, ![8192, 2688]⟩
abbrev S64 : Shape := ⟨1, ![64]⟩
abbrev S1024x6256 : Shape := ⟨2, ![1024, 6256]⟩
abbrev S4x256x1024 : Shape := ⟨3, ![4, 256, 1024]⟩
abbrev S1024x1024 : Shape := ⟨2, ![1024, 1024]⟩
abbrev S_ : Shape := ⟨0, ![]⟩

class Facts : Prop where
  bcast_S_S8192x256 : S_.BroadcastsInDim S8192x256 (![] : Fin 0 → Fin S8192x256.rank)

variable [Facts]

def fn {F : FTy → Type} [FloatOps F] (main_arg0 : FVec F S8192x1024 .f32) (main_arg1 : FVec F S2x1x6144 .f32) (main_arg2 : FVec F S1024 .f32) (main_arg3 : FVec F S8192x256 .f32) (main_arg4 : FVec F S8192x256 .f32) (main_arg5 : FVec F S8192x256 .f32) (main_arg6 : FVec F S8192x256 .f32) (main_arg7 : FVec F S8192x256 .f32) (main_arg8 : FVec F S8192x2688 .f32) (main_arg9 : FVec F S64 .f32) (main_arg10 : FVec F S1024x6256 .f32) (main_arg11 : FVec F S4x256x1024 .f32) (main_arg12 : FVec F S1024x1024 .f32) (main_arg13 : FVec F S1024 .f32) : IVec S8192x256 1 × IVec S8192x256 1 :=
  let main_v0 : FVec F S8192x256 .f32 := Host.absf main_arg6
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S8192x256 .f32 := Host.absf main_arg7
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  (main_v2, main_v5)
-- ==== Pre_finite8.lean ====
abbrev S8192x1024 : Shape := ⟨2, ![8192, 1024]⟩
abbrev S1x1x6144 : Shape := ⟨3, ![1, 1, 6144]⟩
abbrev S1024 : Shape := ⟨1, ![1024]⟩
abbrev S8192x256 : Shape := ⟨2, ![8192, 256]⟩
abbrev S8192x2688 : Shape := ⟨2, ![8192, 2688]⟩
abbrev S64 : Shape := ⟨1, ![64]⟩
abbrev S1024x6256 : Shape := ⟨2, ![1024, 6256]⟩
abbrev S4x256x1024 : Shape := ⟨3, ![4, 256, 1024]⟩
abbrev S1024x1024 : Shape := ⟨2, ![1024, 1024]⟩
abbrev S_ : Shape := ⟨0, ![]⟩

class Facts : Prop where
  bcast_S_S8192x256 : S_.BroadcastsInDim S8192x256 (![] : Fin 0 → Fin S8192x256.rank)

variable [Facts]

def fn {F : FTy → Type} [FloatOps F] (main_arg0 : FVec F S8192x1024 .f32) (main_arg1 : FVec F S1x1x6144 .f32) (main_arg2 : FVec F S1024 .f32) (main_arg3 : FVec F S8192x256 .f32) (main_arg4 : FVec F S8192x256 .f32) (main_arg5 : FVec F S8192x256 .f32) (main_arg6 : FVec F S8192x256 .f32) (main_arg7 : FVec F S8192x256 .f32) (main_arg8 : FVec F S8192x2688 .f32) (main_arg9 : FVec F S64 .f32) (main_arg10 : FVec F S1024x6256 .f32) (main_arg11 : FVec F S4x256x1024 .f32) (main_arg12 : FVec F S1024x1024 .f32) (main_arg13 : FVec F S1024 .f32) : IVec S8192x256 1 × IVec S8192x256 1 :=
  let main_v0 : FVec F S8192x256 .f32 := Host.absf main_arg6
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S8192x256 .f32 := Host.absf main_arg7
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  (main_v2, main_v5)
-- ==== Kernel.lean ====
abbrev S8192x384 : Shape := ⟨2, ![8192, 384]⟩
abbrev S8192x128 : Shape := ⟨2, ![8192, 128]⟩
abbrev S8192x512 : Shape := ⟨2, ![8192, 512]⟩
abbrev S2x256x128 : Shape := ⟨3, ![2, 256, 128]⟩
abbrev S2x256x32 : Shape := ⟨3, ![2, 256, 32]⟩
abbrev S128x512 : Shape := ⟨2, ![128, 512]⟩
abbrev S128x4x128 : Shape := ⟨3, ![128, 4, 128]⟩
abbrev S128x4x64 : Shape := ⟨3, ![128, 4, 64]⟩
abbrev S128x256 : Shape := ⟨2, ![128, 256]⟩
abbrev S1x2x1x256x1x32 : Shape := ⟨6, ![1, 2, 1, 256, 1, 32]⟩
abbrev S1x2x1x256x4x32 : Shape := ⟨6, ![1, 2, 1, 256, 4, 32]⟩
abbrev S8192x256 : Shape := ⟨2, ![8192, 256]⟩
abbrev S256x384 : Shape := ⟨2, ![256, 384]⟩
abbrev S256x128 : Shape := ⟨2, ![256, 128]⟩
abbrev S4096x512 : Shape := ⟨2, ![4096, 512]⟩
abbrev S4096x128 : Shape := ⟨2, ![4096, 128]⟩
abbrev S1x256x128 : Shape := ⟨3, ![1, 256, 128]⟩
abbrev S256x256 : Shape := ⟨2, ![256, 256]⟩
abbrev S4096x256 : Shape := ⟨2, ![4096, 256]⟩
abbrev S256x512 : Shape := ⟨2, ![256, 512]⟩
abbrev S1x256 : Shape := ⟨2, ![1, 256]⟩
abbrev S1x128 : Shape := ⟨2, ![1, 128]⟩
abbrev S256x4096 : Shape := ⟨2, ![256, 4096]⟩
abbrev S256 : Shape := ⟨1, ![256]⟩
abbrev S256x1 : Shape := ⟨2, ![256, 1]⟩

abbrev nBuf : Space → Nat
  | .hbm => 18
  | .vmem => 15
  | .smem => 0
  | _ => 0

abbrev bufTy : (tb : Table) → Fin (tcTables nBuf tb) → BufTy
  | .hbm, ⟨0, _⟩ => ⟨S8192x384, .f32⟩
  | .hbm, ⟨1, _⟩ => ⟨S8192x128, .bf16⟩
  | .hbm, ⟨2, _⟩ => ⟨S8192x512, .bf16⟩
  | .hbm, ⟨3, _⟩ => ⟨S8192x128, .bf16⟩
  | .hbm, ⟨4, _⟩ => ⟨S2x256x128, .f32⟩
  | .hbm, ⟨5, _⟩ => ⟨S2x256x32, .f32⟩
  | .hbm, ⟨6, _⟩ => ⟨S128x512, .f32⟩
  | .hbm, ⟨7, _⟩ => ⟨S128x4x128, .f32⟩
  | .hbm, ⟨8, _⟩ => ⟨S128x4x64, .f32⟩
  | .hbm, ⟨9, _⟩ => ⟨S128x256, .f32⟩
  | .hbm, ⟨10, _⟩ => ⟨S128x4x64, .f32⟩
  | .hbm, ⟨11, _⟩ => ⟨S128x256, .f32⟩
  | .hbm, ⟨12, _⟩ => ⟨S128x512, .f32⟩
  | .hbm, ⟨13, _⟩ => ⟨S128x512, .bf16⟩
  | .hbm, ⟨14, _⟩ => ⟨S1x2x1x256x1x32, .f32⟩
  | .hbm, ⟨15, _⟩ => ⟨S1x2x1x256x4x32, .f32⟩
  | .hbm, ⟨16, _⟩ => ⟨S2x256x128, .f32⟩
  | .hbm, ⟨17, _⟩ => ⟨S8192x256, .f32⟩
  | .local _ .vmem, ⟨0, _⟩ => ⟨S256x384, .f32⟩
  | .local _ .vmem, ⟨1, _⟩ => ⟨S256x384, .f32⟩
  | .local _ .vmem, ⟨2, _⟩ => ⟨S256x128, .bf16⟩
  | .local _ .vmem, ⟨3, _⟩ => ⟨S256x128, .bf16⟩
  | .local _ .vmem, ⟨4, _⟩ => ⟨S4096x512, .bf16⟩
  | .local _ .vmem, ⟨5, _⟩ => ⟨S4096x512, .bf16⟩
  | .local _ .vmem, ⟨6, _⟩ => ⟨S4096x128, .bf16⟩
  | .local _ .vmem, ⟨7, _⟩ => ⟨S4096x128, .bf16⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S128x512, .bf16⟩
  | .local _ .vmem, ⟨13, _⟩ => ⟨S256x256, .f32⟩
  | .local _ .vmem, ⟨14, _⟩ => ⟨S256x256, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x384 : Shape := ⟨2, ![8192, 384]⟩
abbrev S8192x128 : Shape := ⟨2, ![8192, 128]⟩
abbrev S8192x512 : Shape := ⟨2, ![8192, 512]⟩
abbrev S2x256x128 : Shape := ⟨3, ![2, 256, 128]⟩
abbrev S2x256x32 : Shape := ⟨3, ![2, 256, 32]⟩
abbrev S128x512 : Shape := ⟨2, ![128, 512]⟩
abbrev S8192x256 : Shape := ⟨2, ![8192, 256]⟩
abbrev S2x4096x4x64 : Shape := ⟨4, ![2, 4096, 4, 64]⟩
abbrev S2x4096x4x32 : Shape := ⟨4, ![2, 4096, 4, 32]⟩
abbrev S2x4096x4x96 : Shape := ⟨4, ![2, 4096, 4, 96]⟩
abbrev S2x256x512 : Shape := ⟨3, ![2, 256, 512]⟩
abbrev S2x256x4x128 : Shape := ⟨4, ![2, 256, 4, 128]⟩
abbrev S2x256x1x32 : Shape := ⟨4, ![2, 256, 1, 32]⟩
abbrev S2x256x4x32 : Shape := ⟨4, ![2, 256, 4, 32]⟩
abbrev S2x256x4x64 : Shape := ⟨4, ![2, 256, 4, 64]⟩
abbrev S2x256x4x96 : Shape := ⟨4, ![2, 256, 4, 96]⟩
abbrev S2x4x4096x4096 : Shape := ⟨4, ![2, 4, 4096, 4096]⟩
abbrev S_ : Shape := ⟨0, ![]⟩
abbrev S2x4x4096x256 : Shape := ⟨4, ![2, 4, 4096, 256]⟩
abbrev S2x4x4096x4352 : Shape := ⟨4, ![2, 4, 4096, 4352]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x128, .bf16⟩
  | .hbm, ⟨2, _⟩ => ⟨S8192x512, .bf16⟩
  | .hbm, ⟨3, _⟩ => ⟨S8192x128, .bf16⟩
  | .hbm, ⟨4, _⟩ => ⟨S2x256x128, .f32⟩
  | .hbm, ⟨5, _⟩ => ⟨S2x256x32, .f32⟩
  | .hbm, ⟨6, _⟩ => ⟨S128x512, .f32⟩
  | .hbm, ⟨7, _⟩ => ⟨S8192x256, .f32⟩
  | .hbm, ⟨8, _⟩ => ⟨S2x4096x4x64, .f32⟩
  | .hbm, ⟨9, _⟩ => ⟨S8192x128, .f32⟩
  | .hbm, ⟨10, _⟩ => ⟨S2x4096x4x32, .f32⟩
  | .hbm, ⟨11, _⟩ => ⟨S8192x128, .f32⟩
  | .hbm, ⟨12, _⟩ => ⟨S2x4096x4x32, .f32⟩
  | .hbm, ⟨13, _⟩ => ⟨S8192x256, .bf16⟩
  | .hbm, ⟨14, _⟩ => ⟨S8192x256, .f32⟩
  | .hbm, ⟨15, _⟩ => ⟨S2x4096x4x64, .f32⟩
  | .hbm, ⟨16, _⟩ => ⟨S8192x128, .f32⟩
  | .hbm, ⟨17, _⟩ => ⟨S2x4096x4x32, .f32⟩
  | .hbm, ⟨18, _⟩ => ⟨S2x4096x4x96, .f32⟩
  | .hbm, ⟨19, _⟩ => ⟨S8192x256, .bf16⟩
  | .hbm, ⟨20, _⟩ => ⟨S8192x256, .f32⟩
  | .hbm, ⟨21, _⟩ => ⟨S2x4096x4x64, .f32⟩
  | .hbm, ⟨22, _⟩ => ⟨S2x256x512, .f32⟩
  | .hbm, ⟨23, _⟩ => ⟨S2x256x4x128, .f32⟩
  | .hbm, ⟨24, _⟩ => ⟨S2x256x1x32, .f32⟩
  | .hbm, ⟨25, _⟩ => ⟨S2x256x4x32, .f32⟩
  | .hbm, ⟨26, _⟩ => ⟨S2x256x4x64, .f32⟩
  | .hbm, ⟨27, _⟩ => ⟨S2x256x4x96, .f32⟩
  | .hbm, ⟨28, _⟩ => ⟨S2x256x4x64, .f32⟩
  | .hbm, ⟨29, _⟩ => ⟨S2x4096x4x96, .f32⟩
  | .hbm, ⟨30, _⟩ => ⟨S2x4096x4x96, .f32⟩
  | .hbm, ⟨31, _⟩ => ⟨S2x4x4096x4096, .f32⟩
  | .hbm, ⟨32, _⟩ => ⟨S_, .f32⟩
  | .hbm, ⟨33, _⟩ => ⟨S2x4x4096x4096, .f32⟩
  | .hbm, ⟨34, _⟩ => ⟨S2x4x4096x4096, .f32⟩
  | .hbm, ⟨35, _⟩ => ⟨S2x4x4096x256, .f32⟩
  | .hbm, ⟨36, _⟩ => ⟨S_, .f32⟩
  | .hbm, ⟨37, _⟩ => ⟨S2x4x4096x256, .f32⟩
  | .hbm, ⟨38, _⟩ => ⟨S2x4x4096x256, .f32⟩
  | .hbm, ⟨39, _⟩ => ⟨S2x4x4096x4352, .f32⟩
  | .hbm, ⟨40, _⟩ => ⟨S_, .f32⟩
  | .hbm, ⟨41, _⟩ => ⟨S2x4x4096, .f32⟩
  | .hbm, ⟨42, _⟩ => ⟨S_, .f32⟩
  | .hbm, ⟨43, _⟩ => ⟨S2x4x4096, .f32⟩
  | .hbm, ⟨44, _⟩ => ⟨S2x4x4096, .f32⟩
  | .hbm, ⟨45, _⟩ => ⟨S2x4x4096x1, .f32⟩
  | .hbm, ⟨46, _⟩ => ⟨S2x4x4096x4352, .f32⟩
  | .hbm, ⟨47, _⟩ => ⟨S2x4x4096x4352, .f32⟩
  | .hbm, ⟨48, _⟩ => ⟨S2x4x4096x4352, .f32⟩
  | .hbm, ⟨49, _⟩ => ⟨S_, .f32⟩
  | .hbm, ⟨50, _⟩ => ⟨S2x4x4096, .f32⟩
  | .hbm, ⟨51, _⟩ => ⟨S2x4x4096x1, .f32⟩
  | .hbm, ⟨52, _⟩ => ⟨S2x4x4096x4352, .f32⟩
  | .hbm, ⟨53, _⟩ => ⟨S2x4x4096x4352, .f32⟩
  | .hbm, ⟨54, _⟩ => ⟨S2x4x4096x4096, .f32⟩
  | .hbm, ⟨55, _⟩ => ⟨S2x4x4096x256, .f32⟩
  | .hbm, ⟨56, _⟩ => ⟨S2x4x64x4096, .f32⟩
  | .hbm, ⟨57, _⟩ => ⟨S2x4096x4x64, .f32⟩
  | .hbm, ⟨58, _⟩ => ⟨S2x4x64x4096, .f32⟩
  | .hbm, ⟨59, _⟩ => ⟨S2x4096x4x64, .f32⟩
  | .hbm, ⟨60, _⟩ => ⟨S2x4096x4x64, .f32⟩
  | .hbm, ⟨61, _⟩ => ⟨S8192x256, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== Kernel2.lean ====
abbrev S8192x1024 : Shape := ⟨2, ![8192, 1024]⟩
abbrev S2x1x6144 : Shape := ⟨3, ![2, 1, 6144]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S256x1024 : Shape := ⟨2, ![256, 1024]⟩
abbrev S1x1x6144 : Shape := ⟨3, ![1, 1, 6144]⟩
abbrev S1x6144 : Shape := ⟨2, ![1, 6144]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S2x1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x1024 : Shape := ⟨2, ![8192, 1024]⟩
abbrev S2x1x6144 : Shape := ⟨3, ![2, 1, 6144]⟩
abbrev S1024 : Shape := ⟨1, ![1024]⟩
abbrev S1024x5632 : Shape := ⟨2, ![1024, 5632]⟩
abbrev S2816x1024 : Shape := ⟨2, ![2816, 1024]⟩
abbrev S2x4096x1024 : Shape := ⟨3, ![2, 4096, 1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x5632 : Shape := ⟨3, ![2, 4096, 5632]⟩
abbrev S2x4096x2816 : Shape := ⟨3, ![2, 4096, 2816]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x4096x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x4096x1024, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x1024, .f32⟩
  | .hbm, ⟨25, _⟩ => ⟨S2x4096x1024, .f32⟩
  | .hbm, ⟨26, _⟩ => ⟨S1x1x1024, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x5632, .f32⟩
  | .hbm, ⟨37, _⟩ => ⟨S2x4096x2816, .f32⟩
  | .hbm, ⟨38, _⟩ => ⟨S2x4096x2816, .f32⟩
  | .hbm, ⟨39, _⟩ => ⟨S2x4096x2816, .f32⟩
  | .hbm, ⟨40, _⟩ => ⟨S2x4096x2816, .f32⟩
  | .hbm, ⟨41, _⟩ => ⟨S_, .f32⟩
  | .hbm, ⟨42, _⟩ => ⟨S2x4096x2816, .f32⟩
  | .hbm, ⟨43, _⟩ => ⟨S2x4096x2816, .f32⟩
  | .hbm, ⟨44, _⟩ => ⟨S_, .f32⟩
  | .hbm, ⟨45, _⟩ => ⟨S2x4096x2816, .f32⟩
  | .hbm, ⟨46, _⟩ => ⟨S2x4096x2816, .f32⟩
  | .hbm, ⟨47, _⟩ => ⟨S2x4096x2816, .f32⟩
  | .hbm, ⟨48, _⟩ => ⟨S2x4096x2816, .f32⟩
  | .hbm, ⟨49, _⟩ => ⟨S2x4096x1024, .f32⟩
  | .hbm, ⟨50, _⟩ => ⟨S2x4096x1024, .f32⟩
  | .hbm, ⟨51, _⟩ => ⟨S_, .f32⟩
  | .hbm, ⟨52, _⟩ => ⟨S2x4096, .f32⟩
  | .hbm, ⟨53, _⟩ => ⟨S2x4096x1, .f32⟩
  | .hbm, ⟨54, _⟩ => ⟨S_, .f32⟩
  | .hbm, ⟨55, _⟩ => ⟨S2x4096x1, .f32⟩
  | .hbm, ⟨56, _⟩ => ⟨S2x4096x1, .f32⟩
  | .hbm, ⟨57, _⟩ => ⟨S_, .f32⟩
  | .hbm, ⟨58, _⟩ => ⟨S2x4096x1, .f32⟩
  | .hbm, ⟨59, _⟩ => ⟨S2x4096x1, .f32⟩
  | .hbm, ⟨60, _⟩ => ⟨S2x4096x1, .f32⟩
  | .hbm, ⟨61, _⟩ => ⟨S2x4096x1024, .f32⟩
  | .hbm, ⟨62, _⟩ => ⟨S2x4096x1024, .f32⟩
  | .hbm, ⟨63, _⟩ => ⟨S1x1x1024, .f32⟩
  | .hbm, ⟨64, _⟩ => ⟨S2x4096x1024, .f32⟩
  | .hbm, ⟨65, _⟩ => ⟨S2x4096x1024, .f32⟩
  | .hbm, ⟨66, _⟩ => ⟨S2x4096x1024, .f32⟩
  | .hbm, ⟨67, _⟩ => ⟨S2x4096x1024, .f32⟩
  | .hbm, ⟨68, _⟩ => ⟨S2x4096x1024, .f32⟩
  | .hbm, ⟨69, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Kernel3.lean ====
abbrev S8192x1024 : Shape := ⟨2, ![8192, 1024]⟩
abbrev S2x1x6144 : Shape := ⟨3, ![2, 1, 6144]⟩
abbrev S1024 : Shape := ⟨1, ![1024]⟩
abbrev S8192x256 : Shape := ⟨2, ![8192, 256]⟩
abbrev S8192x2688 : Shape := ⟨2, ![8192, 2688]⟩
abbrev S64 : Shape := ⟨1, ![64]⟩
abbrev S1024x6256 : Shape := ⟨2, ![1024, 6256]⟩
abbrev S4x256x1024 : Shape := ⟨3, ![4, 256, 1024]⟩
abbrev S1024x1024 : Shape := ⟨2, ![1024, 1024]⟩
abbrev S1024x256 : Shape := ⟨2, ![1024, 256]⟩
abbrev S1024x128 : Shape := ⟨2, ![1024, 128]⟩
abbrev S1024x192 : Shape := ⟨2, ![1024, 192]⟩
abbrev S1024x32 : Shape := ⟨2, ![1024, 32]⟩
abbrev S1024x768 : Shape := ⟨2, ![1024, 768]⟩
abbrev S1024x8 : Shape := ⟨2, ![1024, 8]⟩
abbrev S1024x4096 : Shape := ⟨2, ![1024, 4096]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1024 : Shape := ⟨2, ![256, 1024]⟩
abbrev S1x1x6144 : Shape := ⟨3, ![1, 1, 6144]⟩
abbrev S256x256 : Shape := ⟨2, ![256, 256]⟩
abbrev S1x6144 : Shape := ⟨2, ![1, 6144]⟩
abbrev S256x1 : Shape := ⟨2, ![256, 1]⟩
abbrev S1x256x1024 : Shape := ⟨3, ![1, 256, 1024]⟩

abbrev nBuf : Space → Nat
  | .hbm => 36
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S2x1x6144, .f32⟩
  | .hbm, ⟨2, _⟩ => ⟨S1024, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x2688, .f32⟩
  | .hbm, ⟨9, _⟩ => ⟨S64, .f32⟩
  | .hbm, ⟨10, _⟩ => ⟨S1024x6256, .f32⟩
  | .hbm, ⟨11, _⟩ => ⟨S4x256x1024, .f32⟩
  | .hbm, ⟨12, _⟩ => ⟨S1024x1024, .f32⟩
  | .hbm, ⟨13, _⟩ => ⟨S1024, .f32⟩
  | .hbm, ⟨14, _⟩ => ⟨S1024x256, .f32⟩
  | .hbm, ⟨15, _⟩ => ⟨S1024x128, .f32⟩
  | .hbm, ⟨16, _⟩ => ⟨S1024x128, .f32⟩
  | .hbm, ⟨17, _⟩ => ⟨S1024x192, .f32⟩
  | .hbm, ⟨18, _⟩ => ⟨S1024x128, .f32⟩
  | .hbm, ⟨19, _⟩ => ⟨S1024x32, .f32⟩
  | .hbm, ⟨20, _⟩ => ⟨S1024x256, .f32⟩
  | .hbm, ⟨21, _⟩ => ⟨S1024x768, .f32⟩
  | .hbm, ⟨22, _⟩ => ⟨S1024x256, .f32⟩
  | .hbm, ⟨23, _⟩ => ⟨S1024x8, .f32⟩
  | .hbm, ⟨24, _⟩ => ⟨S1024x8, .f32⟩
  | .hbm, ⟨25, _⟩ => ⟨S1024x4096, .f32⟩
  | .hbm, ⟨26, _⟩ => ⟨S1x1024, .f32⟩
  | .hbm, ⟨27, _⟩ => ⟨S1x64, .f32⟩
  | .hbm, ⟨28, _⟩ => ⟨S4x64, .f32⟩
  | .hbm, ⟨29, _⟩ => ⟨S256, .f32⟩
  | .hbm, ⟨30, _⟩ => ⟨S1x256, .f32⟩
  | .hbm, ⟨31, _⟩ => ⟨S1024x4096, .bf16⟩
  | .hbm, ⟨32, _⟩ => ⟨S4x256x1024, .bf16⟩
  | .hbm, ⟨33, _⟩ => ⟨S1024x1024, .bf16⟩
  | .hbm, ⟨34, _⟩ => ⟨S1x1024, .f32⟩
  | .hbm, ⟨35, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S1x256, .f32⟩
  | .local _ .vmem, ⟨18, _⟩ => ⟨S1024x4096, .bf16⟩
  | .local _ .vmem, ⟨19, _⟩ => ⟨S4x256x1024, .bf16⟩
  | .local _ .vmem, ⟨20, _⟩ => ⟨S1024x1024, .bf16⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8192x1024 : Shape := ⟨2, ![8192, 1024]⟩
abbrev S2x1x6144 : Shape := ⟨3, ![2, 1, 6144]⟩
abbrev S1024 : Shape := ⟨1, ![1024]⟩
abbrev S8192x256 : Shape := ⟨2, ![8192, 256]⟩
abbrev S8192x2688 : Shape := ⟨2, ![8192, 2688]⟩
abbrev S64 : Shape := ⟨1, ![64]⟩
abbrev S1024x6256 : Shape := ⟨2, ![1024, 6256]⟩
abbrev S4x256x1024 : Shape := ⟨3, ![4, 256, 1024]⟩
abbrev S1024x1024 : Shape := ⟨2, ![1024, 1024]⟩
abbrev S2x4096x1024 : Shape := ⟨3, ![2, 4096, 1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x6256 : Shape := ⟨3, ![2, 4096, 6256]⟩
abbrev S2x4096x4096 : Shape := ⟨3, ![2, 4096, 4096]⟩
abbrev S2x4096x4x64 : Shape := ⟨4, ![2, 4096, 4, 64]⟩
abbrev S2x4096x2688 : Shape := ⟨3, ![2, 4096, 2688]⟩
abbrev S2x4096x256 : Shape := ⟨3, ![2, 4096, 256]⟩
abbrev S2x4096x4 : Shape := ⟨3, ![2, 4096, 4]⟩
abbrev S2x4096x4x1 : Shape := ⟨4, ![2, 4096, 4, 1]⟩
abbrev S1x1x1x64 : Shape := ⟨4, ![1, 1, 1, 64]⟩
abbrev S2x4096x1x256 : Shape := ⟨4, ![2, 4096, 1, 256]⟩
abbrev S2x4096x4x256 : Shape := ⟨4, ![2, 4096, 4, 256]⟩
abbrev S4x1024x2x4096 : Shape := ⟨4, ![4, 1024, 2, 4096]⟩
abbrev S2x4096x4x1024 : Shape := ⟨4, ![2, 4096, 4, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1x6144, .f32⟩
  | .hbm, ⟨2, _⟩ => ⟨S1024, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x2688, .f32⟩
  | .hbm, ⟨9, _⟩ => ⟨S64, .f32⟩
  | .hbm, ⟨10, _⟩ => ⟨S1024x6256, .f32⟩
  | .hbm, ⟨11, _⟩ => ⟨S4x256x1024, .f32⟩
  | .hbm, ⟨12, _⟩ => ⟨S1024x1024, .f32⟩
  | .hbm, ⟨13, _⟩ => ⟨S1024, .f32⟩
  | .hbm, ⟨14, _⟩ => ⟨S2x4096x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x4096x1024, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S2x4096x1024, .f32⟩
  | .hbm, ⟨33, _⟩ => ⟨S2x4096x1024, .f32⟩
  | .hbm, ⟨34, _⟩ => ⟨S1x1x1024, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x6256, .f32⟩
  | .hbm, ⟨45, _⟩ => ⟨S2x4096x4096, .f32⟩
  | .hbm, ⟨46, _⟩ => ⟨S8192x256, .f32⟩
  | .hbm, ⟨47, _⟩ => ⟨S2x4096x4x64, .f32⟩
  | .hbm, ⟨48, _⟩ => ⟨S2x4096x2688, .f32⟩
  | .hbm, ⟨49, _⟩ => ⟨S2x4096x256, .f32⟩
  | .hbm, ⟨50, _⟩ => ⟨S2x4096x4x64, .f32⟩
  | .hbm, ⟨51, _⟩ => ⟨S2x4096x4x64, .f32⟩
  | .hbm, ⟨52, _⟩ => ⟨S_, .f32⟩
  | .hbm, ⟨53, _⟩ => ⟨S2x4096x4, .f32⟩
  | .hbm, ⟨54, _⟩ => ⟨S2x4096x4x1, .f32⟩
  | .hbm, ⟨55, _⟩ => ⟨S_, .f32⟩
  | .hbm, ⟨56, _⟩ => ⟨S2x4096x4x1, .f32⟩
  | .hbm, ⟨57, _⟩ => ⟨S2x4096x4x1, .f32⟩
  | .hbm, ⟨58, _⟩ => ⟨S_, .f32⟩
  | .hbm, ⟨59, _⟩ => ⟨S2x4096x4x1, .f32⟩
  | .hbm, ⟨60, _⟩ => ⟨S2x4096x4x1, .f32⟩
  | .hbm, ⟨61, _⟩ => ⟨S2x4096x4x1, .f32⟩
  | .hbm, ⟨62, _⟩ => ⟨S2x4096x4x64, .f32⟩
  | .hbm, ⟨63, _⟩ => ⟨S2x4096x4x64, .f32⟩
  | .hbm, ⟨64, _⟩ => ⟨S1x1x1x64, .f32⟩
  | .hbm, ⟨65, _⟩ => ⟨S2x4096x4x64, .f32⟩
  | .hbm, ⟨66, _⟩ => ⟨S2x4096x4x64, .f32⟩
  | .hbm, ⟨67, _⟩ => ⟨S2x4096x4x64, .f32⟩
  | .hbm, ⟨68, _⟩ => ⟨S2x4096x4x64, .f32⟩
  | .hbm, ⟨69, _⟩ => ⟨S_, .f32⟩
  | .hbm, ⟨70, _⟩ => ⟨S2x4096x4x64, .f32⟩
  | .hbm, ⟨71, _⟩ => ⟨S2x4096x4x64, .f32⟩
  | .hbm, ⟨72, _⟩ => ⟨S_, .f32⟩
  | .hbm, ⟨73, _⟩ => ⟨S2x4096x4x64, .f32⟩
  | .hbm, ⟨74, _⟩ => ⟨S2x4096x4x64, .f32⟩
  | .hbm, ⟨75, _⟩ => ⟨S2x4096x4x64, .f32⟩
  | .hbm, ⟨76, _⟩ => ⟨S2x4096x4x64, .f32⟩
  | .hbm, ⟨77, _⟩ => ⟨S2x4096x256, .f32⟩
  | .hbm, ⟨78, _⟩ => ⟨S2x4096x256, .f32⟩
  | .hbm, ⟨79, _⟩ => ⟨S2x4096x256, .f32⟩
  | .hbm, ⟨80, _⟩ => ⟨S2x4096x256, .f32⟩
  | .hbm, ⟨81, _⟩ => ⟨S2x4096x1x256, .f32⟩
  | .hbm, ⟨82, _⟩ => ⟨S2x4096x1x256, .f32⟩
  | .hbm, ⟨83, _⟩ => ⟨S2x4096x1x256, .f32⟩
  | .hbm, ⟨84, _⟩ => ⟨S2x4096x1x256, .f32⟩
  | .hbm, ⟨85, _⟩ => ⟨S2x4096x4x256, .f32⟩
  | .hbm, ⟨86, _⟩ => ⟨S4x1024x2x4096, .f32⟩
  | .hbm, ⟨87, _⟩ => ⟨S2x4096x4x1024, .f32⟩
  | .hbm, ⟨88, _⟩ => ⟨S2x4096x4x1024, .f32⟩
  | .hbm, ⟨89, _⟩ => ⟨S2x4096x4x1024, .f32⟩
  | .hbm, ⟨90, _⟩ => ⟨S2x4096x4x1024, .f32⟩
  | .hbm, ⟨91, _⟩ => ⟨S_, .f32⟩
  | .hbm, ⟨92, _⟩ => ⟨S2x4096x4x1024, .f32⟩
  | .hbm, ⟨93, _⟩ => ⟨S2x4096x4x1024, .f32⟩
  | .hbm, ⟨94, _⟩ => ⟨S_, .f32⟩
  | .hbm, ⟨95, _⟩ => ⟨S2x4096x4x1024, .f32⟩
  | .hbm, ⟨96, _⟩ => ⟨S2x4096x4x1024, .f32⟩
  | .hbm, ⟨97, _⟩ => ⟨S2x4096x4x1024, .f32⟩
  | .hbm, ⟨98, _⟩ => ⟨S_, .f32⟩
  | .hbm, ⟨99, _⟩ => ⟨S2x4096x1024, .f32⟩
  | .hbm, ⟨100, _⟩ => ⟨S2x4096x1024, .f32⟩
  | .hbm, ⟨101, _⟩ => ⟨S2x4096x1024, .f32⟩
  | .hbm, ⟨102, _⟩ => ⟨S_, .f32⟩
  | .hbm, ⟨103, _⟩ => ⟨S2x4096, .f32⟩
  | .hbm, ⟨104, _⟩ => ⟨S2x4096x1, .f32⟩
  | .hbm, ⟨105, _⟩ => ⟨S_, .f32⟩
  | .hbm, ⟨106, _⟩ => ⟨S2x4096x1, .f32⟩
  | .hbm, ⟨107, _⟩ => ⟨S2x4096x1, .f32⟩
  | .hbm, ⟨108, _⟩ => ⟨S_, .f32⟩
  | .hbm, ⟨109, _⟩ => ⟨S2x4096x1, .f32⟩
  | .hbm, ⟨110, _⟩ => ⟨S2x4096x1, .f32⟩
  | .hbm, ⟨111, _⟩ => ⟨S2x4096x1, .f32⟩
  | .hbm, ⟨112, _⟩ => ⟨S2x4096x1024, .f32⟩
  | .hbm, ⟨113, _⟩ => ⟨S2x4096x1024, .f32⟩
  | .hbm, ⟨114, _⟩ => ⟨S1x1x1024, .f32⟩
  | .hbm, ⟨115, _⟩ => ⟨S2x4096x1024, .f32⟩
  | .hbm, ⟨116, _⟩ => ⟨S2x4096x1024, .f32⟩
  | .hbm, ⟨117, _⟩ => ⟨S2x4096x1024, .f32⟩
  | .hbm, ⟨118, _⟩ => ⟨S2x4096x1024, .f32⟩
  | .hbm, ⟨119, _⟩ => ⟨S2x4096x1024, .f32⟩
  | .hbm, ⟨120, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_6 : Ref sig .tc := ⟨.hbm, 91, rfl⟩
abbrev main_v62 : Ref sig .tc := ⟨.hbm, 92, rfl⟩
abbrev main_v63 : Ref sig .tc := ⟨.hbm, 93, rfl⟩
abbrev main_cst_7 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_9 : Ref sig .tc := ⟨.hbm, 102, rfl⟩
abbrev main_v70 : Ref sig .tc := ⟨.hbm, 103, rfl⟩
abbrev main_v71 : Ref sig .tc := ⟨.hbm, 104, rfl⟩
abbrev main_cst_10 : Ref sig .tc := ⟨.hbm, 105, rfl⟩
abbrev main_v72 : Ref sig .tc := ⟨.hbm, 106, rfl⟩
abbrev main_v73 : Ref sig .tc := ⟨.hbm, 107, rfl⟩
abbrev main_cst_11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩

abbrev nD : Nat := 1
abbrev τ : Topo := Topo.v7x

variable {F : FTy → Type} [FloatOps F]
-- ==== Kernel4.lean ====
abbrev S8192x1024 : Shape := ⟨2, ![8192, 1024]⟩
abbrev S1x1x6144 : Shape := ⟨3, ![1, 1, 6144]⟩
abbrev S1024 : Shape := ⟨1, ![1024]⟩
abbrev S1024x6256 : Shape := ⟨2, ![1024, 6256]⟩
abbrev S192 : Shape := ⟨1, ![192]⟩
abbrev S192x384 : Shape := ⟨2, ![192, 384]⟩
abbrev S128 : Shape := ⟨1, ![128]⟩
abbrev S128x512 : Shape := ⟨2, ![128, 512]⟩
abbrev S1024x256 : Shape := ⟨2, ![1024, 256]⟩
abbrev S1024x128 : Shape := ⟨2, ![1024, 128]⟩
abbrev S1024x192 : Shape := ⟨2, ![1024, 192]⟩
abbrev S1024x32 : Shape := ⟨2, ![1024, 32]⟩
abbrev S1024x768 : Shape := ⟨2, ![1024, 768]⟩
abbrev S1024x8 : Shape := ⟨2, ![1024, 8]⟩
abbrev S1024x4096 : Shape := ⟨2, ![1024, 4096]⟩
abbrev S1024x64 : Shape := ⟨2, ![1024, 64]⟩
abbrev S_ : Shape := ⟨0, ![]⟩
abbrev S1024x112 : Shape := ⟨2, ![1024, 112]⟩
abbrev S1024x1280 : Shape := ⟨2, ![1024, 1280]⟩
abbrev S1024x1408 : Shape := ⟨2, ![1024, 1408]⟩
abbrev S1024x2688 : Shape := ⟨2, ![1024, 2688]⟩
abbrev S192x4x96 : Shape := ⟨3, ![192, 4, 96]⟩
abbrev S192x4x64 : Shape := ⟨3, ![192, 4, 64]⟩
abbrev S192x256 : Shape := ⟨2, ![192, 256]⟩
abbrev S192x4x32 : Shape := ⟨3, ![192, 4, 32]⟩
abbrev S192x128 : Shape := ⟨2, ![192, 128]⟩
abbrev S256x384 : Shape := ⟨2, ![256, 384]⟩
abbrev S128x4x128 : Shape := ⟨3, ![128, 4, 128]⟩
abbrev S128x4x64 : Shape := ⟨3, ![128, 4, 64]⟩
abbrev S128x256 : Shape := ⟨2, ![128, 256]⟩
abbrev S256 : Shape := ⟨1, ![256]⟩
abbrev S1x256 : Shape := ⟨2, ![1, 256]⟩
abbrev S1x1024 : Shape := ⟨2, ![1, 1024]⟩
abbrev S1x128 : Shape := ⟨2, ![1, 128]⟩
abbrev S8192x2688 : Shape := ⟨2, ![8192, 2688]⟩
abbrev S8192x384 : Shape := ⟨2, ![8192, 384]⟩
abbrev S8192x128 : Shape := ⟨2, ![8192, 128]⟩
abbrev S8192x512 : Shape := ⟨2, ![8192, 512]⟩
abbrev S256x1024 : Shape := ⟨2, ![256, 1024]⟩
abbrev S256x2688 : Shape := ⟨2, ![256, 2688]⟩
abbrev S256x128 : Shape := ⟨2, ![256, 128]⟩
abbrev S256x512 : Shape := ⟨2, ![256, 512]⟩
abbrev S1x6144 : Shape := ⟨2, ![1, 6144]⟩
abbrev S256x1 : Shape := ⟨2, ![256, 1]⟩
abbrev S256x256 : Shape := ⟨2, ![256, 256]⟩
abbrev S32x256x2688 : Shape := ⟨3, ![32, 256, 2688]⟩
abbrev S32x256x64 : Shape := ⟨3, ![32, 256, 64]⟩
abbrev S32x256x1x64 : Shape := ⟨4, ![32, 256, 1, 64]⟩
abbrev S32x256x2x64 : Shape := ⟨4, ![32, 256, 2, 64]⟩
abbrev S32x256x128 : Shape := ⟨3, ![32, 256, 128]⟩
abbrev S32x256x32 : Shape := ⟨3, ![32, 256, 32]⟩

abbrev nBuf : Space → Nat
  | .hbm => 73
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S1024x6256, .f32⟩
  | .hbm, ⟨4, _⟩ => ⟨S192, .f32⟩
  | .hbm, ⟨5, _⟩ => ⟨S192x384, .f32⟩
  | .hbm, ⟨6, _⟩ => ⟨S128, .f32⟩
  | .hbm, ⟨7, _⟩ => ⟨S128x512, .f32⟩
  | .hbm, ⟨8, _⟩ => ⟨S1024x256, .f32⟩
  | .hbm, ⟨9, _⟩ => ⟨S1024x128, .f32⟩
  | .hbm, ⟨10, _⟩ => ⟨S1024x128, .f32⟩
  | .hbm, ⟨11, _⟩ => ⟨S1024x192, .f32⟩
  | .hbm, ⟨12, _⟩ => ⟨S1024x128, .f32⟩
  | .hbm, ⟨13, _⟩ => ⟨S1024x32, .f32⟩
  | .hbm, ⟨14, _⟩ => ⟨S1024x256, .f32⟩
  | .hbm, ⟨15, _⟩ => ⟨S1024x768, .f32⟩
  | .hbm, ⟨16, _⟩ => ⟨S1024x256, .f32⟩
  | .hbm, ⟨17, _⟩ => ⟨S1024x8, .f32⟩
  | .hbm, ⟨18, _⟩ => ⟨S1024x8, .f32⟩
  | .hbm, ⟨19, _⟩ => ⟨S1024x4096, .f32⟩
  | .hbm, ⟨20, _⟩ => ⟨S1024x64, .f32⟩
  | .hbm, ⟨21, _⟩ => ⟨S1024x64, .f32⟩
  | .hbm, ⟨22, _⟩ => ⟨S1024x64, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S_, .f32⟩
  | .hbm, ⟨27, _⟩ => ⟨S1024x112, .f32⟩
  | .hbm, ⟨28, _⟩ => ⟨S1024x1280, .f32⟩
  | .hbm, ⟨29, _⟩ => ⟨S1024x1408, .f32⟩
  | .hbm, ⟨30, _⟩ => ⟨S1024x2688, .f32⟩
  | .hbm, ⟨31, _⟩ => ⟨S1024x2688, .bf16⟩
  | .hbm, ⟨32, _⟩ => ⟨S1024x4096, .bf16⟩
  | .hbm, ⟨33, _⟩ => ⟨S192x4x96, .f32⟩
  | .hbm, ⟨34, _⟩ => ⟨S192x4x64, .f32⟩
  | .hbm, ⟨35, _⟩ => ⟨S192x256, .f32⟩
  | .hbm, ⟨36, _⟩ => ⟨S192x4x32, .f32⟩
  | .hbm, ⟨37, _⟩ => ⟨S192x128, .f32⟩
  | .hbm, ⟨38, _⟩ => ⟨S192x384, .f32⟩
  | .hbm, ⟨39, _⟩ => ⟨S_, .i32⟩
  | .hbm, ⟨40, _⟩ => ⟨S_, .f32⟩
  | .hbm, ⟨41, _⟩ => ⟨S256x384, .f32⟩
  | .hbm, ⟨42, _⟩ => ⟨S256x384, .bf16⟩
  | .hbm, ⟨43, _⟩ => ⟨S128x4x128, .f32⟩
  | .hbm, ⟨44, _⟩ => ⟨S128x4x64, .f32⟩
  | .hbm, ⟨45, _⟩ => ⟨S128x256, .f32⟩
  | .hbm, ⟨46, _⟩ => ⟨S128x4x64, .f32⟩
  | .hbm, ⟨47, _⟩ => ⟨S128x256, .f32⟩
  | .hbm, ⟨48, _⟩ => ⟨S128x512, .f32⟩
  | .hbm, ⟨49, _⟩ => ⟨S128x512, .bf16⟩
  | .hbm, ⟨50, _⟩ => ⟨S_, .i32⟩
  | .hbm, ⟨51, _⟩ => ⟨S_, .f32⟩
  | .hbm, ⟨52, _⟩ => ⟨S256, .f32⟩
  | .hbm, ⟨53, _⟩ => ⟨S1x256, .f32⟩
  | .hbm, ⟨54, _⟩ => ⟨S1x1024, .f32⟩
  | .hbm, ⟨55, _⟩ => ⟨S1x128, .f32⟩
  | .hbm, ⟨56, _⟩ => ⟨S8192x2688, .f32⟩
  | .hbm, ⟨57, _⟩ => ⟨S8192x384, .f32⟩
  | .hbm, ⟨58, _⟩ => ⟨S8192x128, .f32⟩
  | .hbm, ⟨59, _⟩ => ⟨S8192x512, .f32⟩
  | .hbm, ⟨60, _⟩ => ⟨S32x256x2688, .f32⟩
  | .hbm, ⟨61, _⟩ => ⟨S32x256x64, .f32⟩
  | .hbm, ⟨62, _⟩ => ⟨S32x256x64, .f32⟩
  | .hbm, ⟨63, _⟩ => ⟨S32x256x1x64, .f32⟩
  | .hbm, ⟨64, _⟩ => ⟨S32x256x1x64, .f32⟩
  | .hbm, ⟨65, _⟩ => ⟨S32x256x2x64, .f32⟩
  | .hbm, ⟨66, _⟩ => ⟨S32x256x64, .f32⟩
  | .hbm, ⟨67, _⟩ => ⟨S32x256x64, .f32⟩
  | .hbm, ⟨68, _⟩ => ⟨S32x256x1x64, .f32⟩
  | .hbm, ⟨69, _⟩ => ⟨S32x256x1x64, .f32⟩
  | .hbm, ⟨70, _⟩ => ⟨S32x256x2x64, .f32⟩
  | .hbm, ⟨71, _⟩ => ⟨S32x256x128, .f32⟩
  | .hbm, ⟨72, _⟩ => ⟨S32x256x32, .f32⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1024, .f32⟩
  | .local _ .vmem, ⟨4, _⟩ => ⟨S1024x2688, .bf16⟩
  | .local _ .vmem, ⟨5, _⟩ => ⟨S1x256, .f32⟩
  | .local _ .vmem, ⟨6, _⟩ => ⟨S256x384, .bf16⟩
  | .local _ .vmem, ⟨7, _⟩ => ⟨S1x128, .f32⟩
  | .local _ .vmem, ⟨8, _⟩ => ⟨S128x512, .bf16⟩
  | .local _ .vmem, ⟨9, _⟩ => ⟨S256x2688, .f32⟩
  | .local _ .vmem, ⟨10, _⟩ => ⟨S256x2688, .f32⟩
  | .local _ .vmem, ⟨11, _⟩ => ⟨S256x384, .f32⟩
  | .local _ .vmem, ⟨12, _⟩ => ⟨S256x384, .f32⟩
  | .local _ .vmem, ⟨13, _⟩ => ⟨S256x128, .f32⟩
  | .local _ .vmem, ⟨14, _⟩ => ⟨S256x128, .f32⟩
  | .local _ .vmem, ⟨15, _⟩ => ⟨S256x512, .f32⟩
  | .local _ .vmem, ⟨16, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_1 : Ref sig .tc := ⟨.hbm, 50, rfl⟩
abbrev main_call1_v0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42_0 : Ref sig .tc := ⟨.hbm, 56, rfl⟩
abbrev main_v42_1 : Ref sig .tc := ⟨.hbm, 57, rfl⟩
abbrev main_v42_2 : Ref sig .tc := ⟨.hbm, 58, rfl⟩
abbrev main_v42_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2688 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel4Ideal.lean ====
variable {F : FTy → Type} [FloatOps F] [Named F]
def κ : String → Option EReal := fun
  | "inv_rank" => some ((1 / 192 : ℝ) : EReal)
  | _ => none
-- ==== Reference4Ideal.lean ====
abbrev S8192x1024 : Shape := ⟨2, ![8192, 1024]⟩
abbrev S1x1x6144 : Shape := ⟨3, ![1, 1, 6144]⟩
abbrev S1024 : Shape := ⟨1, ![1024]⟩
abbrev S1024x6256 : Shape := ⟨2, ![1024, 6256]⟩
abbrev S192 : Shape := ⟨1, ![192]⟩
abbrev S192x384 : Shape := ⟨2, ![192, 384]⟩
abbrev S128 : Shape := ⟨1, ![128]⟩
abbrev S128x512 : Shape := ⟨2, ![128, 512]⟩
abbrev S1x1x1024 : Shape := ⟨3, ![1, 1, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S32x256x6256 : Shape := ⟨3, ![32, 256, 6256]⟩
abbrev S32x256x256 : Shape := ⟨3, ![32, 256, 256]⟩
abbrev S32x256x128 : Shape := ⟨3, ![32, 256, 128]⟩
abbrev S32x256x192 : Shape := ⟨3, ![32, 256, 192]⟩
abbrev S32x256x32 : Shape := ⟨3, ![32, 256, 32]⟩
abbrev S32x256x768 : Shape := ⟨3, ![32, 256, 768]⟩
abbrev S32x256x8 : Shape := ⟨3, ![32, 256, 8]⟩
abbrev S32x256x4096 : Shape := ⟨3, ![32, 256, 4096]⟩
abbrev S32x256x2x64 : Shape := ⟨4, ![32, 256, 2, 64]⟩
abbrev S1x1x192 : Shape := ⟨3, ![1, 1, 192]⟩
abbrev S32x256x384 : Shape := ⟨3, ![32, 256, 384]⟩
abbrev S32x256x4x96 : Shape := ⟨4, ![32, 256, 4, 96]⟩
abbrev S1x1x128 : Shape := ⟨3, ![1, 1, 128]⟩
abbrev S32x256x512 : Shape := ⟨3, ![32, 256, 512]⟩
abbrev S32x256x4x128 : Shape := ⟨4, ![32, 256, 4, 128]⟩
abbrev S32x256x2x2x64 : Shape := ⟨5, ![32, 256, 2, 2, 64]⟩
abbrev S32x256x4x64 : Shape := ⟨4, ![32, 256, 4, 64]⟩
abbrev S32x256x64 : Shape := ⟨3, ![32, 256, 64]⟩
abbrev S1x32x1x256x1x32 : Shape := ⟨6, ![1, 32, 1, 256, 1, 32]⟩
abbrev S1x32x1x256x4x32 : Shape := ⟨6, ![1, 32, 1, 256, 4, 32]⟩
abbrev S32x256x112 : Shape := ⟨3, ![32, 256, 112]⟩
abbrev S32x256x2688 : Shape := ⟨3, ![32, 256, 2688]⟩
abbrev S32x256x4x32 : Shape := ⟨4, ![32, 256, 4, 32]⟩
abbrev S8192x2688 : Shape := ⟨2, ![8192, 2688]⟩
abbrev S8192x384 : Shape := ⟨2, ![8192, 384]⟩
abbrev S8192x512 : Shape := ⟨2, ![8192, 512]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S1024x6256, .f32⟩
  | .hbm, ⟨4, _⟩ => ⟨S192, .f32⟩
  | .hbm, ⟨5, _⟩ => ⟨S192x384, .f32⟩
  | .hbm, ⟨6, _⟩ => ⟨S128, .f32⟩
  | .hbm, ⟨7, _⟩ => ⟨S128x512, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S32x256x1024, .f32⟩
  | .hbm, ⟨15, _⟩ => ⟨S32x256x1024, .f32⟩
  | .hbm, ⟨16, _⟩ => ⟨S_, .f32⟩
  | .hbm, ⟨17, _⟩ => ⟨S32x256, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S32x256x1, .f32⟩
  | .hbm, ⟨26, _⟩ => ⟨S32x256x1024, .f32⟩
  | .hbm, ⟨27, _⟩ => ⟨S32x256x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S32x256x6256, .f32⟩
  | .hbm, ⟨39, _⟩ => ⟨S32x256x256, .f32⟩
  | .hbm, ⟨40, _⟩ => ⟨S32x256x128, .f32⟩
  | .hbm, ⟨41, _⟩ => ⟨S32x256x128, .f32⟩
  | .hbm, ⟨42, _⟩ => ⟨S32x256x192, .f32⟩
  | .hbm, ⟨43, _⟩ => ⟨S32x256x128, .f32⟩
  | .hbm, ⟨44, _⟩ => ⟨S32x256x32, .f32⟩
  | .hbm, ⟨45, _⟩ => ⟨S32x256x256, .f32⟩
  | .hbm, ⟨46, _⟩ => ⟨S32x256x768, .f32⟩
  | .hbm, ⟨47, _⟩ => ⟨S32x256x256, .f32⟩
  | .hbm, ⟨48, _⟩ => ⟨S32x256x8, .f32⟩
  | .hbm, ⟨49, _⟩ => ⟨S32x256x8, .f32⟩
  | .hbm, ⟨50, _⟩ => ⟨S32x256x4096, .f32⟩
  | .hbm, ⟨51, _⟩ => ⟨S32x256x2x64, .f32⟩
  | .hbm, ⟨52, _⟩ => ⟨S32x256x2x64, .f32⟩
  | .hbm, ⟨53, _⟩ => ⟨S32x256x192, .f32⟩
  | .hbm, ⟨54, _⟩ => ⟨S_, .f32⟩
  | .hbm, ⟨55, _⟩ => ⟨S32x256, .f32⟩
  | .hbm, ⟨56, _⟩ => ⟨S32x256x1, .f32⟩
  | .hbm, ⟨57, _⟩ => ⟨S_, .f32⟩
  | .hbm, ⟨58, _⟩ => ⟨S32x256x1, .f32⟩
  | .hbm, ⟨59, _⟩ => ⟨S32x256x1, .f32⟩
  | .hbm, ⟨60, _⟩ => ⟨S_, .f32⟩
  | .hbm, ⟨61, _⟩ => ⟨S32x256x1, .f32⟩
  | .hbm, ⟨62, _⟩ => ⟨S32x256x1, .f32⟩
  | .hbm, ⟨63, _⟩ => ⟨S32x256x1, .f32⟩
  | .hbm, ⟨64, _⟩ => ⟨S32x256x192, .f32⟩
  | .hbm, ⟨65, _⟩ => ⟨S32x256x192, .f32⟩
  | .hbm, ⟨66, _⟩ => ⟨S1x1x192, .f32⟩
  | .hbm, ⟨67, _⟩ => ⟨S32x256x192, .f32⟩
  | .hbm, ⟨68, _⟩ => ⟨S32x256x192, .f32⟩
  | .hbm, ⟨69, _⟩ => ⟨S32x256x384, .f32⟩
  | .hbm, ⟨70, _⟩ => ⟨S32x256x4x96, .f32⟩
  | .hbm, ⟨71, _⟩ => ⟨S32x256x128, .f32⟩
  | .hbm, ⟨72, _⟩ => ⟨S_, .f32⟩
  | .hbm, ⟨73, _⟩ => ⟨S32x256, .f32⟩
  | .hbm, ⟨74, _⟩ => ⟨S32x256x1, .f32⟩
  | .hbm, ⟨75, _⟩ => ⟨S_, .f32⟩
  | .hbm, ⟨76, _⟩ => ⟨S32x256x1, .f32⟩
  | .hbm, ⟨77, _⟩ => ⟨S32x256x1, .f32⟩
  | .hbm, ⟨78, _⟩ => ⟨S_, .f32⟩
  | .hbm, ⟨79, _⟩ => ⟨S32x256x1, .f32⟩
  | .hbm, ⟨80, _⟩ => ⟨S32x256x1, .f32⟩
  | .hbm, ⟨81, _⟩ => ⟨S32x256x1, .f32⟩
  | .hbm, ⟨82, _⟩ => ⟨S32x256x128, .f32⟩
  | .hbm, ⟨83, _⟩ => ⟨S32x256x128, .f32⟩
  | .hbm, ⟨84, _⟩ => ⟨S1x1x128, .f32⟩
  | .hbm, ⟨85, _⟩ => ⟨S32x256x128, .f32⟩
  | .hbm, ⟨86, _⟩ => ⟨S32x256x128, .f32⟩
  | .hbm, ⟨87, _⟩ => ⟨S32x256x512, .f32⟩
  | .hbm, ⟨88, _⟩ => ⟨S32x256x4x128, .f32⟩
  | .hbm, ⟨89, _⟩ => ⟨S32x256x2x2x64, .f32⟩
  | .hbm, ⟨90, _⟩ => ⟨S32x256x4x64, .f32⟩
  | .hbm, ⟨91, _⟩ => ⟨S32x256x2x2x64, .f32⟩
  | .hbm, ⟨92, _⟩ => ⟨S32x256x4x64, .f32⟩
  | .hbm, ⟨93, _⟩ => ⟨S32x256x256, .f32⟩
  | .hbm, ⟨94, _⟩ => ⟨S32x256x256, .f32⟩
  | .hbm, ⟨95, _⟩ => ⟨S_, .f32⟩
  | .hbm, ⟨96, _⟩ => ⟨S32x256x64, .f32⟩
  | .hbm, ⟨97, _⟩ => ⟨S1x32x1x256x1x32, .f32⟩
  | .hbm, ⟨98, _⟩ => ⟨S1x32x1x256x4x32, .f32⟩
  | .hbm, ⟨99, _⟩ => ⟨S32x256x128, .f32⟩
  | .hbm, ⟨100, _⟩ => ⟨S_, .f32⟩
  | .hbm, ⟨101, _⟩ => ⟨S32x256x112, .f32⟩
  | .hbm, ⟨102, _⟩ => ⟨S32x256x2688, .f32⟩
  | .hbm, ⟨103, _⟩ => ⟨S32x256x4x64, .f32⟩
  | .hbm, ⟨104, _⟩ => ⟨S32x256x256, .f32⟩
  | .hbm, ⟨105, _⟩ => ⟨S32x256x4x32, .f32⟩
  | .hbm, ⟨106, _⟩ => ⟨S32x256x128, .f32⟩
  | .hbm, ⟨107, _⟩ => ⟨S32x256x384, .f32⟩
  | .hbm, ⟨108, _⟩ => ⟨S32x256x4x64, .f32⟩
  | .hbm, ⟨109, _⟩ => ⟨S32x256x256, .f32⟩
  | .hbm, ⟨110, _⟩ => ⟨S32x256x4x64, .f32⟩
  | .hbm, ⟨111, _⟩ => ⟨S32x256x256, .f32⟩
  | .hbm, ⟨112, _⟩ => ⟨S32x256x512, .f32⟩
  | .hbm, ⟨113, _⟩ => ⟨S8192x2688, .f32⟩
  | .hbm, ⟨114, _⟩ => ⟨S8192x384, .f32⟩
  | .hbm, ⟨115, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_9 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_10 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩

abbrev nD : Nat := 1
abbrev τ : Topo := Topo.v7x

variable {F : FTy → Type} [FloatOps F]
-- ==== Kernel5.lean ====
abbrev S4 : Shape := ⟨1, ![4]⟩
abbrev S8192x2688 : Shape := ⟨2, ![8192, 2688]⟩
abbrev S8192x384 : Shape := ⟨2, ![8192, 384]⟩
abbrev S8192x512 : Shape := ⟨2, ![8192, 512]⟩
abbrev S8192x256 : Shape := ⟨2, ![8192, 256]⟩
abbrev S256x256 : Shape := ⟨2, ![256, 256]⟩
abbrev S256x384 : Shape := ⟨2, ![256, 384]⟩
abbrev S256x512 : Shape := ⟨2, ![256, 512]⟩
abbrev S256x128 : Shape := ⟨2, ![256, 128]⟩
abbrev S1x256 : Shape := ⟨2, ![1, 256]⟩
abbrev S1 : Shape := ⟨1, ![1]⟩
abbrev S256 : Shape := ⟨1, ![256]⟩
abbrev S256x1 : Shape := ⟨2, ![256, 1]⟩
abbrev S1x128 : Shape := ⟨2, ![1, 128]⟩

abbrev nBuf : Space → Nat
  | .hbm => 6
  | .vmem => 16
  | .smem => 1
  | _ => 0

abbrev bufTy : (tb : Table) → Fin (tcTables nBuf tb) → BufTy
  | .hbm, ⟨0, _⟩ => ⟨S4, .f32⟩
  | .hbm, ⟨1, _⟩ => ⟨S8192x2688, .f32⟩
  | .hbm, ⟨2, _⟩ => ⟨S8192x384, .f32⟩
  | .hbm, ⟨3, _⟩ => ⟨S8192x512, .f32⟩
  | .hbm, ⟨4, _⟩ => ⟨S8192x256, .f32⟩
  | .hbm, ⟨5, _⟩ => ⟨S8192x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x384, .f32⟩
  | .local _ .vmem, ⟨7, _⟩ => ⟨S256x384, .f32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S4 : Shape := ⟨1, ![4]⟩
abbrev S8192x2688 : Shape := ⟨2, ![8192, 2688]⟩
abbrev S8192x384 : Shape := ⟨2, ![8192, 384]⟩
abbrev S8192x512 : Shape := ⟨2, ![8192, 512]⟩
abbrev S8192x256 : Shape := ⟨2, ![8192, 256]⟩
abbrev S32x256x4x64 : Shape := ⟨4, ![32, 256, 4, 64]⟩
abbrev S32x4x256x256 : Shape := ⟨4, ![32, 4, 256, 256]⟩
abbrev S_ : Shape := ⟨0, ![]⟩
abbrev S1x4x1x1 : Shape := ⟨4, ![1, 4, 1, 1]⟩
abbrev S32x4x256x1 : Shape := ⟨4, ![32, 4, 256, 1]⟩
abbrev S32x4x256x257 : Shape := ⟨4, ![32, 4, 256, 257]⟩
abbrev S32x4x256 : Shape := ⟨3, ![32, 4, 256]⟩
abbrev S32x4x64x256 : Shape := ⟨4, ![32, 4, 64, 256]⟩
abbrev S8192x128 : Shape := ⟨2, ![8192, 128]⟩
abbrev S32x256x4x32 : Shape := ⟨4, ![32, 256, 4, 32]⟩
abbrev S32x256x4x96 : Shape := ⟨4, ![32, 256, 4, 96]⟩

abbrev nBuf : Space → Nat
  | .hbm => 68
  | .vmem => 0
  | .smem => 0
  | _ => 0

abbrev bufTy : (tb : Table) → Fin (tcTables nBuf tb) → BufTy
  | .hbm, ⟨0, _⟩ => ⟨S4, .f32⟩
  | .hbm, ⟨1, _⟩ => ⟨S8192x2688, .f32⟩
  | .hbm, ⟨2, _⟩ => ⟨S8192x384, .f32⟩
  | .hbm, ⟨3, _⟩ => ⟨S8192x512, .f32⟩
  | .hbm, ⟨4, _⟩ => ⟨S8192x256, .f32⟩
  | .hbm, ⟨5, _⟩ => ⟨S32x256x4x64, .f32⟩
  | .hbm, ⟨6, _⟩ => ⟨S8192x256, .f32⟩
  | .hbm, ⟨7, _⟩ => ⟨S32x256x4x64, .f32⟩
  | .hbm, ⟨8, _⟩ => ⟨S8192x256, .f32⟩
  | .hbm, ⟨9, _⟩ => ⟨S32x256x4x64, .f32⟩
  | .hbm, ⟨10, _⟩ => ⟨S32x4x256x256, .f32⟩
  | .hbm, ⟨11, _⟩ => ⟨S_, .f32⟩
  | .hbm, ⟨12, _⟩ => ⟨S32x4x256x256, .f32⟩
  | .hbm, ⟨13, _⟩ => ⟨S32x4x256x256, .f32⟩
  | .hbm, ⟨14, _⟩ => ⟨S1x4x1x1, .f32⟩
  | .hbm, ⟨15, _⟩ => ⟨S32x4x256x1, .f32⟩
  | .hbm, ⟨16, _⟩ => ⟨S32x4x256x257, .f32⟩
  | .hbm, ⟨17, _⟩ => ⟨S_, .f32⟩
  | .hbm, ⟨18, _⟩ => ⟨S32x4x256, .f32⟩
  | .hbm, ⟨19, _⟩ => ⟨S_, .f32⟩
  | .hbm, ⟨20, _⟩ => ⟨S32x4x256, .f32⟩
  | .hbm, ⟨21, _⟩ => ⟨S32x4x256, .f32⟩
  | .hbm, ⟨22, _⟩ => ⟨S32x4x256x1, .f32⟩
  | .hbm, ⟨23, _⟩ => ⟨S32x4x256x257, .f32⟩
  | .hbm, ⟨24, _⟩ => ⟨S32x4x256x257, .f32⟩
  | .hbm, ⟨25, _⟩ => ⟨S32x4x256x257, .f32⟩
  | .hbm, ⟨26, _⟩ => ⟨S_, .f32⟩
  | .hbm, ⟨27, _⟩ => ⟨S32x4x256, .f32⟩
  | .hbm, ⟨28, _⟩ => ⟨S32x4x256x1, .f32⟩
  | .hbm, ⟨29, _⟩ => ⟨S32x4x256x257, .f32⟩
  | .hbm, ⟨30, _⟩ => ⟨S32x4x256x257, .f32⟩
  | .hbm, ⟨31, _⟩ => ⟨S32x4x256x256, .f32⟩
  | .hbm, ⟨32, _⟩ => ⟨S32x4x64x256, .f32⟩
  | .hbm, ⟨33, _⟩ => ⟨S32x256x4x64, .f32⟩
  | .hbm, ⟨34, _⟩ => ⟨S8192x256, .f32⟩
  | .hbm, ⟨35, _⟩ => ⟨S32x256x4x64, .f32⟩
  | .hbm, ⟨36, _⟩ => ⟨S8192x128, .f32⟩
  | .hbm, ⟨37, _⟩ => ⟨S32x256x4x32, .f32⟩
  | .hbm, ⟨38, _⟩ => ⟨S32x256x4x96, .f32⟩
  | .hbm, ⟨39, _⟩ => ⟨S8192x256, .f32⟩
  | .hbm, ⟨40, _⟩ => ⟨S32x256x4x64, .f32⟩
  | .hbm, ⟨41, _⟩ => ⟨S8192x128, .f32⟩
  | .hbm, ⟨42, _⟩ => ⟨S32x256x4x32, .f32⟩
  | .hbm, ⟨43, _⟩ => ⟨S32x256x4x96, .f32⟩
  | .hbm, ⟨44, _⟩ => ⟨S32x4x256x256, .f32⟩
  | .hbm, ⟨45, _⟩ => ⟨S_, .f32⟩
  | .hbm, ⟨46, _⟩ => ⟨S32x4x256x256, .f32⟩
  | .hbm, ⟨47, _⟩ => ⟨S32x4x256x256, .f32⟩
  | .hbm, ⟨48, _⟩ => ⟨S_, .f32⟩
  | .hbm, ⟨49, _⟩ => ⟨S32x4x256, .f32⟩
  | .hbm, ⟨50, _⟩ => ⟨S_, .f32⟩
  | .hbm, ⟨51, _⟩ => ⟨S32x4x256, .f32⟩
  | .hbm, ⟨52, _⟩ => ⟨S32x4x256, .f32⟩
  | .hbm, ⟨53, _⟩ => ⟨S32x4x256x1, .f32⟩
  | .hbm, ⟨54, _⟩ => ⟨S32x4x256x256, .f32⟩
  | .hbm, ⟨55, _⟩ => ⟨S32x4x256x256, .f32⟩
  | .hbm, ⟨56, _⟩ => ⟨S32x4x256x256, .f32⟩
  | .hbm, ⟨57, _⟩ => ⟨S_, .f32⟩
  | .hbm, ⟨58, _⟩ => ⟨S32x4x256, .f32⟩
  | .hbm, ⟨59, _⟩ => ⟨S32x4x256x1, .f32⟩
  | .hbm, ⟨60, _⟩ => ⟨S32x4x256x256, .f32⟩
  | .hbm, ⟨61, _⟩ => ⟨S32x4x256x256, .f32⟩
  | .hbm, ⟨62, _⟩ => ⟨S8192x256, .f32⟩
  | .hbm, ⟨63, _⟩ => ⟨S32x256x4x64, .f32⟩
  | .hbm, ⟨64, _⟩ => ⟨S32x4x64x256, .f32⟩
  | .hbm, ⟨65, _⟩ => ⟨S32x256x4x64, .f32⟩
  | .hbm, ⟨66, _⟩ => ⟨S8192x256, .f32⟩
  | .hbm, ⟨67, _⟩ => ⟨S8192x256, .f32⟩
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== Kernel6.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel7.lean ====
abbrev S8192x1024 : Shape := ⟨2, ![8192, 1024]⟩
abbrev S1x1x6144 : Shape := ⟨3, ![1, 1, 6144]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 11
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x1024 : Shape := ⟨2, ![8192, 1024]⟩
abbrev S1x1x6144 : Shape := ⟨3, ![1, 1, 6144]⟩
abbrev S1024 : Shape := ⟨1, ![1024]⟩
abbrev S1024x5632 : Shape := ⟨2, ![1024, 5632]⟩
abbrev S2816x1024 : Shape := ⟨2, ![2816, 1024]⟩
abbrev S32x256x1024 : Shape := ⟨3, ![32, 256, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x5632 : Shape := ⟨3, ![32, 256, 5632]⟩
abbrev S32x256x2816 : Shape := ⟨3, ![32, 256, 2816]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S32x256x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S32x256x1024, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x1024, .f32⟩
  | .hbm, ⟨25, _⟩ => ⟨S32x256x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S32x256x5632, .f32⟩
  | .hbm, ⟨37, _⟩ => ⟨S32x256x2816, .f32⟩
  | .hbm, ⟨38, _⟩ => ⟨S32x256x2816, .f32⟩
  | .hbm, ⟨39, _⟩ => ⟨S32x256x2816, .f32⟩
  | .hbm, ⟨40, _⟩ => ⟨S32x256x2816, .f32⟩
  | .hbm, ⟨41, _⟩ => ⟨S_, .f32⟩
  | .hbm, ⟨42, _⟩ => ⟨S32x256x2816, .f32⟩
  | .hbm, ⟨43, _⟩ => ⟨S32x256x2816, .f32⟩
  | .hbm, ⟨44, _⟩ => ⟨S_, .f32⟩
  | .hbm, ⟨45, _⟩ => ⟨S32x256x2816, .f32⟩
  | .hbm, ⟨46, _⟩ => ⟨S32x256x2816, .f32⟩
  | .hbm, ⟨47, _⟩ => ⟨S32x256x2816, .f32⟩
  | .hbm, ⟨48, _⟩ => ⟨S32x256x2816, .f32⟩
  | .hbm, ⟨49, _⟩ => ⟨S32x256x1024, .f32⟩
  | .hbm, ⟨50, _⟩ => ⟨S32x256x1024, .f32⟩
  | .hbm, ⟨51, _⟩ => ⟨S_, .f32⟩
  | .hbm, ⟨52, _⟩ => ⟨S32x256, .f32⟩
  | .hbm, ⟨53, _⟩ => ⟨S32x256x1, .f32⟩
  | .hbm, ⟨54, _⟩ => ⟨S_, .f32⟩
  | .hbm, ⟨55, _⟩ => ⟨S32x256x1, .f32⟩
  | .hbm, ⟨56, _⟩ => ⟨S32x256x1, .f32⟩
  | .hbm, ⟨57, _⟩ => ⟨S_, .f32⟩
  | .hbm, ⟨58, _⟩ => ⟨S32x256x1, .f32⟩
  | .hbm, ⟨59, _⟩ => ⟨S32x256x1, .f32⟩
  | .hbm, ⟨60, _⟩ => ⟨S32x256x1, .f32⟩
  | .hbm, ⟨61, _⟩ => ⟨S32x256x1024, .f32⟩
  | .hbm, ⟨62, _⟩ => ⟨S32x256x1024, .f32⟩
  | .hbm, ⟨63, _⟩ => ⟨S1x1x1024, .f32⟩
  | .hbm, ⟨64, _⟩ => ⟨S32x256x1024, .f32⟩
  | .hbm, ⟨65, _⟩ => ⟨S32x256x1024, .f32⟩
  | .hbm, ⟨66, _⟩ => ⟨S32x256x1024, .f32⟩
  | .hbm, ⟨67, _⟩ => ⟨S32x256x1024, .f32⟩
  | .hbm, ⟨68, _⟩ => ⟨S32x256x1024, .f32⟩
  | .hbm, ⟨69, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Kernel8.lean ====
abbrev S8192x1024 : Shape := ⟨2, ![8192, 1024]⟩
abbrev S1x1x6144 : Shape := ⟨3, ![1, 1, 6144]⟩
abbrev S1024 : Shape := ⟨1, ![1024]⟩
abbrev S8192x256 : Shape := ⟨2, ![8192, 256]⟩
abbrev S8192x2688 : Shape := ⟨2, ![8192, 2688]⟩
abbrev S64 : Shape := ⟨1, ![64]⟩
abbrev S1024x6256 : Shape := ⟨2, ![1024, 6256]⟩
abbrev S4x256x1024 : Shape := ⟨3, ![4, 256, 1024]⟩
abbrev S1024x1024 : Shape := ⟨2, ![1024, 1024]⟩
abbrev S1024x256 : Shape := ⟨2, ![1024, 256]⟩
abbrev S1024x128 : Shape := ⟨2, ![1024, 128]⟩
abbrev S1024x192 : Shape := ⟨2, ![1024, 192]⟩
abbrev S1024x32 : Shape := ⟨2, ![1024, 32]⟩
abbrev S1024x768 : Shape := ⟨2, ![1024, 768]⟩
abbrev S1024x8 : Shape := ⟨2, ![1024, 8]⟩
abbrev S1024x4096 : Shape := ⟨2, ![1024, 4096]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1024 : Shape := ⟨2, ![256, 1024]⟩
abbrev S256x256 : Shape := ⟨2, ![256, 256]⟩
abbrev S1x6144 : Shape := ⟨2, ![1, 6144]⟩
abbrev S256x1 : Shape := ⟨2, ![256, 1]⟩
abbrev S1x256x1024 : Shape := ⟨3, ![1, 256, 1024]⟩

abbrev nBuf : Space → Nat
  | .hbm => 36
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x2688, .f32⟩
  | .hbm, ⟨9, _⟩ => ⟨S64, .f32⟩
  | .hbm, ⟨10, _⟩ => ⟨S1024x6256, .f32⟩
  | .hbm, ⟨11, _⟩ => ⟨S4x256x1024, .f32⟩
  | .hbm, ⟨12, _⟩ => ⟨S1024x1024, .f32⟩
  | .hbm, ⟨13, _⟩ => ⟨S1024, .f32⟩
  | .hbm, ⟨14, _⟩ => ⟨S1024x256, .f32⟩
  | .hbm, ⟨15, _⟩ => ⟨S1024x128, .f32⟩
  | .hbm, ⟨16, _⟩ => ⟨S1024x128, .f32⟩
  | .hbm, ⟨17, _⟩ => ⟨S1024x192, .f32⟩
  | .hbm, ⟨18, _⟩ => ⟨S1024x128, .f32⟩
  | .hbm, ⟨19, _⟩ => ⟨S1024x32, .f32⟩
  | .hbm, ⟨20, _⟩ => ⟨S1024x256, .f32⟩
  | .hbm, ⟨21, _⟩ => ⟨S1024x768, .f32⟩
  | .hbm, ⟨22, _⟩ => ⟨S1024x256, .f32⟩
  | .hbm, ⟨23, _⟩ => ⟨S1024x8, .f32⟩
  | .hbm, ⟨24, _⟩ => ⟨S1024x8, .f32⟩
  | .hbm, ⟨25, _⟩ => ⟨S1024x4096, .f32⟩
  | .hbm, ⟨26, _⟩ => ⟨S1x1024, .f32⟩
  | .hbm, ⟨27, _⟩ => ⟨S1x64, .f32⟩
  | .hbm, ⟨28, _⟩ => ⟨S4x64, .f32⟩
  | .hbm, ⟨29, _⟩ => ⟨S256, .f32⟩
  | .hbm, ⟨30, _⟩ => ⟨S1x256, .f32⟩
  | .hbm, ⟨31, _⟩ => ⟨S1024x4096, .bf16⟩
  | .hbm, ⟨32, _⟩ => ⟨S4x256x1024, .bf16⟩
  | .hbm, ⟨33, _⟩ => ⟨S1024x1024, .bf16⟩
  | .hbm, ⟨34, _⟩ => ⟨S1x1024, .f32⟩
  | .hbm, ⟨35, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1024, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S1x256, .f32⟩
  | .local _ .vmem, ⟨17, _⟩ => ⟨S1024x4096, .bf16⟩
  | .local _ .vmem, ⟨18, _⟩ => ⟨S4x256x1024, .bf16⟩
  | .local _ .vmem, ⟨19, _⟩ => ⟨S1024x1024, .bf16⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference8Ideal.lean ====
abbrev S8192x1024 : Shape := ⟨2, ![8192, 1024]⟩
abbrev S1x1x6144 : Shape := ⟨3, ![1, 1, 6144]⟩
abbrev S1024 : Shape := ⟨1, ![1024]⟩
abbrev S8192x256 : Shape := ⟨2, ![8192, 256]⟩
abbrev S8192x2688 : Shape := ⟨2, ![8192, 2688]⟩
abbrev S64 : Shape := ⟨1, ![64]⟩
abbrev S1024x6256 : Shape := ⟨2, ![1024, 6256]⟩
abbrev S4x256x1024 : Shape := ⟨3, ![4, 256, 1024]⟩
abbrev S1024x1024 : Shape := ⟨2, ![1024, 1024]⟩
abbrev S32x256x1024 : Shape := ⟨3, ![32, 256, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x6256 : Shape := ⟨3, ![32, 256, 6256]⟩
abbrev S32x256x4096 : Shape := ⟨3, ![32, 256, 4096]⟩
abbrev S32x256x4x64 : Shape := ⟨4, ![32, 256, 4, 64]⟩
abbrev S32x256x2688 : Shape := ⟨3, ![32, 256, 2688]⟩
abbrev S32x256x256 : Shape := ⟨3, ![32, 256, 256]⟩
abbrev S32x256x4 : Shape := ⟨3, ![32, 256, 4]⟩
abbrev S32x256x4x1 : Shape := ⟨4, ![32, 256, 4, 1]⟩
abbrev S1x1x1x64 : Shape := ⟨4, ![1, 1, 1, 64]⟩
abbrev S32x256x1x256 : Shape := ⟨4, ![32, 256, 1, 256]⟩
abbrev S32x256x4x256 : Shape := ⟨4, ![32, 256, 4, 256]⟩
abbrev S4x1024x32x256 : Shape := ⟨4, ![4, 1024, 32, 256]⟩
abbrev S32x256x4x1024 : Shape := ⟨4, ![32, 256, 4, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x2688, .f32⟩
  | .hbm, ⟨9, _⟩ => ⟨S64, .f32⟩
  | .hbm, ⟨10, _⟩ => ⟨S1024x6256, .f32⟩
  | .hbm, ⟨11, _⟩ => ⟨S4x256x1024, .f32⟩
  | .hbm, ⟨12, _⟩ => ⟨S1024x1024, .f32⟩
  | .hbm, ⟨13, _⟩ => ⟨S1024, .f32⟩
  | .hbm, ⟨14, _⟩ => ⟨S32x256x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S32x256x1024, .f32⟩
  | .hbm, ⟨22, _⟩ => ⟨S_, .f32⟩
  | .hbm, ⟨23, _⟩ => ⟨S32x256, .f32⟩
  | .hbm, ⟨24, _⟩ => ⟨S32x256x1, .f32⟩
  | .hbm, ⟨25, _⟩ => ⟨S_, .f32⟩
  | .hbm, ⟨26, _⟩ => ⟨S32x256x1, .f32⟩
  | .hbm, ⟨27, _⟩ => ⟨S32x256x1, .f32⟩
  | .hbm, ⟨28, _⟩ => ⟨S_, .f32⟩
  | .hbm, ⟨29, _⟩ => ⟨S32x256x1, .f32⟩
  | .hbm, ⟨30, _⟩ => ⟨S32x256x1, .f32⟩
  | .hbm, ⟨31, _⟩ => ⟨S32x256x1, .f32⟩
  | .hbm, ⟨32, _⟩ => ⟨S32x256x1024, .f32⟩
  | .hbm, ⟨33, _⟩ => ⟨S32x256x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S_, .f32⟩
  | .hbm, ⟨38, _⟩ => ⟨S1x1x1024, .f32⟩
  | .hbm, ⟨39, _⟩ => ⟨S1x1x1024, .f32⟩
  | .hbm, ⟨40, _⟩ => ⟨S32x256x1024, .f32⟩
  | .hbm, ⟨41, _⟩ => ⟨S32x256x1024, .f32⟩
  | .hbm, ⟨42, _⟩ => ⟨S32x256x1024, .f32⟩
  | .hbm, ⟨43, _⟩ => ⟨S32x256x1024, .f32⟩
  | .hbm, ⟨44, _⟩ => ⟨S32x256x6256, .f32⟩
  | .hbm, ⟨45, _⟩ => ⟨S32x256x4096, .f32⟩
  | .hbm, ⟨46, _⟩ => ⟨S8192x256, .f32⟩
  | .hbm, ⟨47, _⟩ => ⟨S32x256x4x64, .f32⟩
  | .hbm, ⟨48, _⟩ => ⟨S32x256x2688, .f32⟩
  | .hbm, ⟨49, _⟩ => ⟨S32x256x256, .f32⟩
  | .hbm, ⟨50, _⟩ => ⟨S32x256x4x64, .f32⟩
  | .hbm, ⟨51, _⟩ => ⟨S32x256x4x64, .f32⟩
  | .hbm, ⟨52, _⟩ => ⟨S_, .f32⟩
  | .hbm, ⟨53, _⟩ => ⟨S32x256x4, .f32⟩
  | .hbm, ⟨54, _⟩ => ⟨S32x256x4x1, .f32⟩
  | .hbm, ⟨55, _⟩ => ⟨S_, .f32⟩
  | .hbm, ⟨56, _⟩ => ⟨S32x256x4x1, .f32⟩
  | .hbm, ⟨57, _⟩ => ⟨S32x256x4x1, .f32⟩
  | .hbm, ⟨58, _⟩ => ⟨S_, .f32⟩
  | .hbm, ⟨59, _⟩ => ⟨S32x256x4x1, .f32⟩
  | .hbm, ⟨60, _⟩ => ⟨S32x256x4x1, .f32⟩
  | .hbm, ⟨61, _⟩ => ⟨S32x256x4x1, .f32⟩
  | .hbm, ⟨62, _⟩ => ⟨S32x256x4x64, .f32⟩
  | .hbm, ⟨63, _⟩ => ⟨S32x256x4x64, .f32⟩
  | .hbm, ⟨64, _⟩ => ⟨S1x1x1x64, .f32⟩
  | .hbm, ⟨65, _⟩ => ⟨S32x256x4x64, .f32⟩
  | .hbm, ⟨66, _⟩ => ⟨S32x256x4x64, .f32⟩
  | .hbm, ⟨67, _⟩ => ⟨S32x256x4x64, .f32⟩
  | .hbm, ⟨68, _⟩ => ⟨S32x256x4x64, .f32⟩
  | .hbm, ⟨69, _⟩ => ⟨S_, .f32⟩
  | .hbm, ⟨70, _⟩ => ⟨S32x256x4x64, .f32⟩
  | .hbm, ⟨71, _⟩ => ⟨S32x256x4x64, .f32⟩
  | .hbm, ⟨72, _⟩ => ⟨S_, .f32⟩
  | .hbm, ⟨73, _⟩ => ⟨S32x256x4x64, .f32⟩
  | .hbm, ⟨74, _⟩ => ⟨S32x256x4x64, .f32⟩
  | .hbm, ⟨75, _⟩ => ⟨S32x256x4x64, .f32⟩
  | .hbm, ⟨76, _⟩ => ⟨S32x256x4x64, .f32⟩
  | .hbm, ⟨77, _⟩ => ⟨S32x256x256, .f32⟩
  | .hbm, ⟨78, _⟩ => ⟨S32x256x256, .f32⟩
  | .hbm, ⟨79, _⟩ => ⟨S32x256x256, .f32⟩
  | .hbm, ⟨80, _⟩ => ⟨S32x256x256, .f32⟩
  | .hbm, ⟨81, _⟩ => ⟨S32x256x1x256, .f32⟩
  | .hbm, ⟨82, _⟩ => ⟨S32x256x1x256, .f32⟩
  | .hbm, ⟨83, _⟩ => ⟨S32x256x1x256, .f32⟩
  | .hbm, ⟨84, _⟩ => ⟨S32x256x1x256, .f32⟩
  | .hbm, ⟨85, _⟩ => ⟨S32x256x4x256, .f32⟩
  | .hbm, ⟨86, _⟩ => ⟨S4x1024x32x256, .f32⟩
  | .hbm, ⟨87, _⟩ => ⟨S32x256x4x1024, .f32⟩
  | .hbm, ⟨88, _⟩ => ⟨S32x256x4x1024, .f32⟩
  | .hbm, ⟨89, _⟩ => ⟨S32x256x4x1024, .f32⟩
  | .hbm, ⟨90, _⟩ => ⟨S32x256x4x1024, .f32⟩
  | .hbm, ⟨91, _⟩ => ⟨S_, .f32⟩
  | .hbm, ⟨92, _⟩ => ⟨S32x256x4x1024, .f32⟩
  | .hbm, ⟨93, _⟩ => ⟨S32x256x4x1024, .f32⟩
  | .hbm, ⟨94, _⟩ => ⟨S_, .f32⟩
  | .hbm, ⟨95, _⟩ => ⟨S32x256x4x1024, .f32⟩
  | .hbm, ⟨96, _⟩ => ⟨S32x256x4x1024, .f32⟩
  | .hbm, ⟨97, _⟩ => ⟨S32x256x4x1024, .f32⟩
  | .hbm, ⟨98, _⟩ => ⟨S_, .f32⟩
  | .hbm, ⟨99, _⟩ => ⟨S32x256x1024, .f32⟩
  | .hbm, ⟨100, _⟩ => ⟨S32x256x1024, .f32⟩
  | .hbm, ⟨101, _⟩ => ⟨S32x256x1024, .f32⟩
  | .hbm, ⟨102, _⟩ => ⟨S_, .f32⟩
  | .hbm, ⟨103, _⟩ => ⟨S32x256, .f32⟩
  | .hbm, ⟨104, _⟩ => ⟨S32x256x1, .f32⟩
  | .hbm, ⟨105, _⟩ => ⟨S_, .f32⟩
  | .hbm, ⟨106, _⟩ => ⟨S32x256x1, .f32⟩
  | .hbm, ⟨107, _⟩ => ⟨S32x256x1, .f32⟩
  | .hbm, ⟨108, _⟩ => ⟨S_, .f32⟩
  | .hbm, ⟨109, _⟩ => ⟨S32x256x1, .f32⟩
  | .hbm, ⟨110, _⟩ => ⟨S32x256x1, .f32⟩
  | .hbm, ⟨111, _⟩ => ⟨S32x256x1, .f32⟩
  | .hbm, ⟨112, _⟩ => ⟨S32x256x1024, .f32⟩
  | .hbm, ⟨113, _⟩ => ⟨S32x256x1024, .f32⟩
  | .hbm, ⟨114, _⟩ => ⟨S1x1x1024, .f32⟩
  | .hbm, ⟨115, _⟩ => ⟨S32x256x1024, .f32⟩
  | .hbm, ⟨116, _⟩ => ⟨S32x256x1024, .f32⟩
  | .hbm, ⟨117, _⟩ => ⟨S32x256x1024, .f32⟩
  | .hbm, ⟨118, _⟩ => ⟨S32x256x1024, .f32⟩
  | .hbm, ⟨119, _⟩ => ⟨S32x256x1024, .f32⟩
  | .hbm, ⟨120, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_6 : Ref sig .tc := ⟨.hbm, 91, rfl⟩
abbrev main_v62 : Ref sig .tc := ⟨.hbm, 92, rfl⟩
abbrev main_v63 : Ref sig .tc := ⟨.hbm, 93, rfl⟩
abbrev main_cst_7 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_9 : Ref sig .tc := ⟨.hbm, 102, rfl⟩
abbrev main_v70 : Ref sig .tc := ⟨.hbm, 103, rfl⟩
abbrev main_v71 : Ref sig .tc := ⟨.hbm, 104, rfl⟩
abbrev main_cst_10 : Ref sig .tc := ⟨.hbm, 105, rfl⟩
abbrev main_v72 : Ref sig .tc := ⟨.hbm, 106, rfl⟩
abbrev main_v73 : Ref sig .tc := ⟨.hbm, 107, rfl⟩
abbrev main_cst_11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩

abbrev nD : Nat := 1
abbrev τ : Topo := Topo.v7x

variable {F : FTy → Type} [FloatOps F]
-- ==== Kernel9.lean ====
abbrev S8192x1024 : Shape := ⟨2, ![8192, 1024]⟩
abbrev S2x1x6144 : Shape := ⟨3, ![2, 1, 6144]⟩
abbrev S1024 : Shape := ⟨1, ![1024]⟩
abbrev S1024x6256 : Shape := ⟨2, ![1024, 6256]⟩
abbrev S192 : Shape := ⟨1, ![192]⟩
abbrev S192x384 : Shape := ⟨2, ![192, 384]⟩
abbrev S128 : Shape := ⟨1, ![128]⟩
abbrev S128x512 : Shape := ⟨2, ![128, 512]⟩
abbrev S1024x256 : Shape := ⟨2, ![1024, 256]⟩
abbrev S1024x128 : Shape := ⟨2, ![1024, 128]⟩
abbrev S1024x192 : Shape := ⟨2, ![1024, 192]⟩
abbrev S1024x32 : Shape := ⟨2, ![1024, 32]⟩
abbrev S1024x768 : Shape := ⟨2, ![1024, 768]⟩
abbrev S1024x8 : Shape := ⟨2, ![1024, 8]⟩
abbrev S1024x4096 : Shape := ⟨2, ![1024, 4096]⟩
abbrev S1024x64 : Shape := ⟨2, ![1024, 64]⟩
abbrev S_ : Shape := ⟨0, ![]⟩
abbrev S1024x112 : Shape := ⟨2, ![1024, 112]⟩
abbrev S1024x1280 : Shape := ⟨2, ![1024, 1280]⟩
abbrev S1024x1408 : Shape := ⟨2, ![1024, 1408]⟩
abbrev S1024x2688 : Shape := ⟨2, ![1024, 2688]⟩
abbrev S192x4x96 : Shape := ⟨3, ![192, 4, 96]⟩
abbrev S192x4x64 : Shape := ⟨3, ![192, 4, 64]⟩
abbrev S192x256 : Shape := ⟨2, ![192, 256]⟩
abbrev S192x4x32 : Shape := ⟨3, ![192, 4, 32]⟩
abbrev S192x128 : Shape := ⟨2, ![192, 128]⟩
abbrev S256x384 : Shape := ⟨2, ![256, 384]⟩
abbrev S128x4x128 : Shape := ⟨3, ![128, 4, 128]⟩
abbrev S128x4x64 : Shape := ⟨3, ![128, 4, 64]⟩
abbrev S128x256 : Shape := ⟨2, ![128, 256]⟩
abbrev S256 : Shape := ⟨1, ![256]⟩
abbrev S1x256 : Shape := ⟨2, ![1, 256]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S8 : Shape := ⟨1, ![8]⟩
abbrev S1x8 : Shape := ⟨2, ![1, 8]⟩
abbrev S4096x8 : Shape := ⟨2, ![4096, 8]⟩
abbrev S4096x32 : Shape := ⟨2, ![4096, 32]⟩
abbrev S32 : Shape := ⟨1, ![32]⟩
abbrev S1x32 : Shape := ⟨2, ![1, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x1024 : Shape := ⟨2, ![1, 1024]⟩
abbrev S1x128 : Shape := ⟨2, ![1, 128]⟩
abbrev S8192x2688 : Shape := ⟨2, ![8192, 2688]⟩
abbrev S8192x384 : Shape := ⟨2, ![8192, 384]⟩
abbrev S8192x128 : Shape := ⟨2, ![8192, 128]⟩
abbrev S8192x512 : Shape := ⟨2, ![8192, 512]⟩
abbrev S8192x256 : Shape := ⟨2, ![8192, 256]⟩
abbrev S512x1024 : Shape := ⟨2, ![512, 1024]⟩
abbrev S1x1x6144 : Shape := ⟨3, ![1, 1, 6144]⟩
abbrev S512x256 : Shape := ⟨2, ![512, 256]⟩
abbrev S512x128 : Shape := ⟨2, ![512, 128]⟩
abbrev S512x2688 : Shape := ⟨2, ![512, 2688]⟩
abbrev S512x384 : Shape := ⟨2, ![512, 384]⟩
abbrev S512x512 : Shape := ⟨2, ![512, 512]⟩
abbrev S1x6144 : Shape := ⟨2, ![1, 6144]⟩
abbrev S512 : Shape := ⟨1, ![512]⟩
abbrev S512x1 : Shape := ⟨2, ![512, 1]⟩

abbrev nBuf : Space → Nat
  | .hbm => 254
  | .vmem => 38
  | .smem => 0
  | _ => 0

abbrev hbmTy0_0 (i : Nat) : BufTy := match i % 128 with
  | 0 => ⟨S8192x1024, .f32⟩
  | 1 => ⟨S2x1x6144, .f32⟩
  | 2 => ⟨S1024, .f32⟩
  | 3 => ⟨S1024x6256, .f32⟩
  | 4 => ⟨S192, .f32⟩
  | 5 => ⟨S192x384, .f32⟩
  | 6 => ⟨S128, .f32⟩
  | 7 => ⟨S128x512, .f32⟩
  | 8 => ⟨S1024x256, .f32⟩
  | 9 => ⟨S1024x128, .f32⟩
  | 10 => ⟨S1024x128, .f32⟩
  | 11 => ⟨S1024x192, .f32⟩
  | 12 => ⟨S1024x128, .f32⟩
  | 13 => ⟨S1024x32, .f32⟩
  | 14 => ⟨S1024x256, .f32⟩
  | 15 => ⟨S1024x768, .f32⟩
  | 16 => ⟨S1024x256, .f32⟩
  | 17 => ⟨S1024x8, .f32⟩
  | 18 => ⟨S1024x8, .f32⟩
  | 19 => ⟨S1024x4096, .f32⟩
  | 20 => ⟨S1024x64, .f32⟩
  | 21 => ⟨S1024x64, .f32⟩
  | 22 => ⟨S1024x64, .f32⟩
  | 23 => ⟨S1024x64, .f32⟩
  | 24 => ⟨S_, .f32⟩
  | 25 => ⟨S1024x64, .f32⟩
  | 26 => ⟨S_, .f32⟩
  | 27 => ⟨S1024x112, .f32⟩
  | 28 => ⟨S1024x1280, .f32⟩
  | 29 => ⟨S1024x1408, .f32⟩
  | 30 => ⟨S1024x2688, .f32⟩
  | 31 => ⟨S1024x2688, .bf16⟩
  | 32 => ⟨S1024x4096, .bf16⟩
  | 33 => ⟨S192x4x96, .f32⟩
  | 34 => ⟨S192x4x64, .f32⟩
  | 35 => ⟨S192x256, .f32⟩
  | 36 => ⟨S192x4x32, .f32⟩
  | 37 => ⟨S192x128, .f32⟩
  | 38 => ⟨S192x384, .f32⟩
  | 39 => ⟨S_, .i32⟩
  | 40 => ⟨S_, .f32⟩
  | 41 => ⟨S256x384, .f32⟩
  | 42 => ⟨S256x384, .bf16⟩
  | 43 => ⟨S128x4x128, .f32⟩
  | 44 => ⟨S128x4x64, .f32⟩
  | 45 => ⟨S128x256, .f32⟩
  | 46 => ⟨S128x4x64, .f32⟩
  | 47 => ⟨S128x256, .f32⟩
  | 48 => ⟨S128x512, .f32⟩
  | 49 => ⟨S128x512, .bf16⟩
  | 50 => ⟨S_, .i32⟩
  | 51 => ⟨S_, .f32⟩
  | 52 => ⟨S256, .f32⟩
  | 53 => ⟨S1x256, .f32⟩
  | 54 => ⟨S64, .i32⟩
  | 55 => ⟨S64x64, .i32⟩
  | 56 => ⟨S4096, .i32⟩
  | 57 => ⟨S4096, .f32⟩
  | 58 => ⟨S64, .i32⟩
  | 59 => ⟨S1x64, .i32⟩
  | 60 => ⟨S64x64, .i32⟩
  | 61 => ⟨S4096, .i32⟩
  | 62 => ⟨S4096, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S4096x1, .f32⟩
  | 72 => ⟨S1x16, .f32⟩
  | 73 => ⟨S4096x16, .f32⟩
  | 74 => ⟨S4096x16, .f32⟩
  | 75 => ⟨S4096x16, .f32⟩
  | 76 => ⟨S4096x1, .f32⟩
  | 77 => ⟨S1x16, .f32⟩
  | 78 => ⟨S4096x16, .f32⟩
  | 79 => ⟨S4096x16, .f32⟩
  | 80 => ⟨S4096x16, .f32⟩
  | 81 => ⟨S4096x64, .f32⟩
  | 82 => ⟨S4096x64, .f32⟩
  | 83 => ⟨S4096x64, .f32⟩
  | 84 => ⟨S64, .i32⟩
  | 85 => ⟨S_, .i32⟩
  | 86 => ⟨S_, .i32⟩
  | 87 => ⟨S64, .i32⟩
  | 88 => ⟨S64, .i32⟩
  | 89 => ⟨S64, .i32⟩
  | 90 => ⟨S_, .i32⟩
  | 91 => ⟨S64, .i32⟩
  | 92 => ⟨S64, .i1⟩
  | 93 => ⟨S64, .i32⟩
  | 94 => ⟨S64, .i32⟩
  | 95 => ⟨S_, .i32⟩
  | 96 => ⟨S64, .i32⟩
  | 97 => ⟨S64, .i1⟩
  | 98 => ⟨S64, .i1⟩
  | 99 => ⟨S_, .i32⟩
  | 100 => ⟨S64, .i32⟩
  | 101 => ⟨S64, .i32⟩
  | 102 => ⟨S64, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S64, .i32⟩
  | 110 => ⟨S64, .i32⟩
  | 111 => ⟨S_, .i32⟩
  | 112 => ⟨S64, .i32⟩
  | 113 => ⟨S64, .i1⟩
  | 114 => ⟨S_, .i32⟩
  | 115 => ⟨S64, .i32⟩
  | 116 => ⟨S64, .i1⟩
  | 117 => ⟨S_, .i32⟩
  | 118 => ⟨S_, .i1⟩
  | 119 => ⟨S64, .i1⟩
  | 120 => ⟨S64, .i1⟩
  | 121 => ⟨S64, .i1⟩
  | 122 => ⟨S64, .i32⟩
  | 123 => ⟨S64, .i32⟩
  | 124 => ⟨S64, .i32⟩
  | 125 => ⟨S_, .i32⟩
  | 126 => ⟨S64, .i32⟩
  | 127 => ⟨S64, .i1⟩
  | _ => ⟨S8192x1024, .f32⟩

abbrev hbmTy0_1 (i : Nat) : BufTy := match i % 128 with
  | 0 => ⟨S1x64, .i1⟩
  | 1 => ⟨S4096x64, .f32⟩
  | 2 => ⟨S_, .f32⟩
  | 3 => ⟨S_, .f32⟩
  | 4 => ⟨S4096x64, .i1⟩
  | 5 => ⟨S4096x64, .f32⟩
  | 6 => ⟨S4096x64, .f32⟩
  | 7 => ⟨S_, .f32⟩
  | 8 => ⟨S_, .f32⟩
  | 9 => ⟨S4096x64, .i1⟩
  | 10 => ⟨S4096x64, .f32⟩
  | 11 => ⟨S4096x64, .f32⟩
  | 12 => ⟨S1x4096x1x64, .f32⟩
  | 13 => ⟨S1x4096x4x64, .f32⟩
  | 14 => ⟨S4096x256, .f32⟩
  | 15 => ⟨S1x4096x1x64, .f32⟩
  | 16 => ⟨S1x4096x4x64, .f32⟩
  | 17 => ⟨S4096x256, .f32⟩
  | 18 => ⟨S1x4096x1x64, .f32⟩
  | 19 => ⟨S1x4096x4x64, .f32⟩
  | 20 => ⟨S4096x256, .f32⟩
  | 21 => ⟨S64, .i32⟩
  | 22 => ⟨S64x64, .i32⟩
  | 23 => ⟨S4096, .i32⟩
  | 24 => ⟨S4096, .f32⟩
  | 25 => ⟨S64, .i32⟩
  | 26 => ⟨S1x64, .i32⟩
  | 27 => ⟨S64x64, .i32⟩
  | 28 => ⟨S4096, .i32⟩
  | 29 => ⟨S4096, .f32⟩
  | 30 => ⟨S8, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S4096x1, .f32⟩
  | 39 => ⟨S1x8, .f32⟩
  | 40 => ⟨S4096x8, .f32⟩
  | 41 => ⟨S4096x8, .f32⟩
  | 42 => ⟨S4096x8, .f32⟩
  | 43 => ⟨S4096x1, .f32⟩
  | 44 => ⟨S1x8, .f32⟩
  | 45 => ⟨S4096x8, .f32⟩
  | 46 => ⟨S4096x8, .f32⟩
  | 47 => ⟨S4096x8, .f32⟩
  | 48 => ⟨S4096x32, .f32⟩
  | 49 => ⟨S4096x32, .f32⟩
  | 50 => ⟨S4096x32, .f32⟩
  | 51 => ⟨S32, .i32⟩
  | 52 => ⟨S_, .i32⟩
  | 53 => ⟨S_, .i32⟩
  | 54 => ⟨S32, .i32⟩
  | 55 => ⟨S32, .i32⟩
  | 56 => ⟨S32, .i32⟩
  | 57 => ⟨S_, .i32⟩
  | 58 => ⟨S32, .i32⟩
  | 59 => ⟨S32, .i1⟩
  | 60 => ⟨S32, .i32⟩
  | 61 => ⟨S32, .i32⟩
  | 62 => ⟨S_, .i32⟩
  | 63 => ⟨S32, .i32⟩
  | 64 => ⟨S32, .i1⟩
  | 65 => ⟨S32, .i1⟩
  | 66 => ⟨S_, .i32⟩
  | 67 => ⟨S32, .i32⟩
  | 68 => ⟨S32, .i32⟩
  | 69 => ⟨S32, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S32, .i32⟩
  | 77 => ⟨S32, .i32⟩
  | 78 => ⟨S_, .i32⟩
  | 79 => ⟨S32, .i32⟩
  | 80 => ⟨S32, .i1⟩
  | 81 => ⟨S_, .i32⟩
  | 82 => ⟨S32, .i32⟩
  | 83 => ⟨S32, .i1⟩
  | 84 => ⟨S_, .i32⟩
  | 85 => ⟨S_, .i1⟩
  | 86 => ⟨S32, .i1⟩
  | 87 => ⟨S32, .i1⟩
  | 88 => ⟨S32, .i1⟩
  | 89 => ⟨S32, .i32⟩
  | 90 => ⟨S32, .i32⟩
  | 91 => ⟨S32, .i32⟩
  | 92 => ⟨S_, .i32⟩
  | 93 => ⟨S32, .i32⟩
  | 94 => ⟨S32, .i1⟩
  | 95 => ⟨S1x32, .i1⟩
  | 96 => ⟨S4096x32, .f32⟩
  | 97 => ⟨S_, .f32⟩
  | 98 => ⟨S_, .f32⟩
  | 99 => ⟨S4096x32, .i1⟩
  | 100 => ⟨S4096x32, .f32⟩
  | 101 => ⟨S4096x32, .f32⟩
  | 102 => ⟨S_, .f32⟩
  | 103 => ⟨S_, .f32⟩
  | 104 => ⟨S4096x32, .i1⟩
  | 105 => ⟨S4096x32, .f32⟩
  | 106 => ⟨S4096x32, .f32⟩
  | 107 => ⟨S1x4096x1x32, .f32⟩
  | 108 => ⟨S1x4096x4x32, .f32⟩
  | 109 => ⟨S4096x128, .f32⟩
  | 110 => ⟨S1x4096x1x32, .f32⟩
  | 111 => ⟨S1x4096x4x32, .f32⟩
  | 112 => ⟨S4096x128, .f32⟩
  | 113 => ⟨S1x4096x1x32, .f32⟩
  | 114 => ⟨S1x4096x4x32, .f32⟩
  | 115 => ⟨S4096x128, .f32⟩
  | 116 => ⟨S1x1024, .f32⟩
  | 117 => ⟨S1x128, .f32⟩
  | 118 => ⟨S8192x2688, .f32⟩
  | 119 => ⟨S8192x384, .f32⟩
  | 120 => ⟨S8192x128, .f32⟩
  | 121 => ⟨S8192x512, .bf16⟩
  | 122 => ⟨S8192x256, .bf16⟩
  | 123 => ⟨S8192x256, .bf16⟩
  | 124 => ⟨S8192x128, .bf16⟩
  | 125 => ⟨S8192x128, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2688, .bf16⟩
  | .local _ .vmem, ⟨6, _⟩ => ⟨S1x256, .f32⟩
  | .local _ .vmem, ⟨7, _⟩ => ⟨S256x384, .bf16⟩
  | .local _ .vmem, ⟨8, _⟩ => ⟨S1x128, .f32⟩
  | .local _ .vmem, ⟨9, _⟩ => ⟨S128x512, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x2688, .f32⟩
  | .local _ .vmem, ⟨23, _⟩ => ⟨S512x2688, .f32⟩
  | .local _ .vmem, ⟨24, _⟩ => ⟨S512x384, .f32⟩
  | .local _ .vmem, ⟨25, _⟩ => ⟨S512x384, .f32⟩
  | .local _ .vmem, ⟨26, _⟩ => ⟨S512x128, .f32⟩
  | .local _ .vmem, ⟨27, _⟩ => ⟨S512x128, .f32⟩
  | .local _ .vmem, ⟨28, _⟩ => ⟨S512x512, .bf16⟩
  | .local _ .vmem, ⟨29, _⟩ => ⟨S512x512, .bf16⟩
  | .local _ .vmem, ⟨30, _⟩ => ⟨S512x256, .bf16⟩
  | .local _ .vmem, ⟨31, _⟩ => ⟨S512x256, .bf16⟩
  | .local _ .vmem, ⟨32, _⟩ => ⟨S512x256, .bf16⟩
  | .local _ .vmem, ⟨33, _⟩ => ⟨S512x256, .bf16⟩
  | .local _ .vmem, ⟨34, _⟩ => ⟨S512x128, .bf16⟩
  | .local _ .vmem, ⟨35, _⟩ => ⟨S512x128, .bf16⟩
  | .local _ .vmem, ⟨36, _⟩ => ⟨S512x128, .bf16⟩
  | .local _ .vmem, ⟨37, _⟩ => ⟨S512x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_1 : Ref sig .tc := ⟨.hbm, 50, rfl⟩
abbrev main_call1_v0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_2 : Ref sig .tc := ⟨.hbm, 65, rfl⟩
abbrev main_v51 : Ref sig .tc := ⟨.hbm, 66, rfl⟩
abbrev main_v52 : Ref sig .tc := ⟨.hbm, 67, rfl⟩
abbrev main_cst_3 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_4 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_c : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_0 : Ref sig .tc := ⟨.hbm, 99, rfl⟩
abbrev main_call2_v12 : Ref sig .tc := ⟨.hbm, 100, rfl⟩
abbrev main_call2_v13 : Ref sig .tc := ⟨.hbm, 101, rfl⟩
abbrev main_v69 : Ref sig .tc := ⟨.hbm, 102, rfl⟩
abbrev main_c_5 : Ref sig .tc := ⟨.hbm, 103, rfl⟩
abbrev main_call3_v0 : Ref sig .tc := ⟨.hbm, 104, rfl⟩
abbrev main_call3_c : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_c_1 : Ref sig .tc := ⟨.hbm, 111, rfl⟩
abbrev main_call3_v5 : Ref sig .tc := ⟨.hbm, 112, rfl⟩
abbrev main_call3_v6 : Ref sig .tc := ⟨.hbm, 113, rfl⟩
abbrev main_call3_c_2 : Ref sig .tc := ⟨.hbm, 114, rfl⟩
abbrev main_call3_v7 : Ref sig .tc := ⟨.hbm, 115, rfl⟩
abbrev main_call3_v8 : Ref sig .tc := ⟨.hbm, 116, rfl⟩
abbrev main_call3_c_3 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_v12 : Ref sig .tc := ⟨.hbm, 121, rfl⟩
abbrev main_call3_v13 : Ref sig .tc := ⟨.hbm, 122, rfl⟩
abbrev main_call3_v14 : Ref sig .tc := ⟨.hbm, 123, rfl⟩
abbrev main_v70 : Ref sig .tc := ⟨.hbm, 124, rfl⟩
abbrev main_c_6 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_7 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v75 : Ref sig .tc := ⟨.hbm, 134, rfl⟩
abbrev main_cst_8 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_cst_9 : Ref sig .tc := ⟨.hbm, 160, rfl⟩
abbrev main_v97 : Ref sig .tc := ⟨.hbm, 161, rfl⟩
abbrev main_v98 : Ref sig .tc := ⟨.hbm, 162, rfl⟩
abbrev main_cst_10 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_c_11 : Ref sig .tc := ⟨.hbm, 180, rfl⟩
abbrev main_call6_v0 : Ref sig .tc := ⟨.hbm, 181, rfl⟩
abbrev main_call6_v1 : Ref sig .tc := ⟨.hbm, 182, rfl⟩
abbrev main_call6_v2 : Ref sig .tc := ⟨.hbm, 183, rfl⟩
abbrev main_call6_v3 : Ref sig .tc := ⟨.hbm, 184, rfl⟩
abbrev main_call6_v4 : Ref sig .tc := ⟨.hbm, 185, rfl⟩
abbrev main_call6_v5 : Ref sig .tc := ⟨.hbm, 186, rfl⟩
abbrev main_call6_v6 : Ref sig .tc := ⟨.hbm, 187, rfl⟩
abbrev main_call6_v7 : Ref sig .tc := ⟨.hbm, 188, rfl⟩
abbrev main_call6_v8 : Ref sig .tc := ⟨.hbm, 189, rfl⟩
abbrev main_call6_c : Ref sig .tc := ⟨.hbm, 190, rfl⟩
abbrev main_call6_v9 : Ref sig .tc := ⟨.hbm, 191, rfl⟩
abbrev main_call6_v10 : Ref sig .tc := ⟨.hbm, 192, rfl⟩
abbrev main_call6_v11 : Ref sig .tc := ⟨.hbm, 193, rfl⟩
abbrev main_call6_c_0 : Ref sig .tc := ⟨.hbm, 194, rfl⟩
abbrev main_call6_v12 : Ref sig .tc := ⟨.hbm, 195, rfl⟩
abbrev main_call6_v13 : Ref sig .tc := ⟨.hbm, 196, rfl⟩
abbrev main_v115 : Ref sig .tc := ⟨.hbm, 197, rfl⟩
abbrev main_c_12 : Ref sig .tc := ⟨.hbm, 198, rfl⟩
abbrev main_call7_v0 : Ref sig .tc := ⟨.hbm, 199, rfl⟩
abbrev main_call7_c : Ref sig .tc := ⟨.hbm, 200, rfl⟩
abbrev main_call7_v1 : Ref sig .tc := ⟨.hbm, 201, rfl⟩
abbrev main_call7_c_0 : Ref sig .tc := ⟨.hbm, 202, rfl⟩
abbrev main_call7_v2 : Ref sig .tc := ⟨.hbm, 203, rfl⟩
abbrev main_call7_v3 : Ref sig .tc := ⟨.hbm, 204, rfl⟩
abbrev main_call7_v4 : Ref sig .tc := ⟨.hbm, 205, rfl⟩
abbrev main_call7_c_1 : Ref sig .tc := ⟨.hbm, 206, rfl⟩
abbrev main_call7_v5 : Ref sig .tc := ⟨.hbm, 207, rfl⟩
abbrev main_call7_v6 : Ref sig .tc := ⟨.hbm, 208, rfl⟩
abbrev main_call7_c_2 : Ref sig .tc := ⟨.hbm, 209, rfl⟩
abbrev main_call7_v7 : Ref sig .tc := ⟨.hbm, 210, rfl⟩
abbrev main_call7_v8 : Ref sig .tc := ⟨.hbm, 211, rfl⟩
abbrev main_call7_c_3 : Ref sig .tc := ⟨.hbm, 212, rfl⟩
abbrev main_call7_v9 : Ref sig .tc := ⟨.hbm, 213, rfl⟩
abbrev main_call7_v10 : Ref sig .tc := ⟨.hbm, 214, rfl⟩
abbrev main_call7_v11 : Ref sig .tc := ⟨.hbm, 215, rfl⟩
abbrev main_call7_v12 : Ref sig .tc := ⟨.hbm, 216, rfl⟩
abbrev main_call7_v13 : Ref sig .tc := ⟨.hbm, 217, rfl⟩
abbrev main_call7_v14 : Ref sig .tc := ⟨.hbm, 218, rfl⟩
abbrev main_v116 : Ref sig .tc := ⟨.hbm, 219, rfl⟩
abbrev main_c_13 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_cst_14 : Ref sig .tc := ⟨.hbm, 225, rfl⟩
abbrev main_call8_v0 : Ref sig .tc := ⟨.hbm, 226, rfl⟩
abbrev main_call8_v1 : Ref sig .tc := ⟨.hbm, 227, rfl⟩
abbrev main_call8_v2 : Ref sig .tc := ⟨.hbm, 228, rfl⟩
abbrev main_v121 : Ref sig .tc := ⟨.hbm, 229, rfl⟩
abbrev main_cst_15 : Ref sig .tc := ⟨.hbm, 230, rfl⟩
abbrev main_call9_v0 : Ref sig .tc := ⟨.hbm, 231, rfl⟩
abbrev main_call9_v1 : Ref sig .tc := ⟨.hbm, 232, rfl⟩
abbrev main_call9_v2 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134_0 : Ref sig .tc := ⟨.hbm, 246, rfl⟩
abbrev main_v134_1 : Ref sig .tc := ⟨.hbm, 247, rfl⟩
abbrev main_v134_2 : Ref sig .tc := ⟨.hbm, 248, rfl⟩
abbrev main_v134_3 : Ref sig .tc := ⟨.hbm, 249, rfl⟩
abbrev main_v134_4 : Ref sig .tc := ⟨.hbm, 250, rfl⟩
abbrev main_v134_5 : Ref sig .tc := ⟨.hbm, 251, rfl⟩
abbrev main_v134_6 : Ref sig .tc := ⟨.hbm, 252, rfl⟩
abbrev main_v134_7 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2688 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel9Ideal.lean ====
variable {F : FTy → Type} [FloatOps F] [Named F]
def κ : String → Option EReal := fun
  | "inv_rank" => some ((1 / 192 : ℝ) : EReal)
  | _ => none
-- ==== Reference9Ideal.lean ====
abbrev S8192x1024 : Shape := ⟨2, ![8192, 1024]⟩
abbrev S2x1x6144 : Shape := ⟨3, ![2, 1, 6144]⟩
abbrev S1024 : Shape := ⟨1, ![1024]⟩
abbrev S1024x6256 : Shape := ⟨2, ![1024, 6256]⟩
abbrev S192 : Shape := ⟨1, ![192]⟩
abbrev S192x384 : Shape := ⟨2, ![192, 384]⟩
abbrev S128 : Shape := ⟨1, ![128]⟩
abbrev S128x512 : Shape := ⟨2, ![128, 512]⟩
abbrev S2x1x1024 : Shape := ⟨3, ![2, 1, 1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x6256 : Shape := ⟨3, ![2, 4096, 6256]⟩
abbrev S2x4096x256 : Shape := ⟨3, ![2, 4096, 256]⟩
abbrev S2x4096x128 : Shape := ⟨3, ![2, 4096, 128]⟩
abbrev S2x4096x192 : Shape := ⟨3, ![2, 4096, 192]⟩
abbrev S2x4096x32 : Shape := ⟨3, ![2, 4096, 32]⟩
abbrev S2x4096x768 : Shape := ⟨3, ![2, 4096, 768]⟩
abbrev S2x4096x8 : Shape := ⟨3, ![2, 4096, 8]⟩
abbrev S2x4096x4096 : Shape := ⟨3, ![2, 4096, 4096]⟩
abbrev S2x4096x4x64 : Shape := ⟨4, ![2, 4096, 4, 64]⟩
abbrev S2x4096x2x64 : Shape := ⟨4, ![2, 4096, 2, 64]⟩
abbrev S1x1x192 : Shape := ⟨3, ![1, 1, 192]⟩
abbrev S2x4096x384 : Shape := ⟨3, ![2, 4096, 384]⟩
abbrev S2x4096x4x96 : Shape := ⟨4, ![2, 4096, 4, 96]⟩
abbrev S1x1x128 : Shape := ⟨3, ![1, 1, 128]⟩
abbrev S2x4096x512 : Shape := ⟨3, ![2, 4096, 512]⟩
abbrev S2x4096x4x128 : Shape := ⟨4, ![2, 4096, 4, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S8 : Shape := ⟨1, ![8]⟩
abbrev S1x8 : Shape := ⟨2, ![1, 8]⟩
abbrev S4096x8 : Shape := ⟨2, ![4096, 8]⟩
abbrev S4096x32 : Shape := ⟨2, ![4096, 32]⟩
abbrev S2x4096x4x16 : Shape := ⟨4, ![2, 4096, 4, 16]⟩
abbrev S4096x1x64 : Shape := ⟨3, ![4096, 1, 64]⟩
abbrev S1x4096x1x64 : Shape := ⟨4, ![1, 4096, 1, 64]⟩
abbrev S2x4096x2x16 : Shape := ⟨4, ![2, 4096, 2, 16]⟩
abbrev S2x4096x4x32 : Shape := ⟨4, ![2, 4096, 4, 32]⟩
abbrev S2x4096x4x8 : Shape := ⟨4, ![2, 4096, 4, 8]⟩
abbrev S4096x1x32 : Shape := ⟨3, ![4096, 1, 32]⟩
abbrev S1x4096x1x32 : Shape := ⟨4, ![1, 4096, 1, 32]⟩
abbrev S2x4096x1x32 : Shape := ⟨4, ![2, 4096, 1, 32]⟩
abbrev S2x4096x1x8 : Shape := ⟨4, ![2, 4096, 1, 8]⟩
abbrev S2x4096x2x2x64 : Shape := ⟨5, ![2, 4096, 2, 2, 64]⟩
abbrev S2x4096x64 : Shape := ⟨3, ![2, 4096, 64]⟩
abbrev S1x2x1x4096x1x32 : Shape := ⟨6, ![1, 2, 1, 4096, 1, 32]⟩
abbrev S1x2x1x4096x4x32 : Shape := ⟨6, ![1, 2, 1, 4096, 4, 32]⟩
abbrev S2x4096x112 : Shape := ⟨3, ![2, 4096, 112]⟩
abbrev S2x4096x2688 : Shape := ⟨3, ![2, 4096, 2688]⟩
abbrev S8192x2688 : Shape := ⟨2, ![8192, 2688]⟩
abbrev S8192x384 : Shape := ⟨2, ![8192, 384]⟩
abbrev S8192x128 : Shape := ⟨2, ![8192, 128]⟩
abbrev S8192x512 : Shape := ⟨2, ![8192, 512]⟩
abbrev S8192x256 : Shape := ⟨2, ![8192, 256]⟩

abbrev nBuf : Space → Nat
  | .hbm => 259
  | .vmem => 0
  | .smem => 0
  | _ => 0

abbrev hbmTy0_0 (i : Nat) : BufTy := match i % 128 with
  | 0 => ⟨S8192x1024, .f32⟩
  | 1 => ⟨S2x1x6144, .f32⟩
  | 2 => ⟨S1024, .f32⟩
  | 3 => ⟨S1024x6256, .f32⟩
  | 4 => ⟨S192, .f32⟩
  | 5 => ⟨S192x384, .f32⟩
  | 6 => ⟨S128, .f32⟩
  | 7 => ⟨S128x512, .f32⟩
  | 8 => ⟨S2x1x1024, .f32⟩
  | 9 => ⟨S2x1x1024, .f32⟩
  | 10 => ⟨S2x1x1024, .f32⟩
  | 11 => ⟨S2x1x1024, .f32⟩
  | 12 => ⟨S2x1x1024, .f32⟩
  | 13 => ⟨S2x1x1024, .f32⟩
  | 14 => ⟨S2x4096x1024, .f32⟩
  | 15 => ⟨S2x4096x1024, .f32⟩
  | 16 => ⟨S_, .f32⟩
  | 17 => ⟨S2x4096, .f32⟩
  | 18 => ⟨S2x4096x1, .f32⟩
  | 19 => ⟨S_, .f32⟩
  | 20 => ⟨S2x4096x1, .f32⟩
  | 21 => ⟨S2x4096x1, .f32⟩
  | 22 => ⟨S_, .f32⟩
  | 23 => ⟨S2x4096x1, .f32⟩
  | 24 => ⟨S2x4096x1, .f32⟩
  | 25 => ⟨S2x4096x1, .f32⟩
  | 26 => ⟨S2x4096x1024, .f32⟩
  | 27 => ⟨S2x4096x1024, .f32⟩
  | 28 => ⟨S1x1x1024, .f32⟩
  | 29 => ⟨S2x4096x1024, .f32⟩
  | 30 => ⟨S2x4096x1024, .f32⟩
  | 31 => ⟨S_, .f32⟩
  | 32 => ⟨S2x1x1024, .f32⟩
  | 33 => ⟨S2x1x1024, .f32⟩
  | 34 => ⟨S2x4096x1024, .f32⟩
  | 35 => ⟨S2x4096x1024, .f32⟩
  | 36 => ⟨S2x4096x1024, .f32⟩
  | 37 => ⟨S2x4096x1024, .f32⟩
  | 38 => ⟨S2x4096x6256, .f32⟩
  | 39 => ⟨S2x4096x256, .f32⟩
  | 40 => ⟨S2x4096x128, .f32⟩
  | 41 => ⟨S2x4096x128, .f32⟩
  | 42 => ⟨S2x4096x192, .f32⟩
  | 43 => ⟨S2x4096x128, .f32⟩
  | 44 => ⟨S2x4096x32, .f32⟩
  | 45 => ⟨S2x4096x256, .f32⟩
  | 46 => ⟨S2x4096x768, .f32⟩
  | 47 => ⟨S2x4096x256, .f32⟩
  | 48 => ⟨S2x4096x8, .f32⟩
  | 49 => ⟨S2x4096x8, .f32⟩
  | 50 => ⟨S2x4096x4096, .f32⟩
  | 51 => ⟨S2x4096x4x64, .f32⟩
  | 52 => ⟨S2x4096x2x64, .f32⟩
  | 53 => ⟨S2x4096x2x64, .f32⟩
  | 54 => ⟨S2x4096x192, .f32⟩
  | 55 => ⟨S_, .f32⟩
  | 56 => ⟨S2x4096, .f32⟩
  | 57 => ⟨S2x4096x1, .f32⟩
  | 58 => ⟨S_, .f32⟩
  | 59 => ⟨S2x4096x1, .f32⟩
  | 60 => ⟨S2x4096x1, .f32⟩
  | 61 => ⟨S_, .f32⟩
  | 62 => ⟨S2x4096x1, .f32⟩
  | 63 => ⟨S2x4096x1, .f32⟩
  | 64 => ⟨S2x4096x1, .f32⟩
  | 65 => ⟨S2x4096x192, .f32⟩
  | 66 => ⟨S2x4096x192, .f32⟩
  | 67 => ⟨S1x1x192, .f32⟩
  | 68 => ⟨S2x4096x192, .f32⟩
  | 69 => ⟨S2x4096x192, .f32⟩
  | 70 => ⟨S2x4096x384, .f32⟩
  | 71 => ⟨S2x4096x4x96, .f32⟩
  | 72 => ⟨S2x4096x128, .f32⟩
  | 73 => ⟨S_, .f32⟩
  | 74 => ⟨S2x4096, .f32⟩
  | 75 => ⟨S2x4096x1, .f32⟩
  | 76 => ⟨S_, .f32⟩
  | 77 => ⟨S2x4096x1, .f32⟩
  | 78 => ⟨S2x4096x1, .f32⟩
  | 79 => ⟨S_, .f32⟩
  | 80 => ⟨S2x4096x1, .f32⟩
  | 81 => ⟨S2x4096x1, .f32⟩
  | 82 => ⟨S2x4096x1, .f32⟩
  | 83 => ⟨S2x4096x128, .f32⟩
  | 84 => ⟨S2x4096x128, .f32⟩
  | 85 => ⟨S1x1x128, .f32⟩
  | 86 => ⟨S2x4096x128, .f32⟩
  | 87 => ⟨S2x4096x128, .f32⟩
  | 88 => ⟨S2x4096x512, .f32⟩
  | 89 => ⟨S2x4096x4x128, .f32⟩
  | 90 => ⟨S64, .i32⟩
  | 91 => ⟨S64x64, .i32⟩
  | 92 => ⟨S4096, .i32⟩
  | 93 => ⟨S4096, .f32⟩
  | 94 => ⟨S64, .i32⟩
  | 95 => ⟨S1x64, .i32⟩
  | 96 => ⟨S64x64, .i32⟩
  | 97 => ⟨S4096, .i32⟩
  | 98 => ⟨S4096, .f32⟩
  | 99 => ⟨S16, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S4096x1, .f32⟩
  | 108 => ⟨S1x16, .f32⟩
  | 109 => ⟨S4096x16, .f32⟩
  | 110 => ⟨S4096x16, .f32⟩
  | 111 => ⟨S4096x16, .f32⟩
  | 112 => ⟨S4096x1, .f32⟩
  | 113 => ⟨S1x16, .f32⟩
  | 114 => ⟨S4096x16, .f32⟩
  | 115 => ⟨S4096x16, .f32⟩
  | 116 => ⟨S4096x16, .f32⟩
  | 117 => ⟨S4096x64, .f32⟩
  | 118 => ⟨S4096x64, .f32⟩
  | 119 => ⟨S4096x64, .f32⟩
  | 120 => ⟨S64, .i32⟩
  | 121 => ⟨S64x64, .i32⟩
  | 122 => ⟨S4096, .i32⟩
  | 123 => ⟨S4096, .f32⟩
  | 124 => ⟨S64, .i32⟩
  | 125 => ⟨S1x64, .i32⟩
  | 126 => ⟨S64x64, .i32⟩
  | 127 => ⟨S4096, .i32⟩
  | _ => ⟨S8192x1024, .f32⟩

abbrev hbmTy0_1 (i : Nat) : BufTy := match i % 128 with
  | 0 => ⟨S4096, .f32⟩
  | 1 => ⟨S8, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S4096x1, .f32⟩
  | 10 => ⟨S1x8, .f32⟩
  | 11 => ⟨S4096x8, .f32⟩
  | 12 => ⟨S4096x8, .f32⟩
  | 13 => ⟨S4096x8, .f32⟩
  | 14 => ⟨S4096x1, .f32⟩
  | 15 => ⟨S1x8, .f32⟩
  | 16 => ⟨S4096x8, .f32⟩
  | 17 => ⟨S4096x8, .f32⟩
  | 18 => ⟨S4096x8, .f32⟩
  | 19 => ⟨S4096x32, .f32⟩
  | 20 => ⟨S4096x32, .f32⟩
  | 21 => ⟨S4096x32, .f32⟩
  | 22 => ⟨S2x4096x4x16, .f32⟩
  | 23 => ⟨S2x4096x4x16, .f32⟩
  | 24 => ⟨S2x4096x4x16, .f32⟩
  | 25 => ⟨S2x4096x4x16, .f32⟩
  | 26 => ⟨S2x4096x4x16, .f32⟩
  | 27 => ⟨S2x4096x4x16, .f32⟩
  | 28 => ⟨S2x4096x4x64, .f32⟩
  | 29 => ⟨S4096x1x64, .f32⟩
  | 30 => ⟨S1x4096x1x64, .f32⟩
  | 31 => ⟨S2x4096x4x64, .f32⟩
  | 32 => ⟨S2x4096x4x64, .f32⟩
  | 33 => ⟨S4096x1x64, .f32⟩
  | 34 => ⟨S1x4096x1x64, .f32⟩
  | 35 => ⟨S2x4096x4x64, .f32⟩
  | 36 => ⟨S2x4096x4x64, .f32⟩
  | 37 => ⟨S2x4096x4x64, .f32⟩
  | 38 => ⟨S2x4096x2x16, .f32⟩
  | 39 => ⟨S2x4096x2x16, .f32⟩
  | 40 => ⟨S2x4096x2x16, .f32⟩
  | 41 => ⟨S2x4096x2x16, .f32⟩
  | 42 => ⟨S2x4096x2x16, .f32⟩
  | 43 => ⟨S2x4096x2x16, .f32⟩
  | 44 => ⟨S2x4096x2x64, .f32⟩
  | 45 => ⟨S4096x1x64, .f32⟩
  | 46 => ⟨S1x4096x1x64, .f32⟩
  | 47 => ⟨S2x4096x2x64, .f32⟩
  | 48 => ⟨S2x4096x2x64, .f32⟩
  | 49 => ⟨S4096x1x64, .f32⟩
  | 50 => ⟨S1x4096x1x64, .f32⟩
  | 51 => ⟨S2x4096x2x64, .f32⟩
  | 52 => ⟨S2x4096x2x64, .f32⟩
  | 53 => ⟨S2x4096x2x64, .f32⟩
  | 54 => ⟨S2x4096x4x32, .f32⟩
  | 55 => ⟨S2x4096x4x8, .f32⟩
  | 56 => ⟨S2x4096x4x8, .f32⟩
  | 57 => ⟨S2x4096x4x8, .f32⟩
  | 58 => ⟨S2x4096x4x8, .f32⟩
  | 59 => ⟨S2x4096x4x8, .f32⟩
  | 60 => ⟨S2x4096x4x8, .f32⟩
  | 61 => ⟨S2x4096x4x32, .f32⟩
  | 62 => ⟨S4096x1x32, .f32⟩
  | 63 => ⟨S1x4096x1x32, .f32⟩
  | 64 => ⟨S2x4096x4x32, .f32⟩
  | 65 => ⟨S2x4096x4x32, .f32⟩
  | 66 => ⟨S4096x1x32, .f32⟩
  | 67 => ⟨S1x4096x1x32, .f32⟩
  | 68 => ⟨S2x4096x4x32, .f32⟩
  | 69 => ⟨S2x4096x4x32, .f32⟩
  | 70 => ⟨S2x4096x4x32, .f32⟩
  | 71 => ⟨S2x4096x1x32, .f32⟩
  | 72 => ⟨S2x4096x1x8, .f32⟩
  | 73 => ⟨S2x4096x1x8, .f32⟩
  | 74 => ⟨S2x4096x1x8, .f32⟩
  | 75 => ⟨S2x4096x1x8, .f32⟩
  | 76 => ⟨S2x4096x1x8, .f32⟩
  | 77 => ⟨S2x4096x1x8, .f32⟩
  | 78 => ⟨S2x4096x1x32, .f32⟩
  | 79 => ⟨S4096x1x32, .f32⟩
  | 80 => ⟨S1x4096x1x32, .f32⟩
  | 81 => ⟨S2x4096x1x32, .f32⟩
  | 82 => ⟨S2x4096x1x32, .f32⟩
  | 83 => ⟨S4096x1x32, .f32⟩
  | 84 => ⟨S1x4096x1x32, .f32⟩
  | 85 => ⟨S2x4096x1x32, .f32⟩
  | 86 => ⟨S2x4096x1x32, .f32⟩
  | 87 => ⟨S2x4096x1x32, .f32⟩
  | 88 => ⟨S2x4096x32, .f32⟩
  | 89 => ⟨S2x4096x2x2x64, .f32⟩
  | 90 => ⟨S2x4096x4x64, .f32⟩
  | 91 => ⟨S2x4096x2x2x64, .f32⟩
  | 92 => ⟨S2x4096x4x64, .f32⟩
  | 93 => ⟨S2x4096x2x2x64, .f32⟩
  | 94 => ⟨S2x4096x4x64, .f32⟩
  | 95 => ⟨S2x4096x256, .f32⟩
  | 96 => ⟨S2x4096x256, .f32⟩
  | 97 => ⟨S_, .f32⟩
  | 98 => ⟨S2x4096x64, .f32⟩
  | 99 => ⟨S1x2x1x4096x1x32, .f32⟩
  | 100 => ⟨S1x2x1x4096x4x32, .f32⟩
  | 101 => ⟨S2x4096x128, .f32⟩
  | 102 => ⟨S_, .f32⟩
  | 103 => ⟨S2x4096x112, .f32⟩
  | 104 => ⟨S2x4096x2688, .f32⟩
  | 105 => ⟨S2x4096x4x64, .f32⟩
  | 106 => ⟨S2x4096x256, .f32⟩
  | 107 => ⟨S2x4096x4x32, .f32⟩
  | 108 => ⟨S2x4096x128, .f32⟩
  | 109 => ⟨S2x4096x384, .f32⟩
  | 110 => ⟨S2x4096x4x64, .f32⟩
  | 111 => ⟨S2x4096x256, .f32⟩
  | 112 => ⟨S2x4096x4x64, .f32⟩
  | 113 => ⟨S2x4096x256, .f32⟩
  | 114 => ⟨S2x4096x512, .f32⟩
  | 115 => ⟨S8192x2688, .f32⟩
  | 116 => ⟨S8192x384, .f32⟩
  | 117 => ⟨S8192x128, .f32⟩
  | 118 => ⟨S8192x512, .f32⟩
  | 119 => ⟨S8192x512, .bf16⟩
  | 120 => ⟨S8192x256, .f32⟩
  | 121 => ⟨S8192x256, .bf16⟩
  | 122 => ⟨S8192x256, .f32⟩
  | 123 => ⟨S8192x256, .bf16⟩
  | 124 => ⟨S8192x128, .f32⟩
  | 125 => ⟨S8192x128, .bf16⟩
  | 126 => ⟨S1x2x1x4096x1x32, .f32⟩
  | 127 => ⟨S1x2x1x4096x4x32, .f32⟩
  | _ => ⟨S8192x1024, .f32⟩

abbrev hbmTy0_2 (i : Nat) : BufTy := match i % 128 with
  | 0 => ⟨S2x4096x128, .f32⟩
  | 1 => ⟨S8192x128, .f32⟩
  | 2 => ⟨S8192x128, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_9 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_11 : Ref sig .tc := ⟨.hbm, 131, rfl⟩
abbrev main_v111 : Ref sig .tc := ⟨.hbm, 132, rfl⟩
abbrev main_v112 : Ref sig .tc := ⟨.hbm, 133, rfl⟩
abbrev main_cst_12 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_cst_13 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_cst_14 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩

abbrev nD : Nat := 1
abbrev τ : Topo := Topo.v7x

variable {F : FTy → Type} [FloatOps F]
-- ==== Proof.Frames.lean ====
module

public import proofs.«01_k».proof.Defs
public import proofs.«01_k».proof.Proof.Gen.ReferenceIdeal.Read
public import proofs.«01_k».proof.Proof.Gen.Reference3Ideal.Read
public import proofs.«01_k».proof.Proof.Gen.Reference4Ideal.Read
public import proofs.«01_k».proof.Proof.Gen.Reference5Ideal.Read
public import proofs.«01_k».proof.Proof.Gen.Reference6Ideal.Read
public import proofs.«01_k».proof.Proof.Gen.Reference8Ideal.Read
public import proofs.«01_k».proof.Proof.Gen.Reference9Ideal.Read
public import proofs.«01_k».proof.Proof.Gen.Kernel4Ideal.Frame
public import proofs.«01_k».proof.Proof.Gen.Kernel9Ideal.Frame
public import Idealize.ShloMosaic.Lib.Claim

@[expose] public section

set_option maxRecDepth 16384

noncomputable section

open Idealize.ShloMosaic Idealize.ShloMosaic.TcCoe Idealize.SL.Sem

/-! Each reference runs, leaves its arguments as they were and declares no counter. -/

namespace Cert.Proof.Frames

theorem reference : Cert.quiescent_ReferenceIdeal := fun m g _ =>
  θ_run_mono (Cert.ReferenceIdeal.Value.run m g) fun r h => ⟨fun c => (h c).2, sem_eq_zero_of_no_sems (by decide) r.2⟩

theorem reference3 : Cert.quiescent_Reference3Ideal := fun m g _ =>
  θ_run_mono (Cert.Reference3Ideal.Value.run m g) fun r h => ⟨fun c => (h c).2, sem_eq_zero_of_no_sems (by decide) r.2⟩

theorem reference4 : Cert.quiescent_Reference4Ideal := fun m g _ =>
  θ_run_mono (Cert.Reference4Ideal.Value.run m g) fun r h =>
    ⟨fun c => (h c).2.2.2.2.2.2.2, sem_eq_zero_of_no_sems (by decide) r.2⟩

theorem reference5 : Cert.quiescent_Reference5Ideal := fun m g _ =>
  θ_run_mono (Cert.Reference5Ideal.Value.run m g) fun r h => ⟨fun c => (h c).2.2, sem_eq_zero_of_no_sems (by decide) r.2⟩

theorem reference6 : Cert.quiescent_Reference6Ideal := fun m g _ =>
  θ_run_mono (Cert.Reference6Ideal.Value.run m g) fun r h => ⟨fun c => (h c).2, sem_eq_zero_of_no_sems (by decide) r.2⟩

theorem reference8 : Cert.quiescent_Reference8Ideal := fun m g _ =>
  θ_run_mono (Cert.Reference8Ideal.Value.run m g) fun r h => ⟨fun c => (h c).2, sem_eq_zero_of_no_sems (by decide) r.2⟩

theorem reference9 : Cert.quiescent_Reference9Ideal := fun m g _ =>
  θ_run_mono (Cert.Reference9Ideal.Value.run m g) fun r h =>
    ⟨fun c => (h c).2.2.2.2.2.2.2.2, sem_eq_zero_of_no_sems (by decide) r.2⟩

/-- The constant named for 1/192 is its binary32 neighbour. -/
theorem preserves4 : Cert.preserves_Kernel4_Kernel4Ideal :=
  IdealRules.named_const.statement _ _ _ _ _ rfl

/-- The constant named for 1/192 is its binary32 neighbour. -/
theorem preserves9 : Cert.preserves_Kernel9_Kernel9Ideal :=
  IdealRules.named_const.statement _ _ _ _ _ rfl

end Cert.Proof.Frames

end
-- ==== Proof.Rows.lean ====
module

public import Idealize.ShloMosaic.Lib.Pointwise

@[expose] public section

set_option maxRecDepth 16384

noncomputable section

open Idealize.ShloMosaic

namespace Cert.Rows

/-- The literal `2^-10` of the kernels' means. -/
theorem lit_inv1024 : Ideal.ofBits .f32 0x3A800000#32 = ((1 / 1024 : ℝ) : EReal) := by
  simp [Ideal.ofBits, Ideal.ieee]; rw [← EReal.coe_mul]; norm_num

/-- The literal `1024` of the reference's means. -/
theorem lit_1024 : Ideal.ofBits .f32 0x44800000#32 = ((1024 : ℝ) : EReal) := by
  simp [Ideal.ofBits, Ideal.ieee]; rw [← EReal.coe_mul]; norm_num

/-- A quotient by the literal `1024` is a product with `1/1024`. -/
theorem div_1024 (x : EReal) : Ideal.div x (Ideal.ofBits .f32 0x44800000#32) = x * ((1 / 1024 : ℝ) : EReal) := by
  rw [lit_1024]; exact Ideal.div_coe (by norm_num) x

/-- The reciprocal root mean square of a row of 1024 entries, with the layer's `1e-6`. -/
def rms (x : Fin 1024 → EReal) : EReal :=
  Ideal.rsqrt ((∑ k, x k * x k) * ((1 / 1024 : ℝ) : EReal) + Ideal.ofBits .f32 0x358637BD#32)

/-- A row normalised, gained by `g`, scaled by one plus `sc` and shifted by `sh`. -/
def modulated (x g sc sh : Fin 1024 → EReal) (k : Fin 1024) : EReal :=
  x k * rms x * g k * (1 + sc k) + sh k

/-- The SwiGLU hidden row: the gate half through `silu`, times the up half. -/
def hidden (h : Fin 1024 → EReal) (wu : Fin 1024 → Fin 5632 → EReal) (l : Fin 2816) : EReal :=
  (∑ k, h k * wu k ⟨l.val, by omega⟩) * Ideal.logistic (∑ k, h k * wu k ⟨l.val, by omega⟩)
    * (∑ k, h k * wu k ⟨2816 + l.val, by omega⟩)

/-- The row the SwiGLU sub-layer adds, before its normalisation. -/
def ffnIn (x g sc sh : Fin 1024 → EReal) (wu : Fin 1024 → Fin 5632 → EReal) (wd : Fin 2816 → Fin 1024 → EReal)
    (i : Fin 1024) : EReal :=
  ∑ l, hidden (modulated x g sc sh) wu l * wd l i

/-- A row plus a gated, normalised row. -/
def residual (x ga f g' : Fin 1024 → EReal) (j : Fin 1024) : EReal :=
  x j + ga j * (f j * rms f * g' j)

/-- The SwiGLU sub-layer on one row. -/
def ffn (x g sc sh ga g' : Fin 1024 → EReal) (wu : Fin 1024 → Fin 5632 → EReal) (wd : Fin 2816 → Fin 1024 → EReal)
    (j : Fin 1024) : EReal :=
  residual x ga (ffnIn x g sc sh wu wd) g' j

/-- The sub-layer depends on its operands entry by entry. -/
theorem ffn_congr {x g sc sh ga g' : Fin 1024 → EReal} {wu : Fin 1024 → Fin 5632 → EReal}
    {wd : Fin 2816 → Fin 1024 → EReal} {x' g₁ sc' sh' ga' g₂ : Fin 1024 → EReal} {wu' : Fin 1024 → Fin 5632 → EReal}
    {wd' : Fin 2816 → Fin 1024 → EReal} {j j' : Fin 1024} (hx : ∀ k, x k = x' k) (hg : ∀ k, g k = g₁ k)
    (hsc : ∀ k, sc k = sc' k) (hsh : ∀ k, sh k = sh' k) (hga : ∀ k, ga k = ga' k) (hg' : ∀ k, g' k = g₂ k)
    (hu : ∀ k l, wu k l = wu' k l) (hd : ∀ l k, wd l k = wd' l k) (hj : j = j') :
    ffn x g sc sh ga g' wu wd j = ffn x' g₁ sc' sh' ga' g₂ wu' wd' j' := by
  cases funext hx; cases funext hg; cases funext hsc; cases funext hsh; cases funext hga; cases funext hg'
  cases (funext fun k => funext (hu k) : wu = wu'); cases (funext fun l => funext (hd l) : wd = wd'); cases hj; rfl

end Cert.Rows
-- ==== Proof.FfnKer.lean ====
module

public import proofs.«01_k».proof.Proof.Gen.Kernel2Ideal.Frame
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel2Ideal.Value
open Cert.Kernel2Ideal Cert.Kernel2Ideal.Gen

/-- What the body stores at row `r`, column `j` of its block is the sub-layer on row `r`. -/
theorem pay_row (P0 : FVec Ideal S256x1024 .f32) (P1 : FVec Ideal S1x1x6144 .f32) (P2 : FVec Ideal S1x1024 .f32)
    (P3 : FVec Ideal S1024x5632 .bf16) (P4 : FVec Ideal S2816x1024 .bf16) (P5 : FVec Ideal S1x1024 .f32)
    (r : Fin 256) (j : Fin 1024) :
    k0_pay1 (F := Ideal) P0 (k0_pay3 P1) (k0_pay4 P0 P1 P2 P3 P4) P5 (ix2 r j)
      = Rows.ffn (fun k => P0 (ix2 r k)) (fun k => P2 (ix2 0 k)) (fun k => P1 (ix3 0 0 ⟨4096 + k.val, by omega⟩))
          (fun k => P1 (ix3 0 0 ⟨3072 + k.val, by omega⟩)) (fun k => P1 (ix3 0 0 ⟨5120 + k.val, by omega⟩))
          (fun k => P5 (ix2 0 k)) (fun k l => P3 (ix2 k l)) (fun l k => P4 (ix2 l k)) j := by
  pointwise [k0_pay1, k0_pay2, k0_pay3, k0_pay4, Rows.ffn, Rows.residual, Rows.ffnIn, Rows.hidden, Rows.modulated, Rows.rms,
    Rows.lit_inv1024]

/-- The block indices of the pipelined windows: both row windows take block `t`, the modulation row the sequence. -/
theorem idx : ∀ t : Fin cfg0.N, win0_0.index t = ![t.val, 0] ∧ win0_1.index t = ![t.val / 16, 0, 0]
    ∧ win0_6.index t = ![t.val, 0] ∧ win0_2.index t = ![0, 0] ∧ win0_3.index t = ![0, 0] ∧ win0_4.index t = ![0, 0]
    ∧ win0_5.index t = ![0, 0] :=
  (by decide +kernel : ∀ t : Fin grid0.N, _)

variable (m : (ℓ : Loc nD τ sig) → Buf (Elt Ideal) ℓ)

/-- The sub-layer on row `r` of the arrays, the modulation of the row's sequence. -/
def out (x : FVec Ideal S8192x1024 .f32) (md : FVec Ideal S2x1x6144 .f32) (g : FVec Ideal S1024 .f32)
    (wu : FVec Ideal S1024x5632 .f32) (wd : FVec Ideal S2816x1024 .f32) (g' : FVec Ideal S1024 .f32)
    (r : Fin 8192) (j : Fin 1024) : EReal :=
  Rows.ffn (fun k => x (ix2 r k)) (fun k => g (ix1 k))
    (fun k => md (ix3 ⟨r.val / 4096, by omega⟩ 0 ⟨4096 + k.val, by omega⟩))
    (fun k => md (ix3 ⟨r.val / 4096, by omega⟩ 0 ⟨3072 + k.val, by omega⟩))
    (fun k => md (ix3 ⟨r.val / 4096, by omega⟩ 0 ⟨5120 + k.val, by omega⟩))
    (fun k => g' (ix1 k)) (fun k l => wu (ix2 k l)) (fun l k => wd (ix2 l k)) j

/-- What point `t` stores at an index of its block is the sub-layer at the array index under it. -/
theorem point (c : Dev nD) (t : Fin cfg0.N) (y : S256x1024.Idx) :
    k0_pay1 (F := Ideal) (iblk m c 0 t) (k0_pay3 (iblk m c 1 t))
        (k0_pay4 (iblk m c 0 t) (iblk m c 1 t) (iblk m c 2 t) (iblk m c 3 t) (iblk m c 4 t)) (iblk m c 5 t) y
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          ((((cfg0.win 6).blk t).view.emb y : S8192x1024.Idx) 0) ((((cfg0.win 6).blk t).view.emb y : S8192x1024.Idx) 1) := by
  rw [eq_ix2 y]
  refine (pay_row _ _ _ _ _ _ (y 0) (y 1)).trans ?_
  refine Rows.ffn_congr (fun k => ?_) (fun k => ?_) (fun k => ?_) (fun k => ?_) (fun k => ?_) (fun k => ?_)
    (fun k l => ?_) (fun l k => ?_) ?_
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · refine Fin.ext ?_; blk_simp [idx t]

/-- The result array after the run. -/
theorem final (c : Dev nD) : (dats m 0 c).arrAt 6 (cfgs 0).N
    = fun i : S8192x1024.Idx => out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (i 0) (i 1) := by
  refine (dats m 0 c).arrAt_eq_of_covers 6 _ (by decide +kernel) fun t _ y => ?_
  blk_simp; rw [after0_6]; frame_out
  exact point m c t y

end Cert.Kernel2Ideal.Value
-- ==== Proof.FfnRef.lean ====
module

public import proofs.«01_k».proof.Proof.Gen.Reference2Ideal.Read
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.Reference2Ideal.Value
open Cert.Reference2Ideal Cert.Reference2Ideal.Gen Cert.Reference2Ideal.Read

/-- The modulated, normalised input at a token. -/
theorem ref_in (x : FVec Ideal S8192x1024 .f32) (md : FVec Ideal S2x1x6144 .f32) (g : FVec Ideal S1024 .f32)
    (b : Fin 2) (q : Fin 4096) (k : Fin 1024) :
    val_main_v25 (F := Ideal) x md g (ix3 b q k)
      = Rows.modulated (fun k => x (ix2 ⟨b.val * 4096 + q.val, by omega⟩ k)) (fun k => g (ix1 k))
          (fun k => md (ix3 b 0 ⟨4096 + k.val, by omega⟩)) (fun k => md (ix3 b 0 ⟨3072 + k.val, by omega⟩)) k := by
  pointwise [val_main_v0, val_main_v4, val_main_v5, val_main_v7, val_main_cst, val_main_v8, val_main_v9, val_main_cst_0,
    val_main_v10, val_main_v11, val_main_cst_1, val_main_v12, val_main_v13, val_main_v14, val_main_v15, val_main_v16,
    val_main_v17, val_main_v18, val_main_v19, val_main_cst_2, val_main_v20, val_main_v21, val_main_v22, val_main_v23,
    val_main_v24, val_main_v25, Rows.modulated, Rows.rms, Rows.div_1024]

/-- The row added, before its normalisation. -/
theorem ref_ffn (x : FVec Ideal S8192x1024 .f32) (md : FVec Ideal S2x1x6144 .f32) (g : FVec Ideal S1024 .f32)
    (wu : FVec Ideal S1024x5632 .f32) (wd : FVec Ideal S2816x1024 .f32) (b : Fin 2) (q : Fin 4096) (i : Fin 1024) :
    val_main_v31 (F := Ideal) x md g wu wd (ix3 b q i)
      = Rows.ffnIn (fun k => x (ix2 ⟨b.val * 4096 + q.val, by omega⟩ k)) (fun k => g (ix1 k))
          (fun k => md (ix3 b 0 ⟨4096 + k.val, by omega⟩)) (fun k => md (ix3 b 0 ⟨3072 + k.val, by omega⟩))
          (fun k l => wu (ix2 k l)) (fun l k => wd (ix2 l k)) i := by
  pointwise [val_main_v31, val_main_v30, val_main_v29, val_main_call0_v0, val_main_call0_v1, val_main_call0_cst,
    val_main_call0_v2, val_main_call0_v3, val_main_call0_cst_0, val_main_call0_v4, val_main_call0_v5, val_main_v28,
    val_main_v27, val_main_v26, ref_in, Rows.ffnIn, Rows.hidden, Ideal.logistic]

/-- The reference's result at row `r`, column `j`. -/
theorem ref_out (x : FVec Ideal S8192x1024 .f32) (md : FVec Ideal S2x1x6144 .f32) (g : FVec Ideal S1024 .f32)
    (wu : FVec Ideal S1024x5632 .f32) (wd : FVec Ideal S2816x1024 .f32) (g' : FVec Ideal S1024 .f32)
    (r : Fin 8192) (j : Fin 1024) :
    val_main_v48 (F := Ideal) x md g wu wd g' (ix2 r j)
      = Rows.ffn (fun k => x (ix2 r k)) (fun k => g (ix1 k))
          (fun k => md (ix3 ⟨r.val / 4096, by omega⟩ 0 ⟨4096 + k.val, by omega⟩))
          (fun k => md (ix3 ⟨r.val / 4096, by omega⟩ 0 ⟨3072 + k.val, by omega⟩))
          (fun k => md (ix3 ⟨r.val / 4096, by omega⟩ 0 ⟨5120 + k.val, by omega⟩))
          (fun k => g' (ix1 k)) (fun k l => wu (ix2 k l)) (fun l k => wd (ix2 l k)) j := by
  have e : r.val / 4096 * 4096 + r.val % 4096 = r.val := by omega
  pointwise [val_main_v48, val_main_v47, val_main_v46, val_main_v45, val_main_v44, val_main_v43, val_main_v42,
    val_main_v41, val_main_v40, val_main_v39, val_main_v38, val_main_v37, val_main_cst_5, val_main_v36, val_main_v35,
    val_main_cst_4, val_main_v34, val_main_v33, val_main_cst_3, val_main_v32, val_main_v6, val_main_v0, ref_ffn,
    Rows.ffn, Rows.residual, Rows.rms, Rows.div_1024, e]

end Cert.Reference2Ideal.Value
-- ==== Proof.FfnClaim.lean ====
module

public import proofs.«01_k».proof.Defs
public import proofs.«01_k».proof.Proof.FfnKer
public import proofs.«01_k».proof.Proof.FfnRef
public import Idealize.ShloMosaic.Lib.Claim

@[expose] public section

set_option maxRecDepth 16384

noncomputable section

open Idealize.ShloMosaic Idealize.ShloMosaic.TcCoe Idealize.SL.Sem

namespace Cert.Proof.Ffn

/-- The reference's term is the result array. -/
theorem result (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Value.res_main_v48 m' c = (Cert.Kernel2Ideal.Gen.dats m 0 c).arrAt 6 (Cert.Kernel2Ideal.cfgs 0).N := by
  rw [Cert.Reference2Ideal.Read.val_main_v48_eq, Cert.Kernel2Ideal.Value.final m c, h0, h1, h2, h3, h4, h5]
  funext i
  rw [eq_ix2 i]
  exact Cert.Reference2Ideal.Value.ref_out _ _ _ _ _ _ _ _

/-- The feed-forward kernel and its reference give the same rows. -/
theorem algebraic : Cert.algebraic_Kernel2Ideal_Reference2Ideal := by
  intro m g m' g' _ hagree
  refine ⟨fun c => (Cert.Kernel2Ideal.Gen.dats m 0 c).arrAt 6 (Cert.Kernel2Ideal.cfgs 0).N, ?_, ?_⟩
  · exact θ_run_mono (θ_run_and (Cert.Kernel2Ideal.Gen.run_main m g) (Cert.Kernel2Ideal.Gen.unchanged m g))
      fun r h c => ⟨(h.1 c).1 6, h.2 c⟩
  · exact θ_run_mono (Cert.Reference2Ideal.Value.run m' g') fun r h c =>
      ⟨(h c).1.trans (result m m' c (hagree c).1 (hagree c).2.1 (hagree c).2.2.1 (hagree c).2.2.2.1 (hagree c).2.2.2.2.1
        (hagree c).2.2.2.2.2), (h c).2⟩

/-- The reference runs and leaves its arguments as they were. -/
theorem quiescent_ref : Cert.quiescent_Reference2Ideal := fun m g _ =>
  θ_run_mono (Cert.Reference2Ideal.Value.run m g) fun r h => ⟨fun c => (h c).2, sem_eq_zero_of_no_sems (by decide) r.2⟩

end Cert.Proof.Ffn

end
-- ==== Proof.Finite.lean ====
module

public import Idealize.ShloMosaic.Lib.StableHlo
public import Idealize.ShloMosaic.PureOps
public import Idealize.ShloMosaic.Lib.Pointwise

@[expose] public section

noncomputable section

open Idealize.ShloMosaic

/-! What the finiteness conditions say of an array. -/

namespace Cert.Finite

/-- An entry of which `|x| < ∞` holds is a real number. -/
theorem real_of_abs_lt {s : Shape} (x : FVec Ideal s .f32) (t : FVec Ideal s .f32)
    (ht : ∀ i, t i = Ideal.ofBits .f32 0x7F800000#32) (h : cmpf .olt (Host.absf x) t = fun _ => 1#1) (i : s.Idx) :
    ∃ a : ℝ, x i = (a : EReal) := by
  have e := congrFun h i
  have ht' : t i = (⊤ : EReal) := (ht i).trans (by simp [Ideal.ofBits, Ideal.ieee])
  simp only [cmpf, Host.absf,  FloatOps.hostAbsf, ht'] at e
  revert e
  generalize (x i : EReal) = v
  intro e
  have hlt : max v (-v) < (⊤ : EReal) := by
    by_contra hn
    have : FloatOps.cmpf (F := Ideal) (φ := .f32) CmpFPredicate.olt (max v (-v)) ⊤ = 0#1 := by
      show Ideal.cmp _ _ _ = _
      simp [Ideal.cmp, hn]
    rw [this] at e
    exact absurd e (by decide)
  induction v using EReal.rec with
  | bot => simp at hlt
  | top => simp at hlt
  | coe a => exact ⟨a, rfl⟩

end Cert.Finite
-- ==== Proof.MergeRows.lean ====
module

public import proofs.«01_k».proof.Proof.Rows
public import Idealize.ShloMosaic.Lib.Pointwise

@[expose] public section

noncomputable section

open Idealize.ShloMosaic

/-! The gated merge of the four branches on one row, over the extended reals. -/

namespace Cert.Rows

/-- The literal `1/64` of the head means. -/
theorem lit_inv64 : Ideal.ofBits .f32 0x3C800000#32 = ((1 / 64 : ℝ) : EReal) := by
  simp [Ideal.ofBits, Ideal.ieee]; rw [← EReal.coe_mul]; norm_num

/-- The literal `64` of the reference's head means. -/
theorem lit_64 : Ideal.ofBits .f32 0x42800000#32 = ((64 : ℝ) : EReal) := by
  simp [Ideal.ofBits, Ideal.ieee]; rw [← EReal.coe_mul]; norm_num

/-- A quotient by the literal `64` is a product with `1/64`. -/
theorem div_64 (x : EReal) : Ideal.div x (Ideal.ofBits .f32 0x42800000#32) = x * ((1 / 64 : ℝ) : EReal) := by
  rw [lit_64]; exact Ideal.div_coe (by norm_num) x

/-- A sum over 256 columns, those of one head of 64 selected, is the sum over the head's columns. -/
theorem sum_head (f : Fin 256 → EReal) (h : Fin 4) :
    (∑ k : Fin 256, if k.val / 64 = h.val then f k else 0) = ∑ d : Fin 64, f ⟨h.val * 64 + d.val, by omega⟩ := by
  have e := Equiv.sum_comp (finProdFinEquiv (m := 4) (n := 64)) (fun k : Fin 256 => if k.val / 64 = h.val then f k else 0)
  refine e.symm.trans ?_
  rw [Fintype.sum_prod_type]
  refine (Finset.sum_eq_single h (fun b _ hb => ?_) (fun hh => absurd (Finset.mem_univ _) hh)).trans ?_
  · refine Finset.sum_eq_zero fun d _ => if_neg ?_
    have : (finProdFinEquiv (b, d)).val = d.val + 64 * b.val := rfl
    have hb' : b.val ≠ h.val := fun hh => hb (Fin.ext hh)
    omega
  · refine Finset.sum_congr rfl fun d _ => ?_
    have e : (finProdFinEquiv (h, d)).val = d.val + 64 * h.val := rfl
    rw [if_pos (by omega)]
    exact congrArg f (Fin.ext (by simp only [e]; omega))

/-- The column `d` of the head that holds column `j`. -/
def sameHead (j : Fin 256) (d : Fin 64) : Fin 256 := ⟨j.val / 64 * 64 + d.val, by omega⟩

/-- A row of four heads, each normalised by its own root mean square, gained by `g` and gated by `silu` of `z`. -/
def headNorm (o z g : Fin 256 → EReal) (j : Fin 256) : EReal :=
  o j * Ideal.rsqrt ((∑ d : Fin 64, o (sameHead j d) * o (sameHead j d)) * ((1 / 64 : ℝ) : EReal)
      + Ideal.ofBits .f32 0x358637BD#32) * g j * (z j * Ideal.logistic (z j))

/-- One branch through its gate and its projection. -/
def branch (h : Fin 1024 → EReal) (br : Fin 256 → EReal) (wg : Fin 1024 → Fin 4096 → EReal)
    (wb : Fin 4 → Fin 256 → Fin 1024 → EReal) (n : Fin 4) (j : Fin 1024) : EReal :=
  Ideal.logistic (∑ k, h k * wg k ⟨n.val * 1024 + j.val, by omega⟩) * ∑ c, br c * wb n c j

/-- The four branches, gated, projected and summed. -/
def mixed (h : Fin 1024 → EReal) (a b c d : Fin 256 → EReal) (wg : Fin 1024 → Fin 4096 → EReal)
    (wb : Fin 4 → Fin 256 → Fin 1024 → EReal) (i : Fin 1024) : EReal :=
  branch h a wg wb 0 i + branch h b wg wb 1 i + branch h c wg wb 2 i + branch h d wg wb 3 i

/-- Their sum through the output projection. -/
def mix (h : Fin 1024 → EReal) (a b c d : Fin 256 → EReal) (wg : Fin 1024 → Fin 4096 → EReal)
    (wb : Fin 4 → Fin 256 → Fin 1024 → EReal) (wo : Fin 1024 → Fin 1024 → EReal) (j : Fin 1024) : EReal :=
  ∑ i, mixed h a b c d wg wb i * wo i j

/-- The merge sub-layer on one row. -/
def merge (x g sc sh ga g' : Fin 1024 → EReal) (a b c o z gn : Fin 256 → EReal) (wg : Fin 1024 → Fin 4096 → EReal)
    (wb : Fin 4 → Fin 256 → Fin 1024 → EReal) (wo : Fin 1024 → Fin 1024 → EReal) (j : Fin 1024) : EReal :=
  residual x ga (mix (modulated x g sc sh) a b c (headNorm o z gn) wg wb wo) g' j

/-- The sub-layer depends on its operands entry by entry. -/
theorem merge_congr {x g sc sh ga g' x₁ g₁ sc₁ sh₁ ga₁ g'₁ : Fin 1024 → EReal} {a b c o z gn a₁ b₁ c₁ o₁ z₁ gn₁ : Fin 256 → EReal}
    {wg wg₁ : Fin 1024 → Fin 4096 → EReal} {wb wb₁ : Fin 4 → Fin 256 → Fin 1024 → EReal}
    {wo wo₁ : Fin 1024 → Fin 1024 → EReal} {j j₁ : Fin 1024} (hx : ∀ k, x k = x₁ k) (hg : ∀ k, g k = g₁ k)
    (hsc : ∀ k, sc k = sc₁ k) (hsh : ∀ k, sh k = sh₁ k) (hga : ∀ k, ga k = ga₁ k) (hg' : ∀ k, g' k = g'₁ k)
    (ha : ∀ k, a k = a₁ k) (hb : ∀ k, b k = b₁ k) (hc : ∀ k, c k = c₁ k) (ho : ∀ k, o k = o₁ k) (hz : ∀ k, z k = z₁ k)
    (hgn : ∀ k, gn k = gn₁ k) (hwg : ∀ k l, wg k l = wg₁ k l) (hwb : ∀ n k l, wb n k l = wb₁ n k l)
    (hwo : ∀ k l, wo k l = wo₁ k l) (hj : j = j₁) :
    merge x g sc sh ga g' a b c o z gn wg wb wo j = merge x₁ g₁ sc₁ sh₁ ga₁ g'₁ a₁ b₁ c₁ o₁ z₁ gn₁ wg₁ wb₁ wo₁ j₁ := by
  cases funext hx; cases funext hg; cases funext hsc; cases funext hsh; cases funext hga; cases funext hg'
  cases funext ha; cases funext hb; cases funext hc; cases funext ho; cases funext hz; cases funext hgn
  cases (funext fun k => funext (hwg k) : wg = wg₁); cases (funext fun k => funext (hwo k) : wo = wo₁)
  cases (funext fun n => funext fun k => funext (hwb n k) : wb = wb₁); cases hj; rfl

end Cert.Rows
-- ==== Proof.Attend.lean ====
module

public import proofs.«01_k».proof.Proof.MergeRows
public import Idealize.ShloMosaic.Lib.Pointwise

@[expose] public section

noncomputable section

open Idealize.ShloMosaic

/-! Softmax attention of one query over the extended reals: where the scores and the values are real numbers, dividing the
weighted sum of the values is weighting them by the divided exponentials. -/

namespace Cert.Rows

/-- An extended real that is a real number. -/
def IsReal (x : EReal) : Prop := ∃ a : ℝ, x = (a : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- A finite sum of real numbers, among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} [Fintype ι] {f : ι → EReal} (h : ∀ i, IsReal (f i)) : IsReal (∑ i, f i) := by
  choose g hg using h
  exact ⟨∑ i, g i, by rw [coe_sum]; exact Finset.sum_congr rfl fun i _ => hg i⟩

/-- The literal `-∞` a maximum starts from. -/
theorem lit_bot : Ideal.ofBits .f32 0xFF800000#32 = (⊥ : EReal) := by simp [Ideal.ofBits, Ideal.ieee]

/-- The greatest of a row. -/
def top {n : ℕ} (f : Fin n → EReal) : EReal := Finset.univ.fold max (Ideal.ofBits .f32 0xFF800000#32) f

theorem top_eq {n : ℕ} (f : Fin n → EReal) : top f = Finset.univ.sup f := by
  unfold top; rw [lit_bot]; rfl

/-- The greatest of a row of real numbers is a real number. -/
theorem IsReal.top {n : ℕ} [NeZero n] {f : Fin n → EReal} (h : ∀ i, IsReal (f i)) : IsReal (top f) := by
  rw [top_eq]
  obtain ⟨i, _, hi⟩ := Finset.exists_mem_eq_sup Finset.univ ⟨0, Finset.mem_univ _⟩ f
  rw [hi]; exact h i

/-- The greatest of two rows side by side. -/
theorem top_append {n k l : ℕ} (e : n + k = l) (f : Fin n → EReal) (g : Fin k → EReal) (s : Fin l → EReal)
    (hf : ∀ i : Fin n, s ⟨i.val, by omega⟩ = f i) (hg : ∀ i : Fin k, s ⟨n + i.val, by omega⟩ = g i) :
    top s = max (top f) (top g) := by
  rw [top_eq, top_eq, top_eq]
  refine le_antisymm (Finset.sup_le fun i _ => ?_) (max_le (Finset.sup_le fun i _ => ?_) (Finset.sup_le fun i _ => ?_))
  · by_cases h : i.val < n
    · exact le_trans ((hf ⟨i.val, h⟩).le.trans (Finset.le_sup (f := f) (Finset.mem_univ _))) (le_max_left _ _)
    · have hi : i = ⟨n + (⟨i.val - n, by omega⟩ : Fin k).val, by simp only; omega⟩ := Fin.ext (by simp only; omega)
      rw [hi]
      exact le_trans ((hg ⟨i.val - n, by omega⟩).le.trans (Finset.le_sup (f := g) (Finset.mem_univ _))) (le_max_right _ _)
  · rw [← hf i]; exact Finset.le_sup (f := s) (Finset.mem_univ _)
  · rw [← hg i]; exact Finset.le_sup (f := s) (Finset.mem_univ _)

/-- The sum of two rows side by side. -/
theorem sum_append {n k l : ℕ} (e : n + k = l) (s : Fin l → EReal) :
    ∑ i, s i = (∑ i : Fin n, s ⟨i.val, by omega⟩) + ∑ i : Fin k, s ⟨n + i.val, by omega⟩ := by
  subst e; exact Fin.sum_univ_add s

/-- The exponential of a real number is a positive real number. -/
theorem exp_real (a : ℝ) : Ideal.exp (a : EReal) = ((Real.exp a : ℝ) : EReal) := rfl

theorem IsReal.exp {x : EReal} (hx : IsReal x) : ∃ a : ℝ, 0 < a ∧ Ideal.exp x = (a : EReal) := by
  obtain ⟨a, rfl⟩ := hx; exact ⟨Real.exp a, Real.exp_pos a, exp_real a⟩

theorem IsReal.exp' {x : EReal} (hx : IsReal x) : IsReal (Ideal.exp x) := by
  obtain ⟨a, _, h⟩ := hx.exp; exact ⟨a, h⟩

/-- A sum of exponentials of real numbers is a positive real number. -/
theorem sum_exp {n : ℕ} [NeZero n] {f : Fin n → EReal} (h : ∀ i, IsReal (f i)) :
    ∃ d : ℝ, 0 < d ∧ ∑ i, Ideal.exp (f i) = (d : EReal) := by
  choose g hp hg using fun i => (h i).exp
  exact ⟨∑ i, g i, Finset.sum_pos (fun i _ => hp i) ⟨0, Finset.mem_univ _⟩,
    by rw [coe_sum]; exact Finset.sum_congr rfl fun i _ => hg i⟩

/-- Dividing a weighted sum by a real number is weighting by the divided weights. -/
theorem div_sum {ι : Type*} [Fintype ι] {w v : ι → EReal} {D : EReal} (hw : ∀ i, IsReal (w i)) (hv : ∀ i, IsReal (v i))
    (hD : ∃ d : ℝ, 0 < d ∧ D = (d : EReal)) : Ideal.div (∑ i, w i * v i) D = ∑ i, v i * Ideal.div (w i) D := by
  choose a ha using hw
  choose u hu using hv
  obtain ⟨d, hd, rfl⟩ := hD
  cases funext ha; cases funext hu
  rw [Ideal.div_coe hd.ne']
  simp only [Ideal.div_coe hd.ne', ← EReal.coe_mul, ← coe_sum, Finset.sum_mul]
  congr 1
  exact Finset.sum_congr rfl fun i _ => by ring

/-- A quotient of a sum of real numbers is the sum of the quotients. -/
theorem div_add {x y D : EReal} (hx : IsReal x) (hy : IsReal y) (hD : ∃ d : ℝ, 0 < d ∧ D = (d : EReal)) :
    Ideal.div (x + y) D = Ideal.div x D + Ideal.div y D := by
  obtain ⟨a, rfl⟩ := hx; obtain ⟨b, rfl⟩ := hy; obtain ⟨d, hd, rfl⟩ := hD
  simp only [Ideal.div_coe hd.ne', ← EReal.coe_mul, ← EReal.coe_add]
  congr 1; ring

/-- Attention over two sets of keys: the exponentials of the scores, shifted by their maximum, weigh the values, and the
weighted sum is divided by the sum of the weights. -/
def attend₂ {n k : ℕ} (sl : Fin n → EReal) (sc : Fin k → EReal) (vl : Fin n → EReal) (vc : Fin k → EReal) : EReal :=
  Ideal.div ((∑ i, Ideal.exp (sl i - max (top sl) (top sc)) * vl i) + ∑ i, Ideal.exp (sc i - max (top sl) (top sc)) * vc i)
    ((∑ i, Ideal.exp (sl i - max (top sl) (top sc))) + ∑ i, Ideal.exp (sc i - max (top sl) (top sc)))

/-- The softmax of a row at one position. -/
def soft {n : ℕ} (s : Fin n → EReal) (i : Fin n) : EReal :=
  Ideal.div (Ideal.exp (s i - top s)) (∑ k, Ideal.exp (s k - top s))

/-- Attention over two sets of keys is the softmax of the scores side by side, its two parts weighing the values. -/
theorem attend₂_eq {n k l : ℕ} [NeZero n] [NeZero k] (e : n + k = l) {sl vl : Fin n → EReal} {sc vc : Fin k → EReal} (s : Fin l → EReal)
    (hsl : ∀ i, IsReal (sl i)) (hsc : ∀ i, IsReal (sc i)) (hvl : ∀ i, IsReal (vl i)) (hvc : ∀ i, IsReal (vc i))
    (hl : ∀ i : Fin n, s ⟨i.val, by omega⟩ = sl i) (hc : ∀ i : Fin k, s ⟨n + i.val, by omega⟩ = sc i) :
    attend₂ sl sc vl vc
      = (∑ i : Fin n, vl i * soft s ⟨i.val, by omega⟩) + ∑ i : Fin k, vc i * soft s ⟨n + i.val, by omega⟩ := by
  have hm : IsReal (max (top sl) (top sc)) := (IsReal.top hsl).max (IsReal.top hsc)
  have hel : ∀ i, IsReal (Ideal.exp (sl i - max (top sl) (top sc))) := fun i => ((hsl i).sub hm).exp'
  have hec : ∀ i, IsReal (Ideal.exp (sc i - max (top sl) (top sc))) := fun i => ((hsc i).sub hm).exp'
  have hD : ∃ d : ℝ, 0 < d ∧ (∑ i, Ideal.exp (sl i - max (top sl) (top sc))) + ∑ i, Ideal.exp (sc i - max (top sl) (top sc)) = (d : EReal) := by
    obtain ⟨a, ha, ea⟩ := sum_exp fun i => (hsl i).sub hm
    obtain ⟨b, hb, eb⟩ := sum_exp fun i => (hsc i).sub hm
    exact ⟨a + b, add_pos ha hb, by rw [ea, eb, EReal.coe_add]⟩
  unfold attend₂
  rw [div_add (IsReal.sum fun i => (hel i).mul (hvl i)) (IsReal.sum fun i => (hec i).mul (hvc i)) hD,
    div_sum hel hvl hD, div_sum hec hvc hD]
  unfold soft
  rw [top_append e sl sc s hl hc, sum_append e (fun k => Ideal.exp (s k - max (top sl) (top sc)))]
  simp only [hl, hc]

/-- The scale `96^(-1/2)`, rounded, is a real number. -/
theorem real_scale : IsReal (Ideal.ofBits .f32 0x3DD105EC#32) := by
  simp only [Ideal.ofBits, Ideal.ieee]
  simp
  rw [← EReal.coe_mul]
  exact ⟨_, rfl⟩

/-- A sum over 128 columns, those of one head of 32 selected, is the sum over the head's columns. -/
theorem sum_head32 (f : Fin 128 → EReal) (h : Fin 4) :
    (∑ k : Fin 128, if k.val / 32 = h.val then f k else 0) = ∑ d : Fin 32, f ⟨h.val * 32 + d.val, by omega⟩ := by
  have e := Equiv.sum_comp (finProdFinEquiv (m := 4) (n := 32)) (fun k : Fin 128 => if k.val / 32 = h.val then f k else 0)
  refine e.symm.trans ?_
  rw [Fintype.sum_prod_type]
  refine (Finset.sum_eq_single h (fun b _ hb => ?_) (fun hh => absurd (Finset.mem_univ _) hh)).trans ?_
  · refine Finset.sum_eq_zero fun d _ => if_neg ?_
    have : (finProdFinEquiv (b, d)).val = d.val + 32 * b.val := rfl
    have hb' : b.val ≠ h.val := fun hh => hb (Fin.ext hh)
    omega
  · refine Finset.sum_congr rfl fun d _ => ?_
    have e : (finProdFinEquiv (h, d)).val = d.val + 32 * h.val := rfl
    rw [if_pos (by omega)]
    exact congrArg f (Fin.ext (by simp only [e]; omega))

/-- The score of a query against a key in one head: 64 columns of the projected part and 32 of the rotated part, scaled. -/
def score (qn : Fin 256 → EReal) (qr : Fin 128 → EReal) (kn : Fin 256 → EReal) (kr : Fin 128 → EReal) (h : Fin 4) : EReal :=
  ((∑ d : Fin 64, qn ⟨h.val * 64 + d.val, by omega⟩ * kn ⟨h.val * 64 + d.val, by omega⟩)
    + ∑ d : Fin 32, qr ⟨h.val * 32 + d.val, by omega⟩ * kr ⟨h.val * 32 + d.val, by omega⟩) * Ideal.ofBits .f32 0x3DD105EC#32

theorem IsReal.score {qn kn : Fin 256 → EReal} {qr kr : Fin 128 → EReal} (hqn : ∀ i, IsReal (qn i)) (hkn : ∀ i, IsReal (kn i))
    (hqr : ∀ i, IsReal (qr i)) (hkr : ∀ i, IsReal (kr i)) (h : Fin 4) : IsReal (score qn qr kn kr h) :=
  ((IsReal.sum fun _ => (hqn _).mul (hkn _)).add (IsReal.sum fun _ => (hqr _).mul (hkr _))).mul real_scale

end Cert.Rows
-- ==== Proof.Loads.lean ====
module

public import Idealize.ShloMosaic.Lib.Pipeline.ValueKit
public import Idealize.ShloMosaic.Lib.Pointwise

@[expose] public section

noncomputable section

open Idealize.ShloMosaic

/-! A load of a block's rectangle, read at an index. -/

namespace Cert.Loads

variable {Val : EltTy → Type} {e : EltTy}

/-- Two axes. -/
theorem ld2 {n m n' m' a b : ℕ} (X : (⟨2, ![n, m]⟩ : Shape).Idx → Val e) (inb) (k : Fin n') (l : Fin m') (i : Fin n) (j : Fin m)
    (hi : i.val = a + k.val) (hj : j.val = b + l.val) :
    View.ld X (Rect.unit ![a, b] ![n', m'] inb) (ix2 k l) = X (ix2 i j) :=
  View.ld_unit_apply_of _ _ _ _ _ _ (Fin.forall_fin_two.2 ⟨hi, hj⟩)

/-- Three axes. -/
theorem ld3 {n m p n' m' p' a b c : ℕ} (X : (⟨3, ![n, m, p]⟩ : Shape).Idx → Val e) (inb) (k : Fin n') (l : Fin m') (o : Fin p')
    (i : Fin n) (j : Fin m) (q : Fin p) (hi : i.val = a + k.val) (hj : j.val = b + l.val) (hq : q.val = c + o.val) :
    View.ld X (Rect.unit ![a, b, c] ![n', m', p'] inb) (ix3 k l o) = X (ix3 i j q) :=
  View.ld_unit_apply_of _ _ _ _ _ _ (Fin.forall_fin_succ.2 ⟨hi, Fin.forall_fin_two.2 ⟨hj, hq⟩⟩)

end Cert.Loads
-- ==== Proof.Pieces.lean ====
module

public import Idealize.ShloMosaic.Lib.Pipeline.ValueKit
public import Idealize.ShloMosaic.Lib.Pointwise

@[expose] public section

noncomputable section

open Idealize.ShloMosaic

/-! A concatenation along the last axis, read at an index of one of its pieces. -/

namespace Cert.Pieces

variable {α : Type}

/-- Two axes. -/
theorem at2 {n m p : ℕ} (xs : List ((s : Shape) × (s.Idx → α)))
    (h : Shape.Concatenates (xs.map (·.1)) (⟨2, ![n, m]⟩ : Shape) 1) (k : Fin n) (j : Fin m) (i : ℕ) (hi : i < xs.length)
    (x : (⟨2, ![n, p]⟩ : Shape).Idx → α) (hx : xs[i] = ⟨⟨2, ![n, p]⟩, x⟩) (pre : ℕ)
    (hpre : (((xs.take i).map (·.1)).map fun s => if h : s.rank = 2 then s.size ((1 : Fin 2).cast h.symm) else 0).sum = pre)
    (l : Fin p) (hl : pre + l.val = j.val) :
    concatenate (⟨2, ![n, m]⟩ : Shape) 1 xs h (ix2 k j) = x (ix2 k l) :=
  concatenate_apply_piece (t := (⟨2, ![n, m]⟩ : Shape)) 1 xs h (ix2 k j) i hi _ x hx rfl pre hpre (ix2 k l)
    (Fin.forall_fin_two.2 ⟨fun _ => rfl, fun h => absurd rfl h⟩) hl

/-- Three axes. -/
theorem at3 {a n m p : ℕ} (xs : List ((s : Shape) × (s.Idx → α)))
    (h : Shape.Concatenates (xs.map (·.1)) (⟨3, ![a, n, m]⟩ : Shape) 2) (b : Fin a) (k : Fin n) (j : Fin m) (i : ℕ)
    (hi : i < xs.length) (x : (⟨3, ![a, n, p]⟩ : Shape).Idx → α) (hx : xs[i] = ⟨⟨3, ![a, n, p]⟩, x⟩) (pre : ℕ)
    (hpre : (((xs.take i).map (·.1)).map fun s => if h : s.rank = 3 then s.size ((2 : Fin 3).cast h.symm) else 0).sum = pre)
    (l : Fin p) (hl : pre + l.val = j.val) :
    concatenate (⟨3, ![a, n, m]⟩ : Shape) 2 xs h (ix3 b k j) = x (ix3 b k l) :=
  concatenate_apply_piece (t := (⟨3, ![a, n, m]⟩ : Shape)) 2 xs h (ix3 b k j) i hi _ x hx rfl pre hpre (ix3 b k l)
    (Fin.forall_fin_succ.2 ⟨fun _ => rfl, Fin.forall_fin_two.2 ⟨fun _ => rfl, fun h => absurd rfl h⟩⟩) hl

end Cert.Pieces

end
-- ==== Proof.MlaKer.lean ====
module

public import proofs.«01_k».proof.Proof.Gen.KernelIdeal.Frame
public import proofs.«01_k».proof.Proof.Attend
public import proofs.«01_k».proof.Proof.Loads
public import proofs.«01_k».proof.Proof.Pieces
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Value
open Cert.KernelIdeal Cert.KernelIdeal.Gen

section Body
variable {F : FTy → Type} [FloatOps F]

/-- The columns, of 256, that lie in head `h` of 64, as the kernel computes them. -/
def mask64 (h : BitVec 32) : IVec S1x256 1 :=
  cmpi .eq (select (andi (cmpi .ne k0_pay9 (broadcast S1x256 (Scalar.subi (Scalar.extui (Scalar.cmpi .sgt 64#32 0#32)) (Scalar.extui (Scalar.cmpi .slt 64#32 0#32)))))
      (cmpi .ne (remsi (iota .tc S1x256 32 [1] iota_S1x256_d1_w32) (broadcast S1x256 64#32)) (broadcast S1x256 0#32)))
    (subi k0_pay8 (broadcast S1x256 1#32)) k0_pay8) (broadcast S1x256 h)

/-- The columns, of 128, that lie in head `h` of 32, as the kernel computes them. -/
def mask32 (h : BitVec 32) : IVec S1x128 1 :=
  have v48 : IVec S1x128 32 := iota .tc S1x128 32 [1] iota_S1x128_d1_w32
  have v50 : IVec S1x128 32 := divsi v48 (broadcast S1x128 32#32)
  have v57 : IVec S1x128 32 := subi (extui 32 (cmpi .sgt v48 (broadcast S1x128 0#32)) natLt_1_32) (extui 32 (cmpi .slt v48 (broadcast S1x128 0#32)) natLt_1_32)
  cmpi .eq (select (andi (cmpi .ne v57 (broadcast S1x128 (Scalar.subi (Scalar.extui (Scalar.cmpi .sgt 32#32 0#32)) (Scalar.extui (Scalar.cmpi .slt 32#32 0#32)))))
      (cmpi .ne (remsi v48 (broadcast S1x128 32#32)) (broadcast S1x128 0#32)))
    (subi v50 (broadcast S1x128 1#32)) v50) (broadcast S1x128 h)

/-- The queries, their columns outside a head cleared. -/
def headQ (q : FVec F S256x256 .f32) (h : BitVec 32) : FVec F S256x256 .bf16 :=
  truncf .bf16 (select (broadcastTo S256x256 (shapeCast S1x256 (mask64 h) shapeCasts_S1x256_S1x256) broadcasts_S1x256_S256x256) q
    (broadcast S256x256 (Scalar.ofBits .f32 0x00000000#32))) bitsLt_bf16_f32

/-- The scores of a head against the keys of the sequence. -/
def scoreL (v1 : FVec F S256x256 .f32) (v3 : Vec F S256x128 .bf16) (v4 : Vec F S4096x256 .bf16) (v6 : Vec F S4096x128 .bf16)
    (h : BitVec 32) : FVec F S256x4096 .f32 :=
  mulf (addf (matmul dot_S256x256_S4096x256_S256x4096_1_1_0_0_n_n none (headQ v1 h) v4 (constant S256x4096 .f32 0x00000000#32))
    (matmul dot_S256x128_S4096x128_S256x4096_1_1_0_0_n_n none
      (select (broadcastTo S256x128 (shapeCast S1x128 (mask32 h) shapeCasts_S1x128_S1x128) broadcasts_S1x128_S256x128) v3
        (broadcast S256x128 (Scalar.truncf .bf16 bitsLt_bf16_f32 (Scalar.ofBits .f32 0x00000000#32)))) v6 (constant S256x4096 .f32 0x00000000#32)))
    (broadcast S256x4096 (Scalar.ofBits .f32 0x3DD105EC#32))

/-- The scores of a head against the keys of the context. -/
def scoreC (v1 : FVec F S256x256 .f32) (v2 : FVec F S256x128 .f32) (v14 : FVec F S256x256 .bf16) (v19 : FVec F S256x128 .bf16)
    (h : BitVec 32) : FVec F S256x256 .f32 :=
  mulf (addf (matmul dot_S256x256_S256x256_S256x256_1_1_0_0_n_n none (headQ v1 h) v14 (constant S256x256 .f32 0x00000000#32))
    (matmul dot_S256x128_S256x128_S256x256_1_1_0_0_n_n none
      (truncf .bf16 (select (broadcastTo S256x128 (shapeCast S1x128 (mask32 h) shapeCasts_S1x128_S1x128) broadcasts_S1x128_S256x128) v2
        (broadcast S256x128 (Scalar.ofBits .f32 0x00000000#32))) bitsLt_bf16_f32) v19 (constant S256x256 .f32 0x00000000#32)))
    (broadcast S256x256 (Scalar.ofBits .f32 0x3DD105EC#32))

/-- The greatest score of each row. -/
def greatest (sl : FVec F S256x4096 .f32) (sc : FVec F S256x256 .f32) : FVec F S256x1 .f32 :=
  maximumf (shapeCast S256x1 (multiReduction .maximumf [1] S256 sl 0xFF800000#32 reduces_S256x4096_S256 (.inl rfl) rfl) shapeCasts_S256_S256x1)
    (shapeCast S256x1 (multiReduction .maximumf [1] S256 sc 0xFF800000#32 reduces_S256x256_S256 (.inl rfl) rfl) shapeCasts_S256_S256x1)

/-- The weighted values of a head over the sum of its weights. -/
def quot (sl : FVec F S256x4096 .f32) (sc : FVec F S256x256 .f32) (v5 : Vec F S4096x256 .bf16) (v16 : FVec F S256x256 .bf16) :
    FVec F S256x256 .f32 :=
  have pl : FVec F S256x4096 .f32 := exp (subf sl (broadcastTo S256x4096 (greatest sl sc) broadcasts_S256x1_S256x4096))
  have pc : FVec F S256x256 .f32 := exp (subf sc (broadcastTo S256x256 (greatest sl sc) broadcasts_S256x1_S256x256))
  divf (addf (matmul dot_S256x4096_S4096x256_S256x256_1_0_0_1_n_n none (truncf .bf16 pl bitsLt_bf16_f32) v5 (constant S256x256 .f32 0x00000000#32))
      (matmul dot_S256x256_S256x256_S256x256_1_0_0_1_n_n none (truncf .bf16 pc bitsLt_bf16_f32) v16 (constant S256x256 .f32 0x00000000#32)))
    (broadcastTo S256x256 (addf (shapeCast S256x1 (multiReduction .add [1] S256 pl 0x00000000#32 reduces_S256x4096_S256 (.inl rfl) rfl) shapeCasts_S256_S256x1)
      (shapeCast S256x1 (multiReduction .add [1] S256 pc 0x00000000#32 reduces_S256x256_S256 (.inl rfl) rfl) shapeCasts_S256_S256x1)) broadcasts_S256x1_S256x256)

/-- A head's attention on the head's own columns, zero elsewhere. -/
def one (v1 : FVec F S256x256 .f32) (v2 : FVec F S256x128 .f32) (v3 : Vec F S256x128 .bf16) (v4 v5 : Vec F S4096x256 .bf16)
    (v6 : Vec F S4096x128 .bf16) (v14 v16 : FVec F S256x256 .bf16) (v19 : FVec F S256x128 .bf16) (h : BitVec 32) : FVec F S256x256 .f32 :=
  select (broadcastTo S256x256 (shapeCast S1x256 (mask64 h) shapeCasts_S1x256_S1x256) broadcasts_S1x256_S256x256)
    (quot (scoreL v1 v3 v4 v6 h) (scoreC v1 v2 v14 v19 h) v5 v16) (broadcast S256x256 (Scalar.ofBits .f32 0x00000000#32))

/-- What the body stores: the four heads' attentions, summed. -/
def heads (x0 : Vec F S256x384 .f32) (v3 : Vec F S256x128 .bf16) (v4 v5 : Vec F S4096x256 .bf16)
    (v6 : Vec F S4096x128 .bf16) (x4 : Vec F S1x256x128 .f32) (x5 : Vec F S1x256x128 .f32) (x6 : Vec F S128x512 .bf16) : FVec F S256x256 .f32 :=
  addf (addf (addf (addf k0_pay7 (one (k0_pay1 x0) (k0_pay2 x0) v3 v4 v5 v6 (k0_pay4 x4 x6) (k0_pay5 x4 x6) (k0_pay6 x5) 0#32))
    (one (k0_pay1 x0) (k0_pay2 x0) v3 v4 v5 v6 (k0_pay4 x4 x6) (k0_pay5 x4 x6) (k0_pay6 x5) 1#32))
    (one (k0_pay1 x0) (k0_pay2 x0) v3 v4 v5 v6 (k0_pay4 x4 x6) (k0_pay5 x4 x6) (k0_pay6 x5) 2#32))
    (one (k0_pay1 x0) (k0_pay2 x0) v3 v4 v5 v6 (k0_pay4 x4 x6) (k0_pay5 x4 x6) (k0_pay6 x5) 3#32)

/-- The stored block, as the sum of the heads. -/
theorem out_heads (x0 : Vec F S256x384 .f32) (x1 : Vec F S256x128 .bf16) (x2 : Vec F S4096x512 .bf16) (x3 : Vec F S4096x128 .bf16)
    (x4 : Vec F S1x256x128 .f32) (x5 : Vec F S1x256x128 .f32) (x6 : Vec F S128x512 .bf16) :
    out0_7 x0 x1 x2 x3 x4 x5 x6 = View.canon [⟨r0_7, heads (View.ld x0 r0_0) (View.ld x1 r0_1) (View.ld x2 r0_2) (View.ld x2 r0_3)
      (View.ld x3 r0_4) (View.ld x4 r0_5) (View.ld x5 r0_5) (View.ld x6 r0_6)⟩] := by
  rfl

end Body

/-- The floor division of a column number by 64, as the kernel computes it. -/
theorem floor64 : ∀ k : Fin 256, Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 k.val) 64#32) 0#32))
          (IntOp.subi (IntOp.divsi ArithUnit.vector (BitVec.ofNat 32 k.val) 64#32) 1#32)
          (IntOp.divsi ArithUnit.vector (BitVec.ofNat 32 k.val) 64#32) = BitVec.ofNat 32 (k.val / 64) := by
  decide +kernel

/-- The floor division of a column number by 32, as the kernel computes it. -/
theorem floor32 : ∀ k : Fin 128, Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 k.val) 32#32) 0#32))
          (IntOp.subi (IntOp.divsi ArithUnit.vector (BitVec.ofNat 32 k.val) 32#32) 1#32)
          (IntOp.divsi ArithUnit.vector (BitVec.ofNat 32 k.val) 32#32) = BitVec.ofNat 32 (k.val / 32) := by
  decide +kernel

/-- Comparing two head numbers. -/
theorem eq4 : ∀ a b : Fin 4, IntOp.cmpi CmpIPredicate.eq (BitVec.ofNat 32 a.val) (BitVec.ofNat 32 b.val)
    = if a.val = b.val then 1#1 else 0#1 := by
  decide +kernel

/-- The mask of 64-column heads. -/
theorem mask64_at (h : Fin 4) (k : Fin 256) : mask64 (BitVec.ofNat 32 h.val) (ix2 0 k) = if k.val / 64 = h.val then 1#1 else 0#1 := by
  pointwise [mask64, k0_pay8, k0_pay9]
  rw [floor64 k]
  exact eq4 ⟨k.val / 64, by omega⟩ h

/-- The mask of 32-column heads. -/
theorem mask32_at (h : Fin 4) (k : Fin 128) : mask32 (BitVec.ofNat 32 h.val) (ix2 0 k) = if k.val / 32 = h.val then 1#1 else 0#1 := by
  pointwise [mask32]
  rw [floor32 k]
  exact eq4 ⟨k.val / 32, by omega⟩ h

/-- A selection by an indicator. -/
theorem select_ite {α : Type} (p : Prop) [Decidable p] (a b : α) : Scalar.select (if p then 1#1 else 0#1) a b = if p then a else b := by
  by_cases h : p <;> simp [h, Scalar.select]

/-- The queries of a head. -/
theorem headQ_at (q : FVec Ideal S256x256 .f32) (h : Fin 4) (r k : Fin 256) :
    headQ (F := Ideal) q (BitVec.ofNat 32 h.val) (ix2 r k) = if k.val / 64 = h.val then q (ix2 r k) else (0 : EReal) := by
  have hm := mask64_at h
  have hs := fun (p : Prop) [Decidable p] (a b : EReal) => select_ite p a b
  pointwise [headQ, hm, hs]

/-- The scores of a head against the keys of the sequence. -/
theorem scoreL_at (v1 : FVec Ideal S256x256 .f32) (v3 : FVec Ideal S256x128 .bf16) (v4 : FVec Ideal S4096x256 .bf16)
    (v6 : FVec Ideal S4096x128 .bf16) (h : Fin 4) (r : Fin 256) (k : Fin 4096) :
    scoreL (F := Ideal) v1 v3 v4 v6 (BitVec.ofNat 32 h.val) (ix2 r k)
      = Rows.score (fun l => v1 (ix2 r l)) (fun l => v3 (ix2 r l)) (fun l => v4 (ix2 k l)) (fun l => v6 (ix2 k l)) h := by
  have hq := headQ_at v1 h
  have hm := mask32_at h
  have hs := fun (p : Prop) [Decidable p] (a b : EReal) => select_ite p a b
  pointwise [scoreL, hq, hm, hs, Rows.score]
  have e := Rows.sum_head (fun l => v1 (ix2 r l) * v4 (ix2 k l)) h
  have e' := Rows.sum_head32 (fun l => v3 (ix2 r l) * v6 (ix2 k l)) h
  simp only [ite_mul, zero_mul] at e e' ⊢
  rw [e, e']

/-- The scores of a head against the keys of the context. -/
theorem scoreC_at (v1 : FVec Ideal S256x256 .f32) (v2 : FVec Ideal S256x128 .f32) (v14 : FVec Ideal S256x256 .bf16)
    (v19 : FVec Ideal S256x128 .bf16) (h : Fin 4) (r k : Fin 256) :
    scoreC (F := Ideal) v1 v2 v14 v19 (BitVec.ofNat 32 h.val) (ix2 r k)
      = Rows.score (fun l => v1 (ix2 r l)) (fun l => v2 (ix2 r l)) (fun l => v14 (ix2 k l)) (fun l => v19 (ix2 k l)) h := by
  have hq := headQ_at v1 h
  have hm := mask32_at h
  have hs := fun (p : Prop) [Decidable p] (a b : EReal) => select_ite p a b
  pointwise [scoreC, hq, hm, hs, Rows.score]
  have e := Rows.sum_head (fun l => v1 (ix2 r l) * v14 (ix2 k l)) h
  have e' := Rows.sum_head32 (fun l => v2 (ix2 r l) * v19 (ix2 k l)) h
  simp only [ite_mul, zero_mul] at e e' ⊢
  rw [e, e']

/-- The weighted values over the sum of the weights. -/
theorem quot_at (sl : FVec Ideal S256x4096 .f32) (sc : FVec Ideal S256x256 .f32) (v5 : FVec Ideal S4096x256 .bf16)
    (v16 : FVec Ideal S256x256 .bf16) (r j : Fin 256) :
    quot (F := Ideal) sl sc v5 v16 (ix2 r j)
      = Rows.attend₂ (fun k => sl (ix2 r k)) (fun k => sc (ix2 r k)) (fun k => v5 (ix2 k j)) (fun k => v16 (ix2 k j)) := by
  have hg : greatest (F := Ideal) sl sc (ix2 r 0) = max (Rows.top fun k => sl (ix2 r k)) (Rows.top fun k => sc (ix2 r k)) := by
    pointwise [greatest, Rows.top]
  pointwise [quot, hg, Rows.attend₂]

/-- A head's attention on the head's own columns. -/
theorem one_at (v1 : FVec Ideal S256x256 .f32) (v2 : FVec Ideal S256x128 .f32) (v3 : FVec Ideal S256x128 .bf16) (v4 v5 : FVec Ideal S4096x256 .bf16)
    (v6 : FVec Ideal S4096x128 .bf16) (v14 v16 : FVec Ideal S256x256 .bf16) (v19 : FVec Ideal S256x128 .bf16) (h : Fin 4) (r j : Fin 256) :
    one (F := Ideal) v1 v2 v3 v4 v5 v6 v14 v16 v19 (BitVec.ofNat 32 h.val) (ix2 r j)
      = if j.val / 64 = h.val then Rows.attend₂
          (fun k => Rows.score (fun l => v1 (ix2 r l)) (fun l => v3 (ix2 r l)) (fun l => v4 (ix2 k l)) (fun l => v6 (ix2 k l)) h)
          (fun k => Rows.score (fun l => v1 (ix2 r l)) (fun l => v2 (ix2 r l)) (fun l => v14 (ix2 k l)) (fun l => v19 (ix2 k l)) h)
          (fun k => v5 (ix2 k j)) (fun k => v16 (ix2 k j)) else (0 : EReal) := by
  have hm := mask64_at h
  have hs := fun (p : Prop) [Decidable p] (a b : EReal) => select_ite p a b
  have hq := quot_at (scoreL v1 v3 v4 v6 (BitVec.ofNat 32 h.val)) (scoreC v1 v2 v14 v19 (BitVec.ofNat 32 h.val)) v5 v16
  have hL := scoreL_at v1 v3 v4 v6 h
  have hC := scoreC_at v1 v2 v14 v19 h
  pointwise [one, hm, hs, hq, hL, hC]

/-- What the body stores at row `r`, column `j` of its block. -/
theorem heads_at (x0 : FVec Ideal S256x384 .f32) (v3 : FVec Ideal S256x128 .bf16) (v4 v5 : FVec Ideal S4096x256 .bf16)
    (v6 : FVec Ideal S4096x128 .bf16) (x4 x5 : FVec Ideal S1x256x128 .f32) (x6 : FVec Ideal S128x512 .bf16) (r j : Fin 256) :
    heads (F := Ideal) x0 v3 v4 v5 v6 x4 x5 x6 (ix2 r j)
      = Rows.attend₂
          (fun k => Rows.score (fun l => x0 (ix2 r ⟨l.val, by omega⟩)) (fun l => v3 (ix2 r l)) (fun l => v4 (ix2 k l)) (fun l => v6 (ix2 k l)) ⟨j.val / 64, by omega⟩)
          (fun k => Rows.score (fun l => x0 (ix2 r ⟨l.val, by omega⟩)) (fun l => x0 (ix2 r ⟨256 + l.val, by omega⟩))
            (fun l => ∑ i : Fin 128, x4 (ix3 0 k i) * x6 (ix2 i ⟨l.val, by omega⟩)) (fun l => x5 (ix3 0 k l)) ⟨j.val / 64, by omega⟩)
          (fun k => v5 (ix2 k j)) (fun k => ∑ i : Fin 128, x4 (ix3 0 k i) * x6 (ix2 i ⟨256 + j.val, by omega⟩)) := by
  have e1 : ∀ l : Fin 256, k0_pay1 (F := Ideal) x0 (ix2 r l) = x0 (ix2 r ⟨l.val, by omega⟩) := fun l => by pointwise [k0_pay1]
  have e2 : ∀ l : Fin 128, k0_pay2 (F := Ideal) x0 (ix2 r l) = x0 (ix2 r ⟨256 + l.val, by omega⟩) := fun l => by pointwise [k0_pay2]
  have e4 : ∀ k l : Fin 256, k0_pay4 (F := Ideal) x4 x6 (ix2 k l) = ∑ i : Fin 128, x4 (ix3 0 k i) * x6 (ix2 i ⟨l.val, by omega⟩) := fun k l => by
    pointwise [k0_pay4, k0_pay3]
  have e5 : ∀ k l : Fin 256, k0_pay5 (F := Ideal) x4 x6 (ix2 k l) = ∑ i : Fin 128, x4 (ix3 0 k i) * x6 (ix2 i ⟨256 + l.val, by omega⟩) := fun k l => by
    pointwise [k0_pay5, k0_pay3]
  have e6 : ∀ (k : Fin 256) (l : Fin 128), k0_pay6 (F := Ideal) x5 (ix2 k l) = x5 (ix3 0 k l) := fun k l => by pointwise [k0_pay6]
  have o := fun h : Fin 4 => one_at (k0_pay1 x0) (k0_pay2 x0) v3 v4 v5 v6 (k0_pay4 x4 x6) (k0_pay5 x4 x6) (k0_pay6 x5) h r j
  simp only [e1, e2, e4, e5, e6] at o
  have o0 := o 0; have o1 := o 1; have o2 := o 2; have o3 := o 3
  have z : k0_pay7 (F := Ideal) (ix2 r j) = (0 : EReal) := by pointwise [k0_pay7]
  show ((((k0_pay7 (F := Ideal) (ix2 r j) + one (F := Ideal) _ _ _ _ _ _ _ _ _ (BitVec.ofNat 32 (0 : Fin 4).val) (ix2 r j) : EReal) + one (F := Ideal) _ _ _ _ _ _ _ _ _ (BitVec.ofNat 32 (1 : Fin 4).val) (ix2 r j) : EReal)
    + one (F := Ideal) _ _ _ _ _ _ _ _ _ (BitVec.ofNat 32 (2 : Fin 4).val) (ix2 r j) : EReal) + one (F := Ideal) _ _ _ _ _ _ _ _ _ (BitVec.ofNat 32 (3 : Fin 4).val) (ix2 r j) : EReal) = _
  rw [o0, o1, o2, o3, z]
  have hj : j.val / 64 = 0 ∨ j.val / 64 = 1 ∨ j.val / 64 = 2 ∨ j.val / 64 = 3 := by omega
  rcases hj with h | h | h | h
  · have e : (⟨j.val / 64, by omega⟩ : Fin 4) = 0 := Fin.ext h
    rw [e]; simp [h]
  · have e : (⟨j.val / 64, by omega⟩ : Fin 4) = 1 := Fin.ext h
    rw [e]; simp [h]
  · have e : (⟨j.val / 64, by omega⟩ : Fin 4) = 2 := Fin.ext h
    rw [e]; simp [h]
  · have e : (⟨j.val / 64, by omega⟩ : Fin 4) = 3 := Fin.ext h
    rw [e]; simp [h]

end Cert.KernelIdeal.Value
-- ==== Proof.MlaFin.lean ====
module

public import proofs.«01_k».proof.Proof.MlaKer

@[expose] public section

set_option maxRecDepth 16384

noncomputable section

open Idealize.ShloMosaic Idealize.ShloMosaic.TcCoe Idealize.SL.Sem

/-! The latent attention's array after the run, from the arrays the call starts from. -/

namespace Cert.KernelIdeal.Value
open Cert.KernelIdeal Cert.KernelIdeal.Gen

/-- The up-projected keys and values of the context, at a cache row and a column of the head-major weight. -/
def ctxKV (ck : FVec Ideal S2x256x128 .f32) (w : FVec Ideal S128x512 .f32) (b : Fin 2) (k : Fin 256) (l : Fin 512) : EReal :=
  ∑ i : Fin 128, ck (ix3 b k i) * w (ix2 i l)

/-- The column, in the head-major weight, of key column `l`. -/
def keyCol (l : Fin 256) : Fin 512 := ⟨l.val / 64 * 128 + l.val % 64, by omega⟩

/-- The column, in the head-major weight, of value column `l`. -/
def valCol (l : Fin 256) : Fin 512 := ⟨l.val / 64 * 128 + 64 + l.val % 64, by omega⟩

/-- The position, in the key rows of all sequences, of key `k` of the sequence that holds row `r`. -/
def keyRow (r : Fin 8192) (k : Fin 4096) : Fin 8192 := ⟨r.val / 4096 * 4096 + k.val, by omega⟩

/-- The sequence that holds row `r`. -/
def seqOf (r : Fin 8192) : Fin 2 := ⟨r.val / 4096, by omega⟩

/-- The attention of row `r` at column `j`. -/
def attn (qb : FVec Ideal S8192x384 .f32) (qr : FVec Ideal S8192x128 .bf16) (knv : FVec Ideal S8192x512 .bf16)
    (kr : FVec Ideal S8192x128 .bf16) (ck : FVec Ideal S2x256x128 .f32) (cr : FVec Ideal S2x256x32 .f32) (w : FVec Ideal S128x512 .f32)
    (r : Fin 8192) (j : Fin 256) : EReal :=
  Rows.attend₂
    (fun k => Rows.score (fun l => qb (ix2 r ⟨l.val, by omega⟩)) (fun l => qr (ix2 r l)) (fun l => knv (ix2 (keyRow r k) ⟨l.val, by omega⟩))
      (fun l => kr (ix2 (keyRow r k) l)) ⟨j.val / 64, by omega⟩)
    (fun k => Rows.score (fun l => qb (ix2 r ⟨l.val, by omega⟩)) (fun l => qb (ix2 r ⟨256 + l.val, by omega⟩))
      (fun l => ctxKV ck w (seqOf r) k (keyCol l)) (fun l => cr (ix3 (seqOf r) k ⟨l.val % 32, by omega⟩)) ⟨j.val / 64, by omega⟩)
    (fun k => knv (ix2 (keyRow r k) ⟨256 + j.val, by omega⟩)) (fun k => ctxKV ck w (seqOf r) k (valCol j))

/-- The attention of every row. -/
def attnRows (qb : FVec Ideal S8192x384 .f32) (qr : FVec Ideal S8192x128 .bf16) (knv : FVec Ideal S8192x512 .bf16)
    (kr : FVec Ideal S8192x128 .bf16) (ck : FVec Ideal S2x256x128 .f32) (cr : FVec Ideal S2x256x32 .f32) (w : FVec Ideal S128x512 .f32) :
    FVec Ideal S8192x256 .f32 :=
  fun i => attn qb qr knv kr ck cr w (i 0) (i 1)

/-- The block indices of the pipelined windows. -/
theorem idx : ∀ t : Fin cfg0.N, win0_0.index t = ![t.val, 0] ∧ win0_1.index t = ![t.val, 0] ∧ win0_2.index t = ![t.val / 16, 0]
    ∧ win0_3.index t = ![t.val / 16, 0] ∧ win0_4.index t = ![t.val / 16, 0, 0] ∧ win0_5.index t = ![t.val / 16, 0, 0]
    ∧ win0_6.index t = ![0, 0] ∧ win0_7.index t = ![t.val, 0] :=
  (by decide +kernel : ∀ t : Fin grid0.N, _)

/-- Row `r` of block `t`, among the array's rows. -/
def row (t : Fin cfg0.N) (r : Fin 256) : Fin 8192 :=
  ⟨t.val * 256 + r.val, by have := t.isLt; have e : cfg0.N = 32 := rfl; omega⟩

/-- The packed weight: the keys of the four heads, then the values. -/
def packed (w : FVec Ideal S128x512 .f32) : FVec Ideal S128x512 .bf16 :=
  truncf .bf16 (concatenate S128x512 1
    [⟨S128x256, shapeCast S128x256 (extractStridedSlice S128x4x64 ![0, 0, 0] (shapeCast S128x4x128 w shapeCasts_S128x512_S128x4x128) slices_S128x4x128_S128x4x64_0_0_0) shapeCasts_S128x4x64_S128x256⟩,
     ⟨S128x256, shapeCast S128x256 (extractStridedSlice S128x4x64 ![0, 0, 64] (shapeCast S128x4x128 w shapeCasts_S128x512_S128x4x128) slices_S128x4x128_S128x4x64_0_0_64) shapeCasts_S128x4x64_S128x256⟩]
    concatenates_S128x256_S128x256_S128x512_d1) bitsLt_bf16_f32

theorem packed_key (w : FVec Ideal S128x512 .f32) (i : Fin 128) (l : Fin 256) :
    packed w (ix2 i ⟨l.val, by omega⟩) = w (ix2 i (keyCol l)) := by
  refine Eq.trans (Pieces.at2 _ (by exact concatenates_S128x256_S128x256_S128x512_d1) i _ 0 (by simp) _ rfl 0 rfl l (by simp)) ?_
  unfold keyCol
  pointwise

theorem packed_val (w : FVec Ideal S128x512 .f32) (i : Fin 128) (l : Fin 256) :
    packed w (ix2 i ⟨256 + l.val, by omega⟩) = w (ix2 i (valCol l)) := by
  refine Eq.trans (Pieces.at2 _ (by exact concatenates_S128x256_S128x256_S128x512_d1) i _ 1 (by simp) _ rfl 256 rfl l (by simp)) ?_
  unfold valCol
  pointwise [Nat.add_assoc]

/-- The context's rotated keys, repeated once per head. -/
def repeated (cr : FVec Ideal S2x256x32 .f32) : FVec Ideal S2x256x128 .f32 :=
  shapeCast S2x256x128 (broadcastInDim S1x2x1x256x4x32 ![0, 1, 2, 3, 4, 5] bcast_S1x2x1x256x1x32_S1x2x1x256x4x32_0_1_2_3_4_5
    (shapeCast S1x2x1x256x1x32 cr shapeCasts_S2x256x32_S1x2x1x256x1x32)) shapeCasts_S1x2x1x256x4x32_S2x256x128

theorem repeated_at (cr : FVec Ideal S2x256x32 .f32) (b : Fin 2) (k : Fin 256) (l : Fin 128) :
    repeated cr (ix3 b k l) = cr (ix3 b k ⟨l.val % 32, by omega⟩) := by
  unfold repeated
  pointwise

variable (m : (ℓ : Loc nD τ sig) → Buf (Elt Ideal) ℓ)

/-- The packed weight as the call finds it. -/
theorem weight (c : Dev nD) : V m c main_v6 = packed (m ((c : Thread nD τ).loc main_arg6)) := by
  unfold V
  simp only [hostOps0]
  after_results_simp
  rfl

/-- The repeated keys as the call finds them. -/
theorem keys (c : Dev nD) : V m c main_v9 = repeated (m ((c : Thread nD τ).loc main_arg5)) := by
  unfold V
  simp only [hostOps0]
  after_results_simp
  rfl

section Blocks
variable (c : Dev nD) (t : Fin cfg0.N)

theorem blk0 (r : Fin 256) (l : Fin 384) : (iblk m c 0 t : FVec Ideal S256x384 .f32) (ix2 r l)
    = (m ((c : Thread nD τ).loc main_arg0) : FVec Ideal S8192x384 .f32) (ix2 (row t r) l) := by
  have e := V_main_arg0 m c
  blk_point [iblk, e, idx t, row]

theorem blk1 (r : Fin 256) (l : Fin 128) : (iblk m c 1 t : FVec Ideal S256x128 .bf16) (ix2 r l)
    = (m ((c : Thread nD τ).loc main_arg1) : FVec Ideal S8192x128 .bf16) (ix2 (row t r) l) := by
  have e := V_main_arg1 m c
  blk_point [iblk, e, idx t, row]

theorem blk2 (r : Fin 256) (k : Fin 4096) (l : Fin 512) : (iblk m c 2 t : FVec Ideal S4096x512 .bf16) (ix2 k l)
    = (m ((c : Thread nD τ).loc main_arg2) : FVec Ideal S8192x512 .bf16) (ix2 (keyRow (row t r) k) l) := by
  have e := V_main_arg2 m c
  have d : (t.val * 256 + r.val) / 4096 = t.val / 16 := by omega
  blk_point [iblk, e, idx t, keyRow, row, d]

theorem blk3 (r : Fin 256) (k : Fin 4096) (l : Fin 128) : (iblk m c 3 t : FVec Ideal S4096x128 .bf16) (ix2 k l)
    = (m ((c : Thread nD τ).loc main_arg3) : FVec Ideal S8192x128 .bf16) (ix2 (keyRow (row t r) k) l) := by
  have e := V_main_arg3 m c
  have d : (t.val * 256 + r.val) / 4096 = t.val / 16 := by omega
  blk_point [iblk, e, idx t, keyRow, row, d]

theorem blk4 (r k : Fin 256) (l : Fin 128) : (iblk m c 4 t : FVec Ideal S1x256x128 .f32) (ix3 0 k l)
    = (m ((c : Thread nD τ).loc main_arg4) : FVec Ideal S2x256x128 .f32) (ix3 (seqOf (row t r)) k l) := by
  have e := V_main_arg4 m c
  have d : (t.val * 256 + r.val) / 4096 = t.val / 16 := by omega
  blk_point [iblk, e, idx t, seqOf, row, d]

theorem blk5 (r k : Fin 256) (l : Fin 128) : (iblk m c 5 t : FVec Ideal S1x256x128 .f32) (ix3 0 k l)
    = (m ((c : Thread nD τ).loc main_arg5) : FVec Ideal S2x256x32 .f32) (ix3 (seqOf (row t r)) k ⟨l.val % 32, by omega⟩) := by
  refine Eq.trans ?_ (repeated_at _ _ _ _)
  rw [← keys m c]
  have d : (t.val * 256 + r.val) / 4096 = t.val / 16 := by omega
  blk_point [iblk, idx t, seqOf, row, d]

theorem blk6 (k : Fin 128) (l : Fin 512) : (iblk m c 6 t : FVec Ideal S128x512 .bf16) (ix2 k l)
    = packed (m ((c : Thread nD τ).loc main_arg6)) (ix2 k l) := by
  rw [← weight m c]
  blk_point [iblk, idx t]

/-- Block `t` of the attention. -/
theorem point (y : S256x256.Idx) :
    heads (F := Ideal) (iblk m c 0 t) (iblk m c 1 t)
      (View.ld (iblk m c 2 t) (Rect.unit ![0, 0] ![4096, 256] inb_S4096x512_S4096x256_0_0))
      (View.ld (iblk m c 2 t) (Rect.unit ![0, 256] ![4096, 256] inb_S4096x512_S4096x256_0_256))
      (iblk m c 3 t) (iblk m c 4 t) (iblk m c 5 t) (iblk m c 6 t) y
      = attnRows (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (ix2 (row t (y 0)) (y 1)) := by
  obtain ⟨r, j, rfl⟩ : ∃ r j : Fin 256, y = ix2 r j := ⟨y 0, y 1, eq_ix2 y⟩
  refine (heads_at _ _ _ _ _ _ _ _ r j).trans ?_
  have h0 := blk0 m c t r
  have h1 := blk1 m c t r
  have h2 := blk2 m c t r
  have h3 := blk3 m c t r
  have h4 := blk4 m c t r
  have h5 := blk5 m c t r
  have h6 := blk6 m c t
  have p := packed_key (m ((c : Thread nD τ).loc main_arg6))
  have q := packed_val (m ((c : Thread nD τ).loc main_arg6))
  have l1 : ∀ (k : Fin 4096) (l : Fin 256), View.ld (iblk m c 2 t) (Rect.unit ![0, 0] ![4096, 256] inb_S4096x512_S4096x256_0_0) (ix2 k l)
      = (iblk m c 2 t : FVec Ideal S4096x512 .bf16) (ix2 k ⟨l.val, by omega⟩) := fun k l => Loads.ld2 _ _ _ _ _ _ (by simp) (by simp)
  have l2 : ∀ (k : Fin 4096) (l : Fin 256), View.ld (iblk m c 2 t) (Rect.unit ![0, 256] ![4096, 256] inb_S4096x512_S4096x256_0_256) (ix2 k l)
      = (iblk m c 2 t : FVec Ideal S4096x512 .bf16) (ix2 k ⟨256 + l.val, by omega⟩) := fun k l => Loads.ld2 _ _ _ _ _ _ (by simp) (by simp)
  simp only [l1, l2, h0, h1, h2, h3, h4, h5, h6, p, q]
  rfl

end Blocks

/-- Where block `t` of the result lies. -/
theorem emb7 (t : Fin cfg0.N) (y : S256x256.Idx) :
    (((cfg0.win 7).blk t).view.emb y : S8192x256.Idx) = ix2 (row t (y 0)) (y 1) := by
  funext a
  match a with
  | ⟨0, _⟩ => exact Fin.ext (by blk_simp [idx t, row]; rfl)
  | ⟨1, _⟩ => exact Fin.ext (by blk_simp [idx t]; rfl)

/-- The result array after the run. -/
theorem final (c : Dev nD) : (dats m 0 c).arrAt 7 (cfgs 0).N
    = attnRows (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) := by
  refine (dats m 0 c).arrAt_eq_of_covers 7 _ (by decide +kernel) fun t _ y => ?_
  have h := (point m c t y).trans (congrArg (attnRows (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6))) (emb7 t y).symm)
  blk_simp; rw [after0_7, out_heads]
  unfold r0_0 r0_1 r0_2 r0_3 r0_4 r0_5 r0_6 r0_7
  simp (disch := decide) only [View.ld_unit_lit']
  frame_out
  exact h

end Cert.KernelIdeal.Value

end
-- ==== Proof.Pieces4.lean ====
module

public import Idealize.ShloMosaic.Lib.Pipeline.ValueKit
public import Idealize.ShloMosaic.Lib.Pointwise

@[expose] public section

noncomputable section

open Idealize.ShloMosaic

/-! A concatenation of arrays of four axes along the last, read at an index of one of its pieces. -/

namespace Cert.Pieces

variable {α : Type}

/-- Four axes. -/
theorem at4 {a b n m p : ℕ} (xs : List ((s : Shape) × (s.Idx → α)))
    (h : Shape.Concatenates (xs.map (·.1)) (⟨4, ![a, b, n, m]⟩ : Shape) 3) (u : Fin a) (v : Fin b) (k : Fin n) (j : Fin m) (i : ℕ)
    (hi : i < xs.length) (x : (⟨4, ![a, b, n, p]⟩ : Shape).Idx → α) (hx : xs[i] = ⟨⟨4, ![a, b, n, p]⟩, x⟩) (pre : ℕ)
    (hpre : (((xs.take i).map (·.1)).map fun s => if h : s.rank = 4 then s.size ((3 : Fin 4).cast h.symm) else 0).sum = pre)
    (l : Fin p) (hl : pre + l.val = j.val) :
    concatenate (⟨4, ![a, b, n, m]⟩ : Shape) 3 xs h (ix4 u v k j) = x (ix4 u v k l) :=
  concatenate_apply_piece (t := (⟨4, ![a, b, n, m]⟩ : Shape)) 3 xs h (ix4 u v k j) i hi _ x hx rfl pre hpre (ix4 u v k l)
    (Fin.forall_fin_succ.2 ⟨fun _ => rfl, Fin.forall_fin_succ.2 ⟨fun _ => rfl, Fin.forall_fin_two.2 ⟨fun _ => rfl, fun h => absurd rfl h⟩⟩⟩) hl

end Cert.Pieces

end
-- ==== Proof.MlaRef.lean ====
module

public import proofs.«01_k».proof.Proof.Gen.ReferenceIdeal.Read
public import proofs.«01_k».proof.Proof.Attend
public import proofs.«01_k».proof.Proof.Pieces4
public import Idealize.ShloMosaic.Lib.Pointwise

@[expose] public section

set_option maxRecDepth 16384

noncomputable section

open Idealize.ShloMosaic Idealize.ShloMosaic.TcCoe Idealize.SL.Sem

/-! The latent attention of the reference, entry by entry. -/

namespace Cert.ReferenceIdeal.Value
open Cert.ReferenceIdeal Cert.ReferenceIdeal.Gen Cert.ReferenceIdeal.Read

variable (x0 : FVec Ideal S8192x384 .f32) (x1 : FVec Ideal S8192x128 .bf16) (x2 : FVec Ideal S8192x512 .bf16)
  (x3 : FVec Ideal S8192x128 .bf16) (x4 : FVec Ideal S2x256x128 .f32) (x5 : FVec Ideal S2x256x32 .f32) (x6 : FVec Ideal S128x512 .f32)

/-- The row of token `s` of sequence `b`. -/
def tok (b : Fin 2) (s : Fin 4096) : Fin 8192 := ⟨b.val * 4096 + s.val, by omega⟩

/-- Column `d` of a head of 64. -/
def col64 (h : Fin 4) (d : Fin 64) : Fin 256 := ⟨h.val * 64 + d.val, by omega⟩

/-- Column `d` of a head of 32. -/
def col32 (h : Fin 4) (d : Fin 32) : Fin 128 := ⟨h.val * 32 + d.val, by omega⟩

/-- The up-projected keys and values of the context. -/
theorem ref_kv (b : Fin 2) (k : Fin 256) (h : Fin 4) (d : Fin 128) :
    val_main_v16 (F := Ideal) x4 x6 (ix4 b k h d) = ∑ i : Fin 128, x4 (ix3 b k i) * x6 (ix2 i ⟨h.val * 128 + d.val, by omega⟩) := by
  pointwise [val_main_v15, val_main_v16]

/-! The heads' queries and keys, piece by piece. -/

theorem q1 (b : Fin 2) (s : Fin 4096) (h : Fin 4) (d : Fin 64) :
    val_main_v1 (F := Ideal) x0 (ix4 b s h d) = x0 (ix2 (tok b s) ⟨(col64 h d).val, by omega⟩) := by
  unfold tok col64
  pointwise [val_main_v0, val_main_v1]

theorem q3 (b : Fin 2) (s : Fin 4096) (h : Fin 4) (d : Fin 32) :
    val_main_v3 (F := Ideal) x0 (ix4 b s h d) = x0 (ix2 (tok b s) ⟨256 + (col32 h d).val, by omega⟩) := by
  unfold tok col32
  pointwise [val_main_v2, val_main_v3]

theorem q5 (b : Fin 2) (s : Fin 4096) (h : Fin 4) (d : Fin 32) :
    val_main_v5 (F := Ideal) x1 (ix4 b s h d) = x1 (ix2 (tok b s) (col32 h d)) := by
  unfold tok col32
  pointwise [val_main_v4, val_main_v5]

theorem k8 (b : Fin 2) (s : Fin 4096) (h : Fin 4) (d : Fin 64) :
    val_main_v8 (F := Ideal) x2 (ix4 b s h d) = x2 (ix2 (tok b s) ⟨(col64 h d).val, by omega⟩) := by
  unfold tok col64
  pointwise [val_main_v6, val_main_v7, val_main_v8]

theorem k10 (b : Fin 2) (s : Fin 4096) (h : Fin 4) (d : Fin 32) :
    val_main_v10 (F := Ideal) x3 (ix4 b s h d) = x3 (ix2 (tok b s) (col32 h d)) := by
  unfold tok col32
  pointwise [val_main_v9, val_main_v10]

theorem k14 (b : Fin 2) (s : Fin 4096) (h : Fin 4) (d : Fin 64) :
    val_main_v14 (F := Ideal) x2 (ix4 b s h d) = x2 (ix2 (tok b s) ⟨256 + (col64 h d).val, by omega⟩) := by
  unfold tok col64
  pointwise [val_main_v12, val_main_v13, val_main_v14]

theorem k18 (b : Fin 2) (s : Fin 256) (h : Fin 4) (d : Fin 32) :
    val_main_v18 (F := Ideal) x5 (ix4 b s h d) = x5 (ix3 b s d) := by
  pointwise [val_main_v17, val_main_v18]

theorem k19 (b : Fin 2) (s : Fin 256) (h : Fin 4) (d : Fin 64) :
    val_main_v19 (F := Ideal) x4 x6 (ix4 b s h d) = ∑ i : Fin 128, x4 (ix3 b s i) * x6 (ix2 i ⟨h.val * 128 + d.val, by omega⟩) := by
  have e := ref_kv x4 x6
  pointwise [val_main_v19, e]

theorem k21 (b : Fin 2) (s : Fin 256) (h : Fin 4) (d : Fin 64) :
    val_main_v21 (F := Ideal) x4 x6 (ix4 b s h d) = ∑ i : Fin 128, x4 (ix3 b s i) * x6 (ix2 i ⟨h.val * 128 + (64 + d.val), by omega⟩) := by
  have e := ref_kv x4 x6
  pointwise [val_main_v21, e]

/-- The scores against the keys of the sequence. -/
theorem score_lat (b : Fin 2) (h : Fin 4) (s k : Fin 4096) :
    val_main_v26 (F := Ideal) x0 x1 x2 x3 (ix4 b h s k)
      = Rows.score (fun l => x0 (ix2 (tok b s) ⟨l.val, by omega⟩)) (fun l => x1 (ix2 (tok b s) l))
          (fun l => x2 (ix2 (tok b k) ⟨l.val, by omega⟩)) (fun l => x3 (ix2 (tok b k) l)) h := by
  have e : val_main_v26 (F := Ideal) x0 x1 x2 x3 (ix4 b h s k)
      = (∑ d : Fin 96, val_main_v22 (F := Ideal) x0 x1 (ix4 b s h d) * val_main_v11 (F := Ideal) x2 x3 (ix4 b k h d))
          * Ideal.ofBits .f32 0x3DD105EC#32 := by
    pointwise [val_main_v24, val_main_v25, val_main_v26, val_main_cst]
  have a1 : ∀ d : Fin 64, val_main_v22 (F := Ideal) x0 x1 (ix4 b s h ⟨d.val, by omega⟩) = x0 (ix2 (tok b s) ⟨(col64 h d).val, by omega⟩) := fun d =>
    Eq.trans (Pieces.at4 _ (by exact concatenates_S2x4096x4x64_S2x4096x4x32_S2x4096x4x96_d3) b s h _ 0 (by simp) _ rfl 0 rfl d (by simp)) (q1 x0 b s h d)
  have a2 : ∀ d : Fin 32, val_main_v22 (F := Ideal) x0 x1 (ix4 b s h ⟨64 + d.val, by omega⟩) = x1 (ix2 (tok b s) (col32 h d)) := fun d =>
    Eq.trans (Pieces.at4 _ (by exact concatenates_S2x4096x4x64_S2x4096x4x32_S2x4096x4x96_d3) b s h _ 1 (by simp) _ rfl 64 rfl d (by simp)) (q5 x1 b s h d)
  have b1 : ∀ d : Fin 64, val_main_v11 (F := Ideal) x2 x3 (ix4 b k h ⟨d.val, by omega⟩) = x2 (ix2 (tok b k) ⟨(col64 h d).val, by omega⟩) := fun d =>
    Eq.trans (Pieces.at4 _ (by exact concatenates_S2x4096x4x64_S2x4096x4x32_S2x4096x4x96_d3) b k h _ 0 (by simp) _ rfl 0 rfl d (by simp)) (k8 x2 b k h d)
  have b2 : ∀ d : Fin 32, val_main_v11 (F := Ideal) x2 x3 (ix4 b k h ⟨64 + d.val, by omega⟩) = x3 (ix2 (tok b k) (col32 h d)) := fun d =>
    Eq.trans (Pieces.at4 _ (by exact concatenates_S2x4096x4x64_S2x4096x4x32_S2x4096x4x96_d3) b k h _ 1 (by simp) _ rfl 64 rfl d (by simp)) (k10 x3 b k h d)
  rw [e, Rows.sum_append (n := 64) (k := 32) rfl]
  simp only [a1, a2, b1, b2]
  rfl

/-- The scores against the keys of the context. -/
theorem score_ctx (b : Fin 2) (h : Fin 4) (s : Fin 4096) (k : Fin 256) :
    val_main_v29 (F := Ideal) x0 x4 x5 x6 (ix4 b h s k)
      = ((∑ d : Fin 64, x0 (ix2 (tok b s) ⟨(col64 h d).val, by omega⟩) * ∑ i : Fin 128, x4 (ix3 b k i) * x6 (ix2 i ⟨h.val * 128 + d.val, by omega⟩))
          + ∑ d : Fin 32, x0 (ix2 (tok b s) ⟨256 + (col32 h d).val, by omega⟩) * x5 (ix3 b k d)) * Ideal.ofBits .f32 0x3DD105EC#32 := by
  have e : val_main_v29 (F := Ideal) x0 x4 x5 x6 (ix4 b h s k)
      = (∑ d : Fin 96, val_main_v23 (F := Ideal) x0 (ix4 b s h d) * val_main_v20 (F := Ideal) x4 x5 x6 (ix4 b k h d))
          * Ideal.ofBits .f32 0x3DD105EC#32 := by
    pointwise [val_main_v27, val_main_v28, val_main_v29, val_main_cst_0]
  have a1 : ∀ d : Fin 64, val_main_v23 (F := Ideal) x0 (ix4 b s h ⟨d.val, by omega⟩) = x0 (ix2 (tok b s) ⟨(col64 h d).val, by omega⟩) := fun d =>
    Eq.trans (Pieces.at4 _ (by exact concatenates_S2x4096x4x64_S2x4096x4x32_S2x4096x4x96_d3) b s h _ 0 (by simp) _ rfl 0 rfl d (by simp)) (q1 x0 b s h d)
  have a2 : ∀ d : Fin 32, val_main_v23 (F := Ideal) x0 (ix4 b s h ⟨64 + d.val, by omega⟩) = x0 (ix2 (tok b s) ⟨256 + (col32 h d).val, by omega⟩) := fun d =>
    Eq.trans (Pieces.at4 _ (by exact concatenates_S2x4096x4x64_S2x4096x4x32_S2x4096x4x96_d3) b s h _ 1 (by simp) _ rfl 64 rfl d (by simp)) (q3 x0 b s h d)
  have b1 : ∀ d : Fin 64, val_main_v20 (F := Ideal) x4 x5 x6 (ix4 b k h ⟨d.val, by omega⟩) = ∑ i : Fin 128, x4 (ix3 b k i) * x6 (ix2 i ⟨h.val * 128 + d.val, by omega⟩) := fun d =>
    Eq.trans (Pieces.at4 _ (by exact concatenates_S2x256x4x64_S2x256x4x32_S2x256x4x96_d3) b k h _ 0 (by simp) _ rfl 0 rfl d (by simp)) (k19 x4 x6 b k h d)
  have b2 : ∀ d : Fin 32, val_main_v20 (F := Ideal) x4 x5 x6 (ix4 b k h ⟨64 + d.val, by omega⟩) = x5 (ix3 b k d) := fun d =>
    Eq.trans (Pieces.at4 _ (by exact concatenates_S2x256x4x64_S2x256x4x32_S2x256x4x96_d3) b k h _ 1 (by simp) _ rfl 64 rfl d (by simp)) (k18 x5 b k h d)
  rw [e, Rows.sum_append (n := 64) (k := 32) rfl]
  simp only [a1, a2, b1, b2]

/-- The greatest score of a row. -/
theorem ref_top (b : Fin 2) (h : Fin 4) (s : Fin 4096) : val_main_v31 (F := Ideal) x0 x1 x2 x3 x4 x5 x6 (ix3 b h s)
      = Rows.top fun k => val_main_v30 (F := Ideal) x0 x1 x2 x3 x4 x5 x6 (ix4 b h s k) := by
  unfold val_main_v31 Rows.top
  generalize val_main_v30 (F := Ideal) x0 x1 x2 x3 x4 x5 x6 = S
  pointwise [val_main_cst_1]

/-- The literal `-∞` does not raise a maximum. -/
theorem max_lit_bot (M : EReal) : max (Ideal.ofBits .f32 0xFF800000#32) M = M := by rw [Rows.lit_bot]; exact max_eq_right bot_le

/-- The maximum with `-∞` is the greatest score. -/
theorem ref_max (b : Fin 2) (h : Fin 4) (s : Fin 4096) : val_main_v33 (F := Ideal) x0 x1 x2 x3 x4 x5 x6 (ix3 b h s)
      = val_main_v31 (F := Ideal) x0 x1 x2 x3 x4 x5 x6 (ix3 b h s) := by
  have l : val_main_v32 (F := Ideal) (ix3 b h s) = Ideal.ofBits .f32 0xFF800000#32 := by
    rw [val_main_v32_apply, val_main_cst_2_apply]; rfl
  have e (L T : FVec Ideal S2x4x4096 .f32) : maximumf L T (ix3 b h s) = max (L (ix3 b h s)) (T (ix3 b h s)) := rfl
  unfold val_main_v33
  generalize val_main_v32 (F := Ideal) = L at l
  generalize val_main_v31 (F := Ideal) x0 x1 x2 x3 x4 x5 x6 = T
  exact (e L T).trans ((congrArg (max · (T (ix3 b h s))) l).trans (max_lit_bot _))

/-- The exponentials, from the shifted scores. -/
theorem ref_shift (b : Fin 2) (h : Fin 4) (s : Fin 4096) (k : Fin 4352) : val_main_v37 (F := Ideal) x0 x1 x2 x3 x4 x5 x6 (ix4 b h s k)
      = Ideal.exp (val_main_v30 (F := Ideal) x0 x1 x2 x3 x4 x5 x6 (ix4 b h s k) - val_main_v33 (F := Ideal) x0 x1 x2 x3 x4 x5 x6 (ix3 b h s)) := by
  unfold val_main_v37 val_main_v36 val_main_v35 val_main_v34
  generalize val_main_v33 (F := Ideal) x0 x1 x2 x3 x4 x5 x6 = T
  generalize val_main_v30 (F := Ideal) x0 x1 x2 x3 x4 x5 x6 = S
  pointwise

/-- The exponentials of a row. -/
theorem ref_exp (b : Fin 2) (h : Fin 4) (s : Fin 4096) (k : Fin 4352) : val_main_v37 (F := Ideal) x0 x1 x2 x3 x4 x5 x6 (ix4 b h s k)
      = Ideal.exp (val_main_v30 (F := Ideal) x0 x1 x2 x3 x4 x5 x6 (ix4 b h s k)
          - Rows.top fun k => val_main_v30 (F := Ideal) x0 x1 x2 x3 x4 x5 x6 (ix4 b h s k)) := by
  rw [ref_shift, ref_max, ref_top]

/-- The sum of the exponentials of a row. -/
theorem ref_sum (b : Fin 2) (h : Fin 4) (s : Fin 4096) : val_main_v38 (F := Ideal) x0 x1 x2 x3 x4 x5 x6 (ix3 b h s)
      = ∑ k : Fin 4352, val_main_v37 (F := Ideal) x0 x1 x2 x3 x4 x5 x6 (ix4 b h s k) := by
  unfold val_main_v38
  generalize val_main_v37 (F := Ideal) x0 x1 x2 x3 x4 x5 x6 = S
  pointwise [val_main_cst_3]

/-- The softmax of the scores side by side. -/
theorem ref_soft (b : Fin 2) (h : Fin 4) (s : Fin 4096) (k : Fin 4352) :
    val_main_v41 (F := Ideal) x0 x1 x2 x3 x4 x5 x6 (ix4 b h s k)
      = Rows.soft (fun k => val_main_v30 (F := Ideal) x0 x1 x2 x3 x4 x5 x6 (ix4 b h s k)) k := by
  have e : val_main_v41 (F := Ideal) x0 x1 x2 x3 x4 x5 x6 (ix4 b h s k)
      = Ideal.div (val_main_v37 (F := Ideal) x0 x1 x2 x3 x4 x5 x6 (ix4 b h s k)) (val_main_v38 (F := Ideal) x0 x1 x2 x3 x4 x5 x6 (ix3 b h s)) := by
    unfold val_main_v41 val_main_v40 val_main_v39
    generalize val_main_v37 (F := Ideal) x0 x1 x2 x3 x4 x5 x6 = S
    generalize val_main_v38 (F := Ideal) x0 x1 x2 x3 x4 x5 x6 = T
    pointwise
  rw [e, ref_sum]
  simp only [ref_exp, Rows.soft]

/-- The result at a row and column, from the softmax weights. -/
theorem ref_out (r : Fin 8192) (j : Fin 256) :
    val_main_v49 (F := Ideal) x0 x1 x2 x3 x4 x5 x6 (ix2 r j)
      = (∑ k : Fin 4096, x2 (ix2 (tok ⟨r.val / 4096, by omega⟩ k) ⟨256 + (col64 ⟨j.val / 64, by omega⟩ ⟨j.val % 64, by omega⟩).val, by omega⟩)
          * Rows.soft (fun k => val_main_v30 (F := Ideal) x0 x1 x2 x3 x4 x5 x6 (ix4 ⟨r.val / 4096, by omega⟩ ⟨j.val / 64, by omega⟩ ⟨r.val % 4096, by omega⟩ k)) ⟨k.val, by omega⟩)
        + ∑ k : Fin 256, (∑ i : Fin 128, x4 (ix3 ⟨r.val / 4096, by omega⟩ k i) * x6 (ix2 i ⟨j.val / 64 * 128 + (64 + j.val % 64), by omega⟩))
          * Rows.soft (fun k => val_main_v30 (F := Ideal) x0 x1 x2 x3 x4 x5 x6 (ix4 ⟨r.val / 4096, by omega⟩ ⟨j.val / 64, by omega⟩ ⟨r.val % 4096, by omega⟩ k)) ⟨4096 + k.val, by omega⟩ := by
  have s1 := ref_soft x0 x1 x2 x3 x4 x5 x6
  have s2 := k14 x2
  have s3 := k21 x4 x6
  pointwise [val_main_v42, val_main_v43, val_main_v44, val_main_v45, val_main_v46, val_main_v47, val_main_v48, val_main_v49, s1, s2, s3]

end Cert.ReferenceIdeal.Value

end
-- ==== Proof.MlaClaim.lean ====
module

public import proofs.«01_k».proof.Defs
public import proofs.«01_k».proof.Proof.Finite
public import proofs.«01_k».proof.Proof.MlaFin
public import proofs.«01_k».proof.Proof.MlaRef
public import proofs.«01_k».proof.Proof.Gen.Pre_finite
public import Idealize.ShloMosaic.Lib.Claim

@[expose] public section

set_option maxRecDepth 16384

noncomputable section

open Idealize.ShloMosaic Idealize.ShloMosaic.TcCoe Idealize.SL.Sem

namespace Cert.Proof.Mla
open Cert.KernelIdeal Cert.KernelIdeal.Value

section Entry
open Cert.ReferenceIdeal.Value Cert.ReferenceIdeal.Read

variable (x0 : FVec Ideal S8192x384 .f32) (x1 : FVec Ideal S8192x128 .bf16) (x2 : FVec Ideal S8192x512 .bf16)
  (x3 : FVec Ideal S8192x128 .bf16) (x4 : FVec Ideal S2x256x128 .f32) (x5 : FVec Ideal S2x256x32 .f32) (x6 : FVec Ideal S128x512 .f32)

theorem tok_row (r : Fin 8192) : tok ⟨r.val / 4096, by omega⟩ ⟨r.val % 4096, by omega⟩ = r :=
  Fin.ext (by unfold tok; simp only; omega)

theorem tok_key (r : Fin 8192) (k : Fin 4096) : tok ⟨r.val / 4096, by omega⟩ k = keyRow r k := rfl

theorem col_split (j : Fin 256) : (col64 ⟨j.val / 64, by omega⟩ ⟨j.val % 64, by omega⟩).val = j.val := by
  unfold col64; simp only; omega

theorem key_col (h : Fin 4) (d : Fin 64) : keyCol ⟨h.val * 64 + d.val, by omega⟩ = ⟨h.val * 128 + d.val, by omega⟩ :=
  Fin.ext (by unfold keyCol; simp only; omega)

theorem val_col (j : Fin 256) : valCol j = ⟨j.val / 64 * 128 + (64 + j.val % 64), by omega⟩ :=
  Fin.ext (by unfold valCol; simp only; omega)

theorem rot_col (h : Fin 4) (d : Fin 32) : (⟨(h.val * 32 + d.val) % 32, by omega⟩ : Fin 32) = d :=
  Fin.ext (by simp only; omega)

/-- The reference's score against a key of the sequence is the score of the specification. -/
theorem score_seq (r : Fin 8192) (h : Fin 4) (k : Fin 4096) :
    val_main_v30 (F := Ideal) x0 x1 x2 x3 x4 x5 x6 (ix4 ⟨r.val / 4096, by omega⟩ h ⟨r.val % 4096, by omega⟩ ⟨k.val, by omega⟩)
      = Rows.score (fun l => x0 (ix2 r ⟨l.val, by omega⟩)) (fun l => x1 (ix2 r l)) (fun l => x2 (ix2 (keyRow r k) ⟨l.val, by omega⟩))
          (fun l => x3 (ix2 (keyRow r k) l)) h := by
  refine Eq.trans (Pieces.at4 _ (by exact Cert.ReferenceIdeal.Gen.concatenates_S2x4x4096x4096_S2x4x4096x256_S2x4x4096x4352_d3) _ _ _ _ 0 (by simp) _ rfl 0 rfl k (by simp)) ?_
  refine Eq.trans (score_lat x0 x1 x2 x3 _ _ _ _) ?_
  rw [tok_row, tok_key]

/-- The reference's score against a key of the context is the score of the specification. -/
theorem score_cache (r : Fin 8192) (h : Fin 4) (k : Fin 256) :
    val_main_v30 (F := Ideal) x0 x1 x2 x3 x4 x5 x6 (ix4 ⟨r.val / 4096, by omega⟩ h ⟨r.val % 4096, by omega⟩ ⟨4096 + k.val, by omega⟩)
      = Rows.score (fun l => x0 (ix2 r ⟨l.val, by omega⟩)) (fun l => x0 (ix2 r ⟨256 + l.val, by omega⟩))
          (fun l => ctxKV x4 x6 (seqOf r) k (keyCol l)) (fun l => x5 (ix3 (seqOf r) k ⟨l.val % 32, by omega⟩)) h := by
  refine Eq.trans (Pieces.at4 _ (by exact Cert.ReferenceIdeal.Gen.concatenates_S2x4x4096x4096_S2x4x4096x256_S2x4x4096x4352_d3) _ _ _ _ 1 (by simp) _ rfl 4096 rfl k (by simp)) ?_
  refine Eq.trans (score_ctx x0 x4 x5 x6 _ _ _ _) ?_
  unfold Rows.score
  simp only [key_col, rot_col, tok_row]
  rfl

/-- The reference's result at a row and column, where the arguments are real numbers. -/
theorem entry (h0 : ∀ i, Rows.IsReal (x0 i)) (h1 : ∀ i, Rows.IsReal (x1 i)) (h2 : ∀ i, Rows.IsReal (x2 i)) (h3 : ∀ i, Rows.IsReal (x3 i))
    (h4 : ∀ i, Rows.IsReal (x4 i)) (h5 : ∀ i, Rows.IsReal (x5 i)) (h6 : ∀ i, Rows.IsReal (x6 i)) (r : Fin 8192) (j : Fin 256) :
    val_main_v49 (F := Ideal) x0 x1 x2 x3 x4 x5 x6 (ix2 r j) = attn x0 x1 x2 x3 x4 x5 x6 r j := by
  have hkv : ∀ k l, Rows.IsReal (ctxKV x4 x6 (seqOf r) k l) := fun k l => Rows.IsReal.sum fun i => (h4 _).mul (h6 _)
  rw [ref_out]
  unfold attn
  rw [Rows.attend₂_eq (n := 4096) (k := 256) rfl
    (fun k => val_main_v30 (F := Ideal) x0 x1 x2 x3 x4 x5 x6 (ix4 ⟨r.val / 4096, by omega⟩ ⟨j.val / 64, by omega⟩ ⟨r.val % 4096, by omega⟩ k))
    (fun k => Rows.IsReal.score (fun _ => h0 _) (fun _ => h2 _) (fun _ => h1 _) (fun _ => h3 _) _)
    (fun k => Rows.IsReal.score (fun _ => h0 _) (fun _ => hkv _ _) (fun _ => h0 _) (fun _ => h5 _) _)
    (fun k => h2 _) (fun k => hkv _ _)
    (fun k => score_seq x0 x1 x2 x3 x4 x5 x6 r _ k) (fun k => score_cache x0 x1 x2 x3 x4 x5 x6 r _ k)]
  generalize val_main_v30 (F := Ideal) x0 x1 x2 x3 x4 x5 x6 = S
  simp only [tok_key, col_split, val_col]
  rfl

end Entry

/-- The reference's term is the result array. -/
theorem result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h : Cert.Pre_KernelIdeal_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v49 m' c = (Cert.KernelIdeal.Gen.dats m 0 c).arrAt 7 (Cert.KernelIdeal.cfgs 0).N := by
  have f0 := fun i => Cert.Finite.real_of_abs_lt _ _ (fun _ => rfl) (h c).1 i
  have f1 := fun i => Cert.Finite.real_of_abs_lt _ _ (fun _ => rfl) (h c).2.1 i
  have f2 := fun i => Cert.Finite.real_of_abs_lt _ _ (fun _ => rfl) (h c).2.2.1 i
  have f3 := fun i => Cert.Finite.real_of_abs_lt _ _ (fun _ => rfl) (h c).2.2.2.1 i
  have f4 := fun i => Cert.Finite.real_of_abs_lt _ _ (fun _ => rfl) (h c).2.2.2.2.1 i
  have f5 := fun i => Cert.Finite.real_of_abs_lt _ _ (fun _ => rfl) (h c).2.2.2.2.2.1 i
  have f6 := fun i => Cert.Finite.real_of_abs_lt _ _ (fun _ => rfl) (h c).2.2.2.2.2.2 i
  rw [Cert.ReferenceIdeal.Read.val_main_v49_eq, Cert.KernelIdeal.Value.final m c, h0, h1, h2, h3, h4, h5, h6]
  funext i
  rw [eq_ix2 i]
  exact entry _ _ _ _ _ _ _ f0 f1 f2 f3 f4 f5 f6 _ _

/-- The latent attention and its reference give the same rows. -/
theorem algebraic : Cert.algebraic_KernelIdeal_ReferenceIdeal_pre_finite := by
  intro m g m' g' hpre hagree
  refine ⟨fun c => (Cert.KernelIdeal.Gen.dats m 0 c).arrAt 7 (Cert.KernelIdeal.cfgs 0).N, ?_, ?_⟩
  · exact θ_run_mono (θ_run_and (Cert.KernelIdeal.Gen.run_main m g) (Cert.KernelIdeal.Gen.unchanged m g))
      fun r h c => ⟨(h.1 c).1 7, h.2 c⟩
  · exact θ_run_mono (Cert.ReferenceIdeal.Value.run m' g') fun r h c =>
      ⟨(h c).1.trans (result m m' c hpre (hagree c).1 (hagree c).2.1 (hagree c).2.2.1 (hagree c).2.2.2.1 (hagree c).2.2.2.2.1 (hagree c).2.2.2.2.2.1 (hagree c).2.2.2.2.2.2), (h c).2⟩

end Cert.Proof.Mla

end
-- ==== Proof.MergeKer.lean ====
module

public import proofs.«01_k».proof.Proof.Gen.Kernel3Ideal.Frame
public import proofs.«01_k».proof.Proof.MergeRows
public import proofs.«01_k».proof.Proof.Loads
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

/-- The floor division of a column number by 64, as the kernel computes it. -/
theorem floor64 : ∀ k : Fin 256, Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 k.val) 64#32) 0#32))
          (IntOp.subi (IntOp.divsi ArithUnit.vector (BitVec.ofNat 32 k.val) 64#32) 1#32)
          (IntOp.divsi ArithUnit.vector (BitVec.ofNat 32 k.val) 64#32) = BitVec.ofNat 32 (k.val / 64) := by
  decide +kernel

/-- Comparing the floors is comparing the heads. -/
theorem eq4 : ∀ a b : Fin 4, IntOp.cmpi CmpIPredicate.eq (BitVec.ofNat 32 a.val) (BitVec.ofNat 32 b.val)
    = if a.val = b.val then 1#1 else 0#1 := by
  decide +kernel

/-- The indicator of two columns lying in one head. -/
theorem sel (k j : Fin 256) :
    k0_pay9 (F := Ideal) (iota .tc S256x256 32 [0] iota_S256x256_d0_w32) 64#32 k0_pay7 k0_pay8 (ix2 k j)
      = if k.val / 64 = j.val / 64 then 1 else 0 := by
  pointwise [k0_pay9, k0_pay7, k0_pay8]
  rw [floor64 k, floor64 j]
  have e := eq4 ⟨k.val / 64, by omega⟩ ⟨j.val / 64, by omega⟩
  simp only at e
  rw [e]
  by_cases hk : k.val / 64 = j.val / 64
  · rw [if_pos hk, if_pos hk]; rfl
  · rw [if_neg hk, if_neg hk]; rfl

/-- The recurrence's branch at a row and column of the block. -/
theorem pay_head (P6 P7 z : FVec Ideal S256x256 .f32) (gn : FVec Ideal S1x256 .f32) (r j : Fin 256)
    (h : ∀ k, (P6 (ix2 r k) + P7 (ix2 r k)) * (P6 (ix2 r k) + P7 (ix2 r k)) - (P6 (ix2 r k) + P7 (ix2 r k)) * (P6 (ix2 r k) + P7 (ix2 r k)) = 0) :
    k0_pay12 (F := Ideal) (k0_pay5 P6 P7) (k0_pay6 P6 P7)
        (k0_pay9 (iota .tc S256x256 32 [0] iota_S256x256_d0_w32) 64#32 k0_pay7 k0_pay8) (k0_pay10 (k0_pay6 P6 P7))
        (k0_pay11 (k0_pay6 P6 P7)) gn z (ix2 r j)
      = Rows.headNorm (fun k => P6 (ix2 r k) + P7 (ix2 r k)) (fun k => z (ix2 r k)) (fun k => gn (ix2 0 k)) j := by
  have hs := sel
  pointwise [k0_pay12, k0_pay5, k0_pay6, k0_pay10, k0_pay11, hs, h, Rows.headNorm, Rows.lit_inv64]
  have e := Rows.sum_head (fun k => (P6 (ix2 r k) + P7 (ix2 r k)) * (P6 (ix2 r k) + P7 (ix2 r k))) ⟨j.val / 64, by omega⟩
  simp only [mul_ite, mul_one, mul_zero, ite_self, Finset.sum_const_zero, add_zero] at e ⊢
  rw [e]; rfl

/-- What the body stores at row `r`, column `j` of its block is the merge of row `r`. -/
theorem pay_row (P0 : FVec Ideal S256x1024 .f32) (P1 : FVec Ideal S1x1x6144 .f32) (P2 : FVec Ideal S1x1024 .f32)
    (P3 P4 P5 P6 P7 P8 : FVec Ideal S256x256 .f32) (P9 : FVec Ideal S1x256 .f32)
    (G0 G1 G2 G3 : FVec Ideal S1024x1024 .bf16) (B0 B1 B2 B3 : FVec Ideal S1x256x1024 .bf16)
    (P12 : FVec Ideal S1024x1024 .bf16) (P13 : FVec Ideal S1x1024 .f32)
    (wg : Fin 1024 → Fin 4096 → EReal) (wb : Fin 4 → Fin 256 → Fin 1024 → EReal) (r : Fin 256) (j : Fin 1024)
    (hG0 : ∀ k l, G0 (ix2 k l) = wg k ⟨0 * 1024 + l.val, by omega⟩) (hG1 : ∀ k l, G1 (ix2 k l) = wg k ⟨1 * 1024 + l.val, by omega⟩)
    (hG2 : ∀ k l, G2 (ix2 k l) = wg k ⟨2 * 1024 + l.val, by omega⟩) (hG3 : ∀ k l, G3 (ix2 k l) = wg k ⟨3 * 1024 + l.val, by omega⟩)
    (hB0 : ∀ k l, B0 (ix3 0 k l) = wb 0 k l) (hB1 : ∀ k l, B1 (ix3 0 k l) = wb 1 k l)
    (hB2 : ∀ k l, B2 (ix3 0 k l) = wb 2 k l) (hB3 : ∀ k l, B3 (ix3 0 k l) = wb 3 k l)
    (h : ∀ k, (P6 (ix2 r k) + P7 (ix2 r k)) * (P6 (ix2 r k) + P7 (ix2 r k)) - (P6 (ix2 r k) + P7 (ix2 r k)) * (P6 (ix2 r k) + P7 (ix2 r k)) = 0) :
    k0_pay1 (F := Ideal) P0 (k0_pay3 P1)
        (k0_pay14 (k0_pay4 P0 P1 P2)
          (k0_pay12 (k0_pay5 P6 P7) (k0_pay6 P6 P7)
            (k0_pay9 (iota .tc S256x256 32 [0] iota_S256x256_d0_w32) 64#32 k0_pay7 k0_pay8) (k0_pay10 (k0_pay6 P6 P7))
            (k0_pay11 (k0_pay6 P6 P7)) P9 P8)
          P4 P5 (k0_pay13 (k0_pay4 P0 P1 P2) P3 G0 B0) G1 B1 G2 B2 G3 B3 P12) (k0_pay15 P13) (ix2 r j)
      = Rows.merge (fun k => P0 (ix2 r k)) (fun k => P2 (ix2 0 k)) (fun k => P1 (ix3 0 0 ⟨1024 + k.val, by omega⟩))
          (fun k => P1 (ix3 0 0 ⟨k.val, by omega⟩)) (fun k => P1 (ix3 0 0 ⟨2048 + k.val, by omega⟩)) (fun k => P13 (ix2 0 k))
          (fun k => P3 (ix2 r k)) (fun k => P4 (ix2 r k)) (fun k => P5 (ix2 r k)) (fun k => P6 (ix2 r k) + P7 (ix2 r k))
          (fun k => P8 (ix2 r k)) (fun k => P9 (ix2 0 k)) wg wb (fun k l => P12 (ix2 k l)) j := by
  have hd := fun c => pay_head P6 P7 P8 P9 r c h
  generalize k0_pay12 (F := Ideal) (k0_pay5 P6 P7) (k0_pay6 P6 P7)
            (k0_pay9 (iota .tc S256x256 32 [0] iota_S256x256_d0_w32) 64#32 k0_pay7 k0_pay8) (k0_pay10 (k0_pay6 P6 P7))
            (k0_pay11 (k0_pay6 P6 P7)) P9 P8 = Q at hd ⊢
  pointwise [k0_pay1, k0_pay2, k0_pay3, k0_pay4, k0_pay13, k0_pay14, k0_pay15, hd, hG0, hG1, hG2, hG3, hB0, hB1, hB2, hB3,
    Rows.merge, Rows.mix, Rows.mixed, Rows.branch, Rows.residual, Rows.modulated, Rows.rms, Rows.lit_inv1024]

/-- The block indices of the pipelined windows: the row windows take block `t`, the modulation row the sequence. -/
theorem idx : ∀ t : Fin cfg0.N, win0_0.index t = ![t.val, 0] ∧ win0_1.index t = ![t.val / 16, 0, 0]
    ∧ win0_2.index t = ![0, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 9]
    ∧ win0_9.index t = ![0, 0] ∧ win0_10.index t = ![0, 0] ∧ win0_11.index t = ![0, 0, 0] ∧ win0_12.index t = ![0, 0]
    ∧ win0_13.index t = ![0, 0] ∧ win0_14.index t = ![t.val, 0] :=
  (by decide +kernel : ∀ t : Fin grid0.N, _)

variable (m : (ℓ : Loc nD τ sig) → Buf (Elt Ideal) ℓ)

/-- The square of a sum minus itself: zero where the sum is finite. -/
def squareDiff (a b : FVec Ideal S8192x256 .f32) (i : S8192x256.Idx) : EReal :=
  (a i + b i) * (a i + b i) - (a i + b i) * (a i + b i)

/-- The merge on row `r` of the arrays, the modulation of the row's sequence. -/
def out (x : FVec Ideal S8192x1024 .f32) (md : FVec Ideal S2x1x6144 .f32) (g : FVec Ideal S1024 .f32)
    (a b c o₁ o₂ : FVec Ideal S8192x256 .f32) (pr : FVec Ideal S8192x2688 .f32) (dn : FVec Ideal S64 .f32)
    (wi : FVec Ideal S1024x6256 .f32) (wb : FVec Ideal S4x256x1024 .f32) (wo : FVec Ideal S1024x1024 .f32)
    (g' : FVec Ideal S1024 .f32) (r : Fin 8192) (j : Fin 1024) : EReal :=
  Rows.merge (fun k => x (ix2 r k)) (fun k => g (ix1 k))
    (fun k => md (ix3 ⟨r.val / 4096, by omega⟩ 0 ⟨1024 + k.val, by omega⟩))
    (fun k => md (ix3 ⟨r.val / 4096, by omega⟩ 0 ⟨k.val, by omega⟩))
    (fun k => md (ix3 ⟨r.val / 4096, by omega⟩ 0 ⟨2048 + k.val, by omega⟩)) (fun k => g' (ix1 k))
    (fun k => a (ix2 r k)) (fun k => b (ix2 r k)) (fun k => c (ix2 r k)) (fun k => o₁ (ix2 r k) + o₂ (ix2 r k))
    (fun k => pr (ix2 r ⟨2304 + k.val, by omega⟩)) (fun k => dn (ix1 ⟨k.val % 64, by omega⟩))
    (fun k l => wi (ix2 k ⟨2160 + l.val, by omega⟩)) (fun n k l => wb (ix3 n k l)) (fun k l => wo (ix2 k l)) j

/-- Row `r` of block `t`, among the array's rows. -/
def row (t : Fin cfg0.N) (r : Fin 256) : Fin 8192 :=
  ⟨t.val * 256 + r.val, by have := t.isLt; have e : cfg0.N = 32 := rfl; omega⟩

/-- The block of the gate `z`, whose columns start at 2304 of the packed projection. -/
theorem zblk (c : Dev nD) (t : Fin cfg0.N) (r k : Fin 256) :
    (X0_8 m c t : FVec Ideal S256x256 .f32) (ix2 r k) = (m ((c : Thread nD τ).loc main_arg8) : FVec Ideal S8192x2688 .f32)
      (ix2 (row t r) ⟨2304 + k.val, by omega⟩) := by
  unfold X0_8 Pipeline.Window.fill row
  rw [dif_pos (moved0_8 t _)]
  blk_point [iblk, V, idx t]

/-- What point `t` stores at an index of its block is the merge at the array index under it. -/
theorem point (c : Dev nD)
    (hfin : ∀ i, squareDiff (m ((c : Thread nD τ).loc main_arg6)) (m ((c : Thread nD τ).loc main_arg7)) i = 0) (t : Fin cfg0.N) (y : S256x1024.Idx) :
    k0_pay1 (F := Ideal) (iblk m c 0 t) (k0_pay3 (iblk m c 1 t))
      (k0_pay14 (k0_pay4 (iblk m c 0 t) (iblk m c 1 t) (iblk m c 2 t))
        (k0_pay12 (k0_pay5 (iblk m c 6 t) (iblk m c 7 t)) (k0_pay6 (iblk m c 6 t) (iblk m c 7 t))
          (k0_pay9 (iota Kind.tc S256x256 32 [0] iota_S256x256_d0_w32) (64#32) k0_pay7 k0_pay8)
          (k0_pay10 (k0_pay6 (iblk m c 6 t) (iblk m c 7 t))) (k0_pay11 (k0_pay6 (iblk m c 6 t) (iblk m c 7 t)))
          (iblk m c 9 t) (X0_8 m c t))
        (iblk m c 4 t) (iblk m c 5 t)
        (k0_pay13 (k0_pay4 (iblk m c 0 t) (iblk m c 1 t) (iblk m c 2 t)) (iblk m c 3 t)
          (View.ld (iblk m c 10 t) (Rect.unit ![0, 0] ![1024, 1024] inb_S1024x4096_S1024x1024_0_0))
          (View.ld (iblk m c 11 t) (Rect.unit ![0, 0, 0] ![1, 256, 1024] inb_S4x256x1024_S1x256x1024_0_0_0)))
        (View.ld (iblk m c 10 t) (Rect.unit ![0, 1024] ![1024, 1024] inb_S1024x4096_S1024x1024_0_1024))
        (View.ld (iblk m c 11 t) (Rect.unit ![1, 0, 0] ![1, 256, 1024] inb_S4x256x1024_S1x256x1024_1_0_0))
        (View.ld (iblk m c 10 t) (Rect.unit ![0, 2048] ![1024, 1024] inb_S1024x4096_S1024x1024_0_2048))
        (View.ld (iblk m c 11 t) (Rect.unit ![2, 0, 0] ![1, 256, 1024] inb_S4x256x1024_S1x256x1024_2_0_0))
        (View.ld (iblk m c 10 t) (Rect.unit ![0, 3072] ![1024, 1024] inb_S1024x4096_S1024x1024_0_3072))
        (View.ld (iblk m c 11 t) (Rect.unit ![3, 0, 0] ![1, 256, 1024] inb_S4x256x1024_S1x256x1024_3_0_0))
        (iblk m c 12 t))
      (k0_pay15 (iblk m c 13 t)) y
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13))
          ((((cfg0.win 14).blk t).view.emb y : S8192x1024.Idx) 0) ((((cfg0.win 14).blk t).view.emb y : S8192x1024.Idx) 1) := by
  rw [eq_ix2 y]
  refine (pay_row _ _ _ _ _ _ _ _ _ _ _ _ _ _ _ _ _ _ _ _
    (fun k l => (iblk m c 10 t : FVec Ideal S1024x4096 .bf16) (ix2 k l))
    (fun n k l => (iblk m c 11 t : FVec Ideal S4x256x1024 .bf16) (ix3 n k l)) (y 0) (y 1)
    (fun k l => ?_) (fun k l => ?_) (fun k l => ?_) (fun k l => ?_) (fun k l => ?_) (fun k l => ?_) (fun k l => ?_)
    (fun k l => ?_) (fun k => ?_)).trans ?_
  · exact Loads.ld2 _ _ _ _ _ _ (by simp) (by simp)
  · exact Loads.ld2 _ _ _ _ _ _ (by simp) (by simp)
  · exact Loads.ld2 _ _ _ _ _ _ (by simp) (by simp)
  · exact Loads.ld2 _ _ _ _ _ _ (by simp) (by simp)
  · exact Loads.ld3 _ _ _ _ _ _ _ _ (by simp) (by simp) (by simp)
  · exact Loads.ld3 _ _ _ _ _ _ _ _ (by simp) (by simp) (by simp)
  · exact Loads.ld3 _ _ _ _ _ _ _ _ (by simp) (by simp) (by simp)
  · exact Loads.ld3 _ _ _ _ _ _ _ _ (by simp) (by simp) (by simp)
  · have e6 : (iblk m c 6 t : FVec Ideal S256x256 .f32) (ix2 (y 0) k) = (m ((c : Thread nD τ).loc main_arg6) : FVec Ideal S8192x256 .f32) (ix2 (row t (y 0)) k) := by
      blk_point [iblk, V, idx t, row]
    have e7 : (iblk m c 7 t : FVec Ideal S256x256 .f32) (ix2 (y 0) k) = (m ((c : Thread nD τ).loc main_arg7) : FVec Ideal S8192x256 .f32) (ix2 (row t (y 0)) k) := by
      blk_point [iblk, V, idx t, row]
    rw [e6, e7]
    exact hfin _
  refine Rows.merge_congr (fun k => ?_) (fun k => ?_) (fun k => ?_) (fun k => ?_) (fun k => ?_) (fun k => ?_)
    (fun k => ?_) (fun k => ?_) (fun k => ?_) (fun k => ?_) (fun k => ?_) (fun k => ?_)
    (fun k l => ?_) (fun n k l => ?_) (fun k l => ?_) ?_
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · refine (zblk m c t _ _).trans ?_
    blk_point [idx t, row]
  · blk_point [iblk, V, idx t]
  · blk_point [iblk, V, idx t]
  · blk_point [iblk, V, idx t]
  · blk_point [iblk, V, idx t]
  · refine Fin.ext ?_; blk_simp [idx t]

/-- The result array after the run. -/
theorem final (c : Dev nD)
    (hfin : ∀ i, squareDiff (m ((c : Thread nD τ).loc main_arg6)) (m ((c : Thread nD τ).loc main_arg7)) i = 0) : (dats m 0 c).arrAt 14 (cfgs 0).N
    = fun i : S8192x1024.Idx => out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13)) (i 0) (i 1) := by
  refine (dats m 0 c).arrAt_eq_of_covers 14 _ (by decide +kernel) fun t _ y => ?_
  blk_simp; rw [after0_14]; unfold outsAt0 out0_A_14; frame_out
  exact point m c hfin t y

end Cert.Kernel3Ideal.Value
-- ==== Proof.MergeRef.lean ====
module

public import proofs.«01_k».proof.Proof.Gen.Reference3Ideal.Read
public import proofs.«01_k».proof.Proof.MergeRows
public import Idealize.ShloMosaic.Lib.Pointwise

@[expose] public section

set_option maxRecDepth 16384

noncomputable section

open Idealize.ShloMosaic Idealize.ShloMosaic.TcCoe Idealize.SL.Sem

namespace Cert.Reference3Ideal.Value
open Cert.Reference3Ideal Cert.Reference3Ideal.Gen Cert.Reference3Ideal.Read

variable (x : FVec Ideal S8192x1024 .f32) (md : FVec Ideal S2x1x6144 .f32) (g : FVec Ideal S1024 .f32)
  (a b' c o₁ o₂ : FVec Ideal S8192x256 .f32) (pr : FVec Ideal S8192x2688 .f32) (dn : FVec Ideal S64 .f32)
  (wi : FVec Ideal S1024x6256 .f32) (wb : FVec Ideal S4x256x1024 .f32) (wo : FVec Ideal S1024x1024 .f32)
  (g' : FVec Ideal S1024 .f32)

/-- The modulated, normalised input at a token. -/
theorem ref_in (b : Fin 2) (q : Fin 4096) (k : Fin 1024) :
    val_main_v25 (F := Ideal) x md g (ix3 b q k)
      = Rows.modulated (fun k => x (ix2 ⟨b.val * 4096 + q.val, by omega⟩ k)) (fun k => g (ix1 k))
          (fun k => md (ix3 b 0 ⟨1024 + k.val, by omega⟩)) (fun k => md (ix3 b 0 ⟨k.val, by omega⟩)) k := by
  pointwise [val_main_v0, val_main_v1, val_main_v2, val_main_v7, val_main_cst, val_main_v8, val_main_v9, val_main_cst_0,
    val_main_v10, val_main_v11, val_main_cst_1, val_main_v12, val_main_v13, val_main_v14, val_main_v15, val_main_v16,
    val_main_v17, val_main_v18, val_main_v19, val_main_cst_2, val_main_v20, val_main_v21, val_main_v22, val_main_v23,
    val_main_v24, val_main_v25, Rows.modulated, Rows.rms, Rows.div_1024]

/-- The fourth branch: the two directions added, normalised head by head and gated. -/
theorem ref_head (b : Fin 2) (q : Fin 4096) (k : Fin 256) :
    val_main_v48 (F := Ideal) o₁ o₂ pr dn (ix3 b q k)
      = Rows.headNorm (fun k => o₁ (ix2 ⟨b.val * 4096 + q.val, by omega⟩ k) + o₂ (ix2 ⟨b.val * 4096 + q.val, by omega⟩ k))
          (fun k => pr (ix2 ⟨b.val * 4096 + q.val, by omega⟩ ⟨2304 + k.val, by omega⟩))
          (fun k => dn (ix1 ⟨k.val % 64, by omega⟩)) k := by
  have e : k.val / 64 * 64 + k.val % 64 = k.val := by omega
  pointwise [val_main_v28, val_main_v29, val_main_v30, val_main_v31, val_main_v32, val_main_v33, val_main_cst_3,
    val_main_v34, val_main_v35, val_main_cst_4, val_main_v36, val_main_v37, val_main_cst_5, val_main_v38, val_main_v39,
    val_main_v40, val_main_v41, val_main_v42, val_main_v43, val_main_v44, val_main_v45, val_main_call0_v0,
    val_main_call0_v1, val_main_call0_cst, val_main_call0_v2, val_main_call0_v3, val_main_call0_cst_0, val_main_call0_v4,
    val_main_call0_v5, val_main_v46, val_main_v47, val_main_v48, Rows.headNorm, Rows.sameHead, Rows.div_64,
    Ideal.logistic, e]

/-- The gates at a token. -/
theorem ref_gate (b : Fin 2) (q : Fin 4096) (n : Fin 4) (j : Fin 1024) :
    val_main_v65 (F := Ideal) x md g wi (ix4 b q n j)
      = Ideal.logistic (∑ k, Rows.modulated (fun k => x (ix2 ⟨b.val * 4096 + q.val, by omega⟩ k)) (fun k => g (ix1 k))
          (fun k => md (ix3 b 0 ⟨1024 + k.val, by omega⟩)) (fun k => md (ix3 b 0 ⟨k.val, by omega⟩)) k
          * wi (ix2 k ⟨2160 + (n.val * 1024 + j.val), by omega⟩)) := by
  pointwise [val_main_v26, val_main_v27, val_main_v59, val_main_v60, val_main_v61, val_main_cst_6, val_main_v62,
    val_main_v63, val_main_cst_7, val_main_v64, val_main_v65, ref_in, Ideal.logistic]

/-- The branches, projected. -/
theorem ref_branch (b : Fin 2) (q : Fin 4096) (n : Fin 4) (j : Fin 1024) :
    val_main_v58 (F := Ideal) a b' c o₁ o₂ pr dn wb (ix4 b q n j)
      = ∑ k, val_main_v56 (F := Ideal) a b' c o₁ o₂ pr dn (ix4 b q n k) * wb (ix3 n k j) := by
  have e : val_main_v58 (F := Ideal) a b' c o₁ o₂ pr dn wb (ix4 b q n j)
      = ∑ k, wb (ix3 n k j) * val_main_v56 (F := Ideal) a b' c o₁ o₂ pr dn (ix4 b q n k) := by
    pointwise [val_main_v57, val_main_v58]
  exact e.trans (Finset.sum_congr rfl fun k _ => mul_comm _ _)

/-- The four branches, one beside the other. -/
theorem ref_stack (b : Fin 2) (q : Fin 4096) (k : Fin 256) :
    (val_main_v56 (F := Ideal) a b' c o₁ o₂ pr dn (ix4 b q 0 k) = a (ix2 ⟨b.val * 4096 + q.val, by omega⟩ k)
    ∧ val_main_v56 (F := Ideal) a b' c o₁ o₂ pr dn (ix4 b q 1 k) = b' (ix2 ⟨b.val * 4096 + q.val, by omega⟩ k))
    ∧ val_main_v56 (F := Ideal) a b' c o₁ o₂ pr dn (ix4 b q 2 k) = c (ix2 ⟨b.val * 4096 + q.val, by omega⟩ k)
    ∧ val_main_v56 (F := Ideal) a b' c o₁ o₂ pr dn (ix4 b q 3 k) = val_main_v48 (F := Ideal) o₁ o₂ pr dn (ix3 b q k) := by
  refine ⟨⟨?_, ?_⟩, ?_, ?_⟩
  all_goals pointwise [val_main_v49, val_main_v50, val_main_v51, val_main_v52, val_main_v53, val_main_v54, val_main_v55, val_main_v56]

/-- The branches, gated and summed, at a token. -/
theorem ref_mix (b : Fin 2) (q : Fin 4096) (i : Fin 1024) :
    val_main_v67 (F := Ideal) x md g a b' c o₁ o₂ pr dn wi wb (ix3 b q i)
      = ∑ n : Fin 4, val_main_v65 (F := Ideal) x md g wi (ix4 b q n i)
          * val_main_v58 (F := Ideal) a b' c o₁ o₂ pr dn wb (ix4 b q n i) := by
  pointwise [val_main_v66, val_main_v67, val_main_cst_8]

/-- The modulated input at a token, as a row. -/
def hrow (b : Fin 2) (q : Fin 4096) : Fin 1024 → EReal :=
  Rows.modulated (fun k => x (ix2 ⟨b.val * 4096 + q.val, by omega⟩ k)) (fun k => g (ix1 k))
    (fun k => md (ix3 b 0 ⟨1024 + k.val, by omega⟩)) (fun k => md (ix3 b 0 ⟨k.val, by omega⟩))

/-- The branches, gated and summed, as the specification writes them. -/
theorem ref_mixed (b : Fin 2) (q : Fin 4096) (i : Fin 1024) :
    val_main_v67 (F := Ideal) x md g a b' c o₁ o₂ pr dn wi wb (ix3 b q i)
      = Rows.mixed (hrow x md g b q) (fun k => a (ix2 ⟨b.val * 4096 + q.val, by omega⟩ k))
          (fun k => b' (ix2 ⟨b.val * 4096 + q.val, by omega⟩ k)) (fun k => c (ix2 ⟨b.val * 4096 + q.val, by omega⟩ k))
          (Rows.headNorm (fun k => o₁ (ix2 ⟨b.val * 4096 + q.val, by omega⟩ k) + o₂ (ix2 ⟨b.val * 4096 + q.val, by omega⟩ k))
            (fun k => pr (ix2 ⟨b.val * 4096 + q.val, by omega⟩ ⟨2304 + k.val, by omega⟩)) (fun k => dn (ix1 ⟨k.val % 64, by omega⟩)))
          (fun k l => wi (ix2 k ⟨2160 + l.val, by omega⟩)) (fun n k l => wb (ix3 n k l)) i := by
  rw [ref_mix, Fin.sum_univ_four, ref_branch, ref_branch, ref_branch, ref_branch, ref_gate, ref_gate, ref_gate, ref_gate]
  have s0 := fun k => (ref_stack a b' c o₁ o₂ pr dn b q k).1.1
  have s1 := fun k => (ref_stack a b' c o₁ o₂ pr dn b q k).1.2
  have s2 := fun k => (ref_stack a b' c o₁ o₂ pr dn b q k).2.1
  have s3 := fun k => ((ref_stack a b' c o₁ o₂ pr dn b q k).2.2).trans (ref_head o₁ o₂ pr dn b q k)
  simp only [s0, s1, s2, s3]
  rfl

/-- The reference's result at row `r`, column `j`. -/
theorem ref_out (r : Fin 8192) (j : Fin 1024) :
    val_main_v85 (F := Ideal) x md g a b' c o₁ o₂ pr dn wi wb wo g' (ix2 r j)
      = Rows.merge (fun k => x (ix2 r k)) (fun k => g (ix1 k))
        (fun k => md (ix3 ⟨r.val / 4096, by omega⟩ 0 ⟨1024 + k.val, by omega⟩))
        (fun k => md (ix3 ⟨r.val / 4096, by omega⟩ 0 ⟨k.val, by omega⟩))
        (fun k => md (ix3 ⟨r.val / 4096, by omega⟩ 0 ⟨2048 + k.val, by omega⟩)) (fun k => g' (ix1 k))
        (fun k => a (ix2 r k)) (fun k => b' (ix2 r k)) (fun k => c (ix2 r k)) (fun k => o₁ (ix2 r k) + o₂ (ix2 r k))
        (fun k => pr (ix2 r ⟨2304 + k.val, by omega⟩)) (fun k => dn (ix1 ⟨k.val % 64, by omega⟩))
        (fun k l => wi (ix2 k ⟨2160 + l.val, by omega⟩)) (fun n k l => wb (ix3 n k l)) (fun k l => wo (ix2 k l)) j := by
  have e : r.val / 4096 * 4096 + r.val % 4096 = r.val := by omega
  have hm := fun i => ref_mixed x md g a b' c o₁ o₂ pr dn wi wb ⟨r.val / 4096, by omega⟩ ⟨r.val % 4096, by omega⟩ i
  simp only [hrow, e] at hm
  pointwise [val_main_v85, val_main_v84, val_main_v83, val_main_v82, val_main_v81, val_main_v80, val_main_v79,
    val_main_v78, val_main_v77, val_main_v76, val_main_v75, val_main_v74, val_main_cst_11, val_main_v73, val_main_v72,
    val_main_cst_10, val_main_v71, val_main_v70, val_main_cst_9, val_main_v69, val_main_v68, val_main_v3, val_main_v0,
    hm, Rows.merge, Rows.mix, Rows.residual, Rows.rms, Rows.div_1024, e]

end Cert.Reference3Ideal.Value
-- ==== Proof.MergeClaim.lean ====
module

public import proofs.«01_k».proof.Defs
public import proofs.«01_k».proof.Proof.Finite
public import proofs.«01_k».proof.Proof.MergeKer
public import proofs.«01_k».proof.Proof.MergeRef
public import proofs.«01_k».proof.Proof.Gen.Pre_finite3
public import Idealize.ShloMosaic.Lib.Claim

@[expose] public section

set_option maxRecDepth 16384

noncomputable section

open Idealize.ShloMosaic Idealize.ShloMosaic.TcCoe Idealize.SL.Sem

namespace Cert.Proof.Merge

/-- The reference's term is the result array. -/
theorem result (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev 1)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (h9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
    (h10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10))
    (h11 : m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11))
    (h12 : m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12))
    (h13 : m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13))
    (hfin : ∀ i, Cert.Kernel3Ideal.Value.squareDiff (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7)) i = 0) :
    Cert.Reference3Ideal.Value.res_main_v85 m' c = (Cert.Kernel3Ideal.Gen.dats m 0 c).arrAt 14 (Cert.Kernel3Ideal.cfgs 0).N := by
  rw [Cert.Reference3Ideal.Read.val_main_v85_eq, Cert.Kernel3Ideal.Value.final m c hfin, h0, h1, h2, h3, h4, h5, h6, h7, h8, h9, h10, h11, h12, h13]
  funext i
  rw [eq_ix2 i]
  exact Cert.Reference3Ideal.Value.ref_out _ _ _ _ _ _ _ _ _ _ _ _ _ _ _ _

/-- Where both directions are finite, the square of their sum minus itself is zero. -/
theorem square_diff (m : (ℓ : Loc Cert.Kernel3Ideal.nD Cert.Kernel3Ideal.τ Cert.Kernel3Ideal.sig) → Buf (Elt Ideal) ℓ)
    (h : Cert.Pre_Kernel3Ideal_finite3 m) (c : Dev 1) (i : Cert.Kernel3Ideal.S8192x256.Idx) :
    Cert.Kernel3Ideal.Value.squareDiff (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7)) i = 0 := by
  obtain ⟨a, ha⟩ := Cert.Finite.real_of_abs_lt _ _ (fun _ => rfl) (h c).1 i
  obtain ⟨b, hb⟩ := Cert.Finite.real_of_abs_lt _ _ (fun _ => rfl) (h c).2 i
  unfold Cert.Kernel3Ideal.Value.squareDiff
  rw [ha, hb, ← EReal.coe_add, ← EReal.coe_mul, ← EReal.coe_sub, sub_self, EReal.coe_zero]

/-- The merge kernel and its reference give the same rows. -/
theorem algebraic : Cert.algebraic_Kernel3Ideal_Reference3Ideal_pre_finite3 := by
  intro m g m' g' hpre hagree
  refine ⟨fun c => (Cert.Kernel3Ideal.Gen.dats m 0 c).arrAt 14 (Cert.Kernel3Ideal.cfgs 0).N, ?_, ?_⟩
  · exact θ_run_mono (θ_run_and (Cert.Kernel3Ideal.Gen.run_main m g) (Cert.Kernel3Ideal.Gen.unchanged m g))
      fun r h c => ⟨(h.1 c).1 14, h.2 c⟩
  · exact θ_run_mono (Cert.Reference3Ideal.Value.run m' g') fun r h c =>
      ⟨(h c).1.trans (result m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2
        (square_diff m hpre c)), (h c).2⟩

end Cert.Proof.Merge

end
-- ==== Proof.InprojRows.lean ====
module

public import proofs.«01_k».proof.Proof.MergeRows
public import Idealize.ShloMosaic.Lib.Pointwise

@[expose] public section

noncomputable section

open Idealize.ShloMosaic

/-! The input projection of the context rows, over the extended reals: the packed order of its columns, and the two
low-rank branches. -/

namespace Cert.Rows

/-- The column of the model's input projection that column `j` of the packed projection holds: the keys and the values
    of each pair of heads twice, the rotated part four times, the rest in order. -/
def source (j : ℕ) : ℕ :=
  if j < 256 then j
  else if j < 512 then 256 + (j - 256) / 128 * 64 + j % 64
  else if j < 768 then 384 + (j - 512) / 128 * 64 + j % 64
  else if j < 960 then j - 256
  else if j < 1152 then j - 320
  else if j < 1280 then 832 + j % 32
  else j - 416

theorem source_lt {j : ℕ} (h : j < 2576) : source j < 6256 := by
  unfold source; split_ifs <;> omega

/-- A row of the projection's columns in the packed order; the columns from 960 to 1023 and from 2576 on are zero. -/
def packed (v : Fin 6256 → EReal) (j : Fin 2688) : EReal :=
  if h : j.val < 960 ∨ (1024 ≤ j.val ∧ j.val < 2576) then v ⟨source j.val, source_lt (by omega)⟩ else 0

theorem packed_of (v : Fin 6256 → EReal) (j : Fin 2688) (n : Fin 6256)
    (h : j.val < 960 ∨ (1024 ≤ j.val ∧ j.val < 2576)) (hs : source j.val = n.val) : packed v j = v n := by
  rw [packed, dif_pos h]; exact congrArg v (Fin.ext hs)

theorem packed_zero (v : Fin 6256 → EReal) (j : Fin 2688) (h : ¬ (j.val < 960 ∨ (1024 ≤ j.val ∧ j.val < 2576))) :
    packed v j = 0 := by
  rw [packed, dif_neg h]

/-- Packing the weight's columns packs the product's. -/
theorem packed_sum (h : Fin 1024 → EReal) (w : Fin 1024 → Fin 6256 → EReal) (j : Fin 2688) :
    ∑ k, h k * packed (w k) j = packed (fun n => ∑ k, h k * w k n) j := by
  by_cases hj : j.val < 960 ∨ (1024 ≤ j.val ∧ j.val < 2576)
  · simp only [packed, dif_pos hj]
  · simp only [packed, dif_neg hj, mul_zero, Finset.sum_const_zero]

/-- The literal `1/128` of the kernel's mean. -/
theorem lit_inv128 : Ideal.ofBits .f32 0x3C000000#32 = ((1 / 128 : ℝ) : EReal) := by
  simp [Ideal.ofBits, Ideal.ieee]; rw [← EReal.coe_mul]; norm_num

/-- A quotient by the literal `128` is a product with `1/128`. -/
theorem div_128 (x : EReal) : Ideal.div x (Ideal.ofBits .f32 0x43000000#32) = x * ((1 / 128 : ℝ) : EReal) := by
  have e : Ideal.ofBits .f32 0x43000000#32 = ((128 : ℝ) : EReal) := by
    simp [Ideal.ofBits, Ideal.ieee]; rw [← EReal.coe_mul]; norm_num
  rw [e]; exact Ideal.div_coe (by norm_num) x

/-- A quotient by the literal `192` is a product with `1/192`. -/
theorem div_192 (x : EReal) : Ideal.div x (Ideal.ofBits .f32 0x43400000#32) = x * ((1 / 192 : ℝ) : EReal) := by
  have e : Ideal.ofBits .f32 0x43400000#32 = ((192 : ℝ) : EReal) := by
    simp [Ideal.ofBits, Ideal.ieee]; rw [← EReal.coe_mul]; norm_num
  rw [e]; exact Ideal.div_coe (by norm_num) x

/-- The projection of one row, before packing. -/
def proj (x g sc sh : Fin 1024 → EReal) (w : Fin 1024 → Fin 6256 → EReal) (n : Fin 6256) : EReal :=
  ∑ k, modulated x g sc sh k * w k n

/-- The compressed queries of one projected row, normalised. -/
def cq (p : Fin 6256 → EReal) (g : Fin 192 → EReal) (i : Fin 192) : EReal :=
  p ⟨512 + i.val, by omega⟩ * Ideal.rsqrt ((∑ k : Fin 192, p ⟨512 + k.val, by omega⟩ * p ⟨512 + k.val, by omega⟩) * ((1 / 192 : ℝ) : EReal)
    + Ideal.ofBits .f32 0x358637BD#32) * g i

/-- The compressed keys and values of one projected row, normalised. -/
def ckv (p : Fin 6256 → EReal) (g : Fin 128 → EReal) (i : Fin 128) : EReal :=
  p ⟨704 + i.val, by omega⟩ * Ideal.rsqrt ((∑ k : Fin 128, p ⟨704 + k.val, by omega⟩ * p ⟨704 + k.val, by omega⟩) * ((1 / 128 : ℝ) : EReal)
    + Ideal.ofBits .f32 0x358637BD#32) * g i

/-- Column `j` of the packed queries: the four heads' plain parts of 64, then their rotated parts of 32. -/
def qcol (j : Fin 384) : Fin 384 :=
  if h : j.val < 256 then ⟨j.val / 64 * 96 + j.val % 64, by omega⟩
  else ⟨(j.val - 256) / 32 * 96 + 64 + j.val % 32, by omega⟩

/-- Column `j` of the packed keys and values: the four heads' keys, then their values. -/
def kvcol (j : Fin 512) : Fin 512 :=
  if h : j.val < 256 then ⟨j.val / 64 * 128 + j.val % 64, by omega⟩
  else ⟨(j.val - 256) / 64 * 128 + 64 + j.val % 64, by omega⟩

/-- A sum over 256 columns that vanishes from column 192 on. -/
theorem sum_192 (f : Fin 256 → EReal) (h : ∀ k : Fin 256, ¬ k.val < 192 → f k = 0) :
    ∑ k, f k = ∑ k : Fin 192, f ⟨k.val, by omega⟩ := by
  rw [show (∑ k : Fin 256, f k) = ∑ k : Fin (192 + 64), f k from rfl, Fin.sum_univ_add,
    Finset.sum_eq_zero (f := fun i : Fin 64 => f (Fin.natAdd 192 i)) (fun i _ => h _ (by simp)), add_zero]
  rfl

/-- The packed compressed queries, zeros after them. -/
theorem packed_cq (v : Fin 6256 → EReal) (k : Fin 256) :
    packed v ⟨768 + k.val, by omega⟩ = if h : k.val < 192 then v ⟨512 + k.val, by omega⟩ else 0 := by
  by_cases h : k.val < 192
  · rw [dif_pos h]
    exact packed_of _ _ _ (by dsimp only; omega) (by unfold source; dsimp only; split_ifs <;> omega)
  · rw [dif_neg h]
    exact packed_zero _ _ (by dsimp only; omega)

/-- The packed compressed keys and values. -/
theorem packed_ckv (v : Fin 6256 → EReal) (k : Fin 128) :
    packed v ⟨1024 + k.val, by omega⟩ = v ⟨704 + k.val, by omega⟩ :=
  packed_of _ _ _ (by dsimp only; omega) (by unfold source; dsimp only; split_ifs <;> omega)

/-- The queries of one projected row, packed. -/
def queries (p : Fin 6256 → EReal) (g : Fin 192 → EReal) (w : Fin 192 → Fin 384 → EReal) (j : Fin 384) : EReal :=
  ∑ i, cq p g i * w i (qcol j)

/-- The keys and values of one projected row, packed. -/
def keysValues (p : Fin 6256 → EReal) (g : Fin 128 → EReal) (w : Fin 128 → Fin 512 → EReal) (j : Fin 512) : EReal :=
  ∑ i, ckv p g i * w i (kvcol j)

/-- The queries computed over 256 columns, those from 192 on zero. -/
theorem queries_eq (q g : Fin 256 → EReal) (w : Fin 256 → EReal) (p : Fin 6256 → EReal) (g' : Fin 192 → EReal)
    (w' : Fin 192 → Fin 384 → EReal) (j : Fin 384) (hq : ∀ k, q k = packed p ⟨768 + k.val, by omega⟩)
    (hg : ∀ k, g k = if h : k.val < 192 then g' ⟨k.val, h⟩ else 0)
    (hw : ∀ k, w k = if h : k.val < 192 then w' ⟨k.val, h⟩ (qcol j) else 0) :
    ∑ k, q k * Ideal.rsqrt ((∑ i, q i * q i) * ((1 / 192 : ℝ) : EReal) + Ideal.ofBits .f32 0x358637BD#32) * g k * w k
      = queries p g' w' j := by
  have q0 : ∀ k : Fin 256, ¬ k.val < 192 → q k = 0 := fun k h => by rw [hq, packed_cq, dif_neg h]
  have q1 : ∀ k : Fin 192, q ⟨k.val, by omega⟩ = p ⟨512 + k.val, by omega⟩ := fun k => by
    rw [hq, packed_cq, dif_pos k.isLt]
  rw [sum_192 (fun i => q i * q i) (fun k h => by rw [q0 k h, mul_zero]),
    sum_192 _ (fun k h => by rw [hw, dif_neg h, mul_zero])]
  unfold queries cq
  refine Finset.sum_congr rfl fun k _ => ?_
  rw [hg, hw, dif_pos k.isLt, dif_pos k.isLt, q1]
  simp only [q1]

end Cert.Rows
-- ==== Proof.InprojPack.lean ====
module

public import proofs.«01_k».proof.Proof.Gen.Kernel4Ideal.Frame
public import proofs.«01_k».proof.Proof.InprojRows
public import proofs.«01_k».proof.Proof.Pieces
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! The weights as the kernel's host lines pack them. -/

namespace Cert.Kernel4Ideal.Value
open Cert.Kernel4Ideal Cert.Kernel4Ideal.Gen

/-- The packed weight's first 1280 columns. -/
def pack1 (w : FVec Ideal S1024x6256 .f32) : FVec Ideal S1024x1280 .f32 :=
  concatenate S1024x1280 1 [⟨S1024x256, (extractStridedSlice S1024x256 ![0, 0] (w) slices_S1024x6256_S1024x256_0_0 : FVec Ideal S1024x256 .f32)⟩,
    ⟨S1024x64, (extractStridedSlice S1024x64 ![0, 0] (extractStridedSlice S1024x128 ![0, 256] (w) slices_S1024x6256_S1024x128_0_256) slices_S1024x128_S1024x64_0_0 : FVec Ideal S1024x64 .f32)⟩,
    ⟨S1024x64, (extractStridedSlice S1024x64 ![0, 0] (extractStridedSlice S1024x128 ![0, 256] (w) slices_S1024x6256_S1024x128_0_256) slices_S1024x128_S1024x64_0_0 : FVec Ideal S1024x64 .f32)⟩,
    ⟨S1024x64, (extractStridedSlice S1024x64 ![0, 64] (extractStridedSlice S1024x128 ![0, 256] (w) slices_S1024x6256_S1024x128_0_256) slices_S1024x128_S1024x64_0_64 : FVec Ideal S1024x64 .f32)⟩,
    ⟨S1024x64, (extractStridedSlice S1024x64 ![0, 64] (extractStridedSlice S1024x128 ![0, 256] (w) slices_S1024x6256_S1024x128_0_256) slices_S1024x128_S1024x64_0_64 : FVec Ideal S1024x64 .f32)⟩,
    ⟨S1024x64, (extractStridedSlice S1024x64 ![0, 0] (extractStridedSlice S1024x128 ![0, 384] (w) slices_S1024x6256_S1024x128_0_384) slices_S1024x128_S1024x64_0_0 : FVec Ideal S1024x64 .f32)⟩,
    ⟨S1024x64, (extractStridedSlice S1024x64 ![0, 0] (extractStridedSlice S1024x128 ![0, 384] (w) slices_S1024x6256_S1024x128_0_384) slices_S1024x128_S1024x64_0_0 : FVec Ideal S1024x64 .f32)⟩,
    ⟨S1024x64, (extractStridedSlice S1024x64 ![0, 64] (extractStridedSlice S1024x128 ![0, 384] (w) slices_S1024x6256_S1024x128_0_384) slices_S1024x128_S1024x64_0_64 : FVec Ideal S1024x64 .f32)⟩,
    ⟨S1024x64, (extractStridedSlice S1024x64 ![0, 64] (extractStridedSlice S1024x128 ![0, 384] (w) slices_S1024x6256_S1024x128_0_384) slices_S1024x128_S1024x64_0_64 : FVec Ideal S1024x64 .f32)⟩,
    ⟨S1024x192, (extractStridedSlice S1024x192 ![0, 512] (w) slices_S1024x6256_S1024x192_0_512 : FVec Ideal S1024x192 .f32)⟩,
    ⟨S1024x64, (broadcastInDim S1024x64 ![] bcast_S_S1024x64 (constant S_ .f32 0x00000000#32) : FVec Ideal S1024x64 .f32)⟩,
    ⟨S1024x128, (extractStridedSlice S1024x128 ![0, 704] (w) slices_S1024x6256_S1024x128_0_704 : FVec Ideal S1024x128 .f32)⟩,
    ⟨S1024x32, (extractStridedSlice S1024x32 ![0, 832] (w) slices_S1024x6256_S1024x32_0_832 : FVec Ideal S1024x32 .f32)⟩,
    ⟨S1024x32, (extractStridedSlice S1024x32 ![0, 832] (w) slices_S1024x6256_S1024x32_0_832 : FVec Ideal S1024x32 .f32)⟩,
    ⟨S1024x32, (extractStridedSlice S1024x32 ![0, 832] (w) slices_S1024x6256_S1024x32_0_832 : FVec Ideal S1024x32 .f32)⟩,
    ⟨S1024x32, (extractStridedSlice S1024x32 ![0, 832] (w) slices_S1024x6256_S1024x32_0_832 : FVec Ideal S1024x32 .f32)⟩]
    concatenates_S1024x256_S1024x64_S1024x64_S1024x64_S1024x64_S1024x64_S1024x64_S1024x64_S1024x64_S1024x192_S1024x64_S1024x128_S1024x32_S1024x32_S1024x32_S1024x32_S1024x1280_d1

set_option maxHeartbeats 2000000 in
/-- Its columns, by the packed order. -/
theorem pack1_at (w : FVec Ideal S1024x6256 .f32) (k : Fin 1024) (j : Fin 1280) :
    pack1 w (ix2 k j) = Rows.packed (fun n => w (ix2 k n)) ⟨0 + j.val, by omega⟩ := by
  unfold pack1
  by_cases h0 : j.val < 256
  · refine Eq.trans (Pieces.at2 _ _ k j 0 (by simp) _ rfl 0 rfl ⟨j.val - 0, by omega⟩ (by dsimp only; omega)) ?_
    rw [Rows.packed_of _ _ ⟨j.val, by omega⟩ (by dsimp only; omega) (by unfold Rows.source; dsimp only; split_ifs <;> omega)]
    pointwise
  by_cases h1 : j.val < 320
  · refine Eq.trans (Pieces.at2 _ _ k j 1 (by simp) _ rfl 256 rfl ⟨j.val - 256, by omega⟩ (by dsimp only; omega)) ?_
    rw [Rows.packed_of _ _ ⟨256 + (j.val - 256), by omega⟩ (by dsimp only; omega) (by unfold Rows.source; dsimp only; split_ifs <;> omega)]
    pointwise
  by_cases h2 : j.val < 384
  · refine Eq.trans (Pieces.at2 _ _ k j 2 (by simp) _ rfl 320 rfl ⟨j.val - 320, by omega⟩ (by dsimp only; omega)) ?_
    rw [Rows.packed_of _ _ ⟨256 + (j.val - 320), by omega⟩ (by dsimp only; omega) (by unfold Rows.source; dsimp only; split_ifs <;> omega)]
    pointwise
  by_cases h3 : j.val < 448
  · refine Eq.trans (Pieces.at2 _ _ k j 3 (by simp) _ rfl 384 rfl ⟨j.val - 384, by omega⟩ (by dsimp only; omega)) ?_
    rw [Rows.packed_of _ _ ⟨256 + (64 + (j.val - 384)), by omega⟩ (by dsimp only; omega) (by unfold Rows.source; dsimp only; split_ifs <;> omega)]
    pointwise
  by_cases h4 : j.val < 512
  · refine Eq.trans (Pieces.at2 _ _ k j 4 (by simp) _ rfl 448 rfl ⟨j.val - 448, by omega⟩ (by dsimp only; omega)) ?_
    rw [Rows.packed_of _ _ ⟨256 + (64 + (j.val - 448)), by omega⟩ (by dsimp only; omega) (by unfold Rows.source; dsimp only; split_ifs <;> omega)]
    pointwise
  by_cases h5 : j.val < 576
  · refine Eq.trans (Pieces.at2 _ _ k j 5 (by simp) _ rfl 512 rfl ⟨j.val - 512, by omega⟩ (by dsimp only; omega)) ?_
    rw [Rows.packed_of _ _ ⟨384 + (j.val - 512), by omega⟩ (by dsimp only; omega) (by unfold Rows.source; dsimp only; split_ifs <;> omega)]
    pointwise
  by_cases h6 : j.val < 640
  · refine Eq.trans (Pieces.at2 _ _ k j 6 (by simp) _ rfl 576 rfl ⟨j.val - 576, by omega⟩ (by dsimp only; omega)) ?_
    rw [Rows.packed_of _ _ ⟨384 + (j.val - 576), by omega⟩ (by dsimp only; omega) (by unfold Rows.source; dsimp only; split_ifs <;> omega)]
    pointwise
  by_cases h7 : j.val < 704
  · refine Eq.trans (Pieces.at2 _ _ k j 7 (by simp) _ rfl 640 rfl ⟨j.val - 640, by omega⟩ (by dsimp only; omega)) ?_
    rw [Rows.packed_of _ _ ⟨384 + (64 + (j.val - 640)), by omega⟩ (by dsimp only; omega) (by unfold Rows.source; dsimp only; split_ifs <;> omega)]
    pointwise
  by_cases h8 : j.val < 768
  · refine Eq.trans (Pieces.at2 _ _ k j 8 (by simp) _ rfl 704 rfl ⟨j.val - 704, by omega⟩ (by dsimp only; omega)) ?_
    rw [Rows.packed_of _ _ ⟨384 + (64 + (j.val - 704)), by omega⟩ (by dsimp only; omega) (by unfold Rows.source; dsimp only; split_ifs <;> omega)]
    pointwise
  by_cases h9 : j.val < 960
  · refine Eq.trans (Pieces.at2 _ _ k j 9 (by simp) _ rfl 768 rfl ⟨j.val - 768, by omega⟩ (by dsimp only; omega)) ?_
    rw [Rows.packed_of _ _ ⟨512 + (j.val - 768), by omega⟩ (by dsimp only; omega) (by unfold Rows.source; dsimp only; split_ifs <;> omega)]
    pointwise
  by_cases h10 : j.val < 1024
  · refine Eq.trans (Pieces.at2 _ _ k j 10 (by simp) _ rfl 960 rfl ⟨j.val - 960, by omega⟩ (by dsimp only; omega)) ?_
    rw [Rows.packed_zero _ _ (by dsimp only; omega)]
    pointwise
  by_cases h11 : j.val < 1152
  · refine Eq.trans (Pieces.at2 _ _ k j 11 (by simp) _ rfl 1024 rfl ⟨j.val - 1024, by omega⟩ (by dsimp only; omega)) ?_
    rw [Rows.packed_of _ _ ⟨704 + (j.val - 1024), by omega⟩ (by dsimp only; omega) (by unfold Rows.source; dsimp only; split_ifs <;> omega)]
    pointwise
  by_cases h12 : j.val < 1184
  · refine Eq.trans (Pieces.at2 _ _ k j 12 (by simp) _ rfl 1152 rfl ⟨j.val - 1152, by omega⟩ (by dsimp only; omega)) ?_
    rw [Rows.packed_of _ _ ⟨832 + (j.val - 1152), by omega⟩ (by dsimp only; omega) (by unfold Rows.source; dsimp only; split_ifs <;> omega)]
    pointwise
  by_cases h13 : j.val < 1216
  · refine Eq.trans (Pieces.at2 _ _ k j 13 (by simp) _ rfl 1184 rfl ⟨j.val - 1184, by omega⟩ (by dsimp only; omega)) ?_
    rw [Rows.packed_of _ _ ⟨832 + (j.val - 1184), by omega⟩ (by dsimp only; omega) (by unfold Rows.source; dsimp only; split_ifs <;> omega)]
    pointwise
  by_cases h14 : j.val < 1248
  · refine Eq.trans (Pieces.at2 _ _ k j 14 (by simp) _ rfl 1216 rfl ⟨j.val - 1216, by omega⟩ (by dsimp only; omega)) ?_
    rw [Rows.packed_of _ _ ⟨832 + (j.val - 1216), by omega⟩ (by dsimp only; omega) (by unfold Rows.source; dsimp only; split_ifs <;> omega)]
    pointwise
  · refine Eq.trans (Pieces.at2 _ _ k j 15 (by simp) _ rfl 1248 rfl ⟨j.val - 1248, by omega⟩ (by dsimp only; omega)) ?_
    rw [Rows.packed_of _ _ ⟨832 + (j.val - 1248), by omega⟩ (by dsimp only; omega) (by unfold Rows.source; dsimp only; split_ifs <;> omega)]
    pointwise

/-- The packed weight's other columns. -/
def pack2 (w : FVec Ideal S1024x6256 .f32) : FVec Ideal S1024x1408 .f32 :=
  concatenate S1024x1408 1 [⟨S1024x256, (extractStridedSlice S1024x256 ![0, 864] (w) slices_S1024x6256_S1024x256_0_864 : FVec Ideal S1024x256 .f32)⟩,
    ⟨S1024x768, (extractStridedSlice S1024x768 ![0, 1120] (w) slices_S1024x6256_S1024x768_0_1120 : FVec Ideal S1024x768 .f32)⟩,
    ⟨S1024x256, (extractStridedSlice S1024x256 ![0, 1888] (w) slices_S1024x6256_S1024x256_0_1888 : FVec Ideal S1024x256 .f32)⟩,
    ⟨S1024x8, (extractStridedSlice S1024x8 ![0, 2144] (w) slices_S1024x6256_S1024x8_0_2144 : FVec Ideal S1024x8 .f32)⟩,
    ⟨S1024x8, (extractStridedSlice S1024x8 ![0, 2152] (w) slices_S1024x6256_S1024x8_0_2152 : FVec Ideal S1024x8 .f32)⟩,
    ⟨S1024x112, (broadcastInDim S1024x112 ![] bcast_S_S1024x112 (constant S_ .f32 0x00000000#32) : FVec Ideal S1024x112 .f32)⟩]
    concatenates_S1024x256_S1024x768_S1024x256_S1024x8_S1024x8_S1024x112_S1024x1408_d1

set_option maxHeartbeats 2000000 in
/-- Its columns, by the packed order. -/
theorem pack2_at (w : FVec Ideal S1024x6256 .f32) (k : Fin 1024) (j : Fin 1408) :
    pack2 w (ix2 k j) = Rows.packed (fun n => w (ix2 k n)) ⟨1280 + j.val, by omega⟩ := by
  unfold pack2
  by_cases h0 : j.val < 256
  · refine Eq.trans (Pieces.at2 _ _ k j 0 (by simp) _ rfl 0 rfl ⟨j.val - 0, by omega⟩ (by dsimp only; omega)) ?_
    rw [Rows.packed_of _ _ ⟨864 + (j.val - 0), by omega⟩ (by dsimp only; omega) (by unfold Rows.source; dsimp only; split_ifs <;> omega)]
    pointwise
  by_cases h1 : j.val < 1024
  · refine Eq.trans (Pieces.at2 _ _ k j 1 (by simp) _ rfl 256 rfl ⟨j.val - 256, by omega⟩ (by dsimp only; omega)) ?_
    rw [Rows.packed_of _ _ ⟨1120 + (j.val - 256), by omega⟩ (by dsimp only; omega) (by unfold Rows.source; dsimp only; split_ifs <;> omega)]
    pointwise
  by_cases h2 : j.val < 1280
  · refine Eq.trans (Pieces.at2 _ _ k j 2 (by simp) _ rfl 1024 rfl ⟨j.val - 1024, by omega⟩ (by dsimp only; omega)) ?_
    rw [Rows.packed_of _ _ ⟨1888 + (j.val - 1024), by omega⟩ (by dsimp only; omega) (by unfold Rows.source; dsimp only; split_ifs <;> omega)]
    pointwise
  by_cases h3 : j.val < 1288
  · refine Eq.trans (Pieces.at2 _ _ k j 3 (by simp) _ rfl 1280 rfl ⟨j.val - 1280, by omega⟩ (by dsimp only; omega)) ?_
    rw [Rows.packed_of _ _ ⟨2144 + (j.val - 1280), by omega⟩ (by dsimp only; omega) (by unfold Rows.source; dsimp only; split_ifs <;> omega)]
    pointwise
  by_cases h4 : j.val < 1296
  · refine Eq.trans (Pieces.at2 _ _ k j 4 (by simp) _ rfl 1288 rfl ⟨j.val - 1288, by omega⟩ (by dsimp only; omega)) ?_
    rw [Rows.packed_of _ _ ⟨2152 + (j.val - 1288), by omega⟩ (by dsimp only; omega) (by unfold Rows.source; dsimp only; split_ifs <;> omega)]
    pointwise
  · refine Eq.trans (Pieces.at2 _ _ k j 5 (by simp) _ rfl 1296 rfl ⟨j.val - 1296, by omega⟩ (by dsimp only; omega)) ?_
    rw [Rows.packed_zero _ _ (by dsimp only; omega)]
    pointwise

/-- The packed weight. -/
def pack (w : FVec Ideal S1024x6256 .f32) : FVec Ideal S1024x2688 .bf16 :=
  truncf .bf16 (concatenate S1024x2688 1 [⟨S1024x1280, pack1 w⟩, ⟨S1024x1408, pack2 w⟩] concatenates_S1024x1280_S1024x1408_S1024x2688_d1 : FVec Ideal S1024x2688 .f32) bitsLt_bf16_f32

/-- Its columns, by the packed order. -/
theorem pack_at (w : FVec Ideal S1024x6256 .f32) (k : Fin 1024) (j : Fin 2688) :
    pack w (ix2 k j) = Rows.packed (fun n => w (ix2 k n)) j := by
  unfold pack
  show concatenate S1024x2688 1 [⟨S1024x1280, pack1 w⟩, ⟨S1024x1408, pack2 w⟩] concatenates_S1024x1280_S1024x1408_S1024x2688_d1 (ix2 k j) = _
  by_cases h : j.val < 1280
  · refine Eq.trans (Pieces.at2 _ _ k j 0 (by simp) _ rfl 0 rfl ⟨j.val, h⟩ (by dsimp only; omega)) ?_
    rw [pack1_at]; exact congrArg _ (Fin.ext (by dsimp only; omega))
  · refine Eq.trans (Pieces.at2 _ _ k j 1 (by simp) _ rfl 1280 rfl ⟨j.val - 1280, by omega⟩ (by dsimp only; omega)) ?_
    rw [pack2_at]; exact congrArg _ (Fin.ext (by dsimp only; omega))

variable (m : (ℓ : Loc nD τ sig) → Buf (Elt Ideal) ℓ)

/-- The packed weight is what the host lines leave in the window's array. -/
theorem weight (c : Dev nD) : V m c main_v21 = pack (m ((c : Thread nD τ).loc main_arg3)) := by
  unfold pack pack1 pack2
  after_results_simp
  try dsimp only [Matrix.cons_val]
  try after_results_simp
  rfl

end Cert.Kernel4Ideal.Value

end
-- ==== Proof.InprojLow.lean ====
module

public import proofs.«01_k».proof.Proof.Gen.Kernel4Ideal.Frame
public import proofs.«01_k».proof.Proof.InprojRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! The low-rank branches' weights and gains as the kernel's host lines pack them. -/

namespace Cert.Kernel4Ideal.Value
open Cert.Kernel4Ideal Cert.Kernel4Ideal.Gen

/-- The query weight, its heads' plain and rotated columns apart, 64 rows of zeros below. -/
def packQ (w : FVec Ideal S192x384 .f32) : FVec Ideal S256x384 .bf16 :=
  truncf .bf16 (pad S256x384 ![0, 0] ![64, 0] ![0, 0]
    (concatenate S192x384 1
      [⟨S192x256, (shapeCast S192x256 (extractStridedSlice S192x4x64 ![0, 0, 0] (shapeCast S192x4x96 w shapeCasts_S192x384_S192x4x96) slices_S192x4x96_S192x4x64_0_0_0) shapeCasts_S192x4x64_S192x256 : FVec Ideal S192x256 .f32)⟩,
       ⟨S192x128, (shapeCast S192x128 (extractStridedSlice S192x4x32 ![0, 0, 64] (shapeCast S192x4x96 w shapeCasts_S192x384_S192x4x96) slices_S192x4x96_S192x4x32_0_0_64) shapeCasts_S192x4x32_S192x128 : FVec Ideal S192x128 .f32)⟩]
      concatenates_S192x256_S192x128_S192x384_d1)
    (sitofp .f32 (constantI S_ 32 0#32) : FVec Ideal S_ .f32) pads_S192x384_S256x384_0640_000 h_S_ : FVec Ideal S256x384 .f32) bitsLt_bf16_f32

/-- Its entries. -/
theorem packQ_at (w : FVec Ideal S192x384 .f32) (k : Fin 256) (j : Fin 384) :
    packQ w (ix2 k j) = if h : k.val < 192 then w (ix2 ⟨k.val, h⟩ (Rows.qcol j)) else 0 := by
  have e : FloatOps.sitofp (F := Ideal) .f32 (0#32 : BitVec 32) = 0 := by simp [FloatOps.sitofp]
  pointwise [packQ, Rows.qcol]
  rw [e]
  by_cases h : k.val < 192
  · rw [dif_pos h, dif_pos h]
    by_cases hj : j.val < 256
    · rw [dif_pos hj, dif_pos hj]
    · rw [dif_neg hj, dif_neg hj]
      exact congrArg (fun l => w (ix2 _ l)) (Fin.ext (by dsimp only; omega))
  · rw [dif_neg h, dif_neg h]

/-- The key and value weight, its heads' keys and values apart. -/
def packKV (w : FVec Ideal S128x512 .f32) : FVec Ideal S128x512 .bf16 :=
  truncf .bf16 (concatenate S128x512 1
      [⟨S128x256, (shapeCast S128x256 (extractStridedSlice S128x4x64 ![0, 0, 0] (shapeCast S128x4x128 w shapeCasts_S128x512_S128x4x128) slices_S128x4x128_S128x4x64_0_0_0) shapeCasts_S128x4x64_S128x256 : FVec Ideal S128x256 .f32)⟩,
       ⟨S128x256, (shapeCast S128x256 (extractStridedSlice S128x4x64 ![0, 0, 64] (shapeCast S128x4x128 w shapeCasts_S128x512_S128x4x128) slices_S128x4x128_S128x4x64_0_0_64) shapeCasts_S128x4x64_S128x256 : FVec Ideal S128x256 .f32)⟩]
      concatenates_S128x256_S128x256_S128x512_d1 : FVec Ideal S128x512 .f32) bitsLt_bf16_f32

/-- Its entries. -/
theorem packKV_at (w : FVec Ideal S128x512 .f32) (k : Fin 128) (j : Fin 512) :
    packKV w (ix2 k j) = w (ix2 k (Rows.kvcol j)) := by
  pointwise [packKV, Rows.kvcol]
  by_cases hj : j.val < 256
  · rw [dif_pos hj, dif_pos hj]
  · rw [dif_neg hj, dif_neg hj]
    exact congrArg (fun l => w (ix2 k l)) (Fin.ext (by dsimp only; omega))

/-- The queries' gain, 64 zeros after it. -/
def packG (g : FVec Ideal S192 .f32) : FVec Ideal S1x256 .f32 :=
  broadcastInDim S1x256 ![1] bcast_S256_S1x256_1
    (pad S256 ![0] ![64] ![0] g (sitofp .f32 (constantI S_ 32 0#32) : FVec Ideal S_ .f32) pads_S192_S256_0640 h_S_ : FVec Ideal S256 .f32)

/-- Its entries. -/
theorem packG_at (g : FVec Ideal S192 .f32) (k : Fin 256) :
    packG g (ix2 0 k) = if h : k.val < 192 then g (ix1 ⟨k.val, h⟩) else 0 := by
  have e : FloatOps.sitofp (F := Ideal) .f32 (0#32 : BitVec 32) = 0 := by simp [FloatOps.sitofp]
  pointwise [packG]
  rw [e]

variable (m : (ℓ : Loc nD τ sig) → Buf (Elt Ideal) ℓ)

/-- The window's array of the query weight is the packed weight. -/
theorem weightQ (c : Dev nD) : V m c main_v30 = packQ (m ((c : Thread nD τ).loc main_arg5)) := by
  unfold packQ
  unfold V V0
  simp only [hostOps0, hostOps0_1, hostOps0_2, hostOps0_3, hostOps0_4, List.flatten_cons, List.flatten_nil, List.append_nil, List.cons_append, List.nil_append]
  after_results_simp
  rfl

/-- The window's array of the key and value weight is the packed weight. -/
theorem weightKV (c : Dev nD) : V m c main_v37 = packKV (m ((c : Thread nD τ).loc main_arg7)) := by
  unfold packKV
  unfold V V0
  simp only [hostOps0, hostOps0_1, hostOps0_2, hostOps0_3, hostOps0_4, List.flatten_cons, List.flatten_nil, List.append_nil, List.cons_append, List.nil_append]
  after_results_simp
  rfl

/-- The window's array of the queries' gain is the padded gain. -/
theorem gain (c : Dev nD) : V m c main_v39 = packG (m ((c : Thread nD τ).loc main_arg4)) := by
  unfold packG
  unfold V V0
  simp only [hostOps0, hostOps0_1, hostOps0_2, hostOps0_3, hostOps0_4, List.flatten_cons, List.flatten_nil, List.append_nil, List.cons_append, List.nil_append]
  after_results_simp
  rfl

/-- The window's array of the input's gain. -/
theorem gain1 (c : Dev nD) (k : Fin 1024) :
    (V m c main_v40 : FVec Ideal S1x1024 .f32) (ix2 0 k) = (m ((c : Thread nD τ).loc main_arg2) : FVec Ideal S1024 .f32) (ix1 k) := by
  unfold V V0
  simp only [hostOps0, hostOps0_1, hostOps0_2, hostOps0_3, hostOps0_4, List.flatten_cons, List.flatten_nil, List.append_nil, List.cons_append, List.nil_append]
  after_results_simp
  pointwise

/-- The window's array of the keys' gain. -/
theorem gain2 (c : Dev nD) (k : Fin 128) :
    (V m c main_v41 : FVec Ideal S1x128 .f32) (ix2 0 k) = (m ((c : Thread nD τ).loc main_arg6) : FVec Ideal S128 .f32) (ix1 k) := by
  unfold V V0
  simp only [hostOps0, hostOps0_1, hostOps0_2, hostOps0_3, hostOps0_4, List.flatten_cons, List.flatten_nil, List.append_nil, List.cons_append, List.nil_append]
  after_results_simp
  pointwise

end Cert.Kernel4Ideal.Value

end
-- ==== Proof.InprojKer.lean ====
module

public import proofs.«01_k».proof.Proof.InprojPack
public import proofs.«01_k».proof.Proof.InprojLow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel4Ideal.Value
open Cert.Kernel4Ideal Cert.Kernel4Ideal.Gen

/-- The named constant is `1/192`. -/
theorem inv_rank : Named.named (F := Ideal) κ "inv_rank" (φ := .f32) 0x3BAAAAAB#32 = ((1 / 192 : ℝ) : EReal) :=
  IdealRules.named_const.ideal_named_scalar _ _ _ _ rfl

section Payloads
variable (P0 : FVec Ideal S256x1024 .f32) (P1 : FVec Ideal S1x1x6144 .f32) (P2 : FVec Ideal S1x1024 .f32)
  (P3 : FVec Ideal S1024x2688 .bf16) (P4 : FVec Ideal S1x256 .f32) (P5 : FVec Ideal S256x384 .bf16)
  (P6 : FVec Ideal S1x128 .f32) (P7 : FVec Ideal S128x512 .bf16)

/-- The block's packed projection. -/
theorem pay_proj (w : Fin 1024 → Fin 6256 → EReal) (r : Fin 256) (j : Fin 2688)
    (hw : ∀ k j, P3 (ix2 k j) = Rows.packed (w k) j) :
    k0_pay4 (F := Ideal) P0 P1 P2 P3 (ix2 r j)
      = Rows.packed (Rows.proj (fun k => P0 (ix2 r k)) (fun k => P2 (ix2 0 k))
          (fun k => P1 (ix3 0 0 ⟨1024 + k.val, by omega⟩)) (fun k => P1 (ix3 0 0 ⟨k.val, by omega⟩)) w) j := by
  refine Eq.trans ?_ (Rows.packed_sum _ _ _)
  pointwise [k0_pay4, hw, Rows.modulated, Rows.rms, Rows.lit_inv1024]

/-- The block's queries, from its packed projection. -/
theorem pay_queries (p : Fin 6256 → EReal) (g : Fin 192 → EReal) (w : Fin 192 → Fin 384 → EReal) (r : Fin 256) (j : Fin 384)
    (hp : ∀ j, k0_pay4 (F := Ideal) P0 P1 P2 P3 (ix2 r j) = Rows.packed p j)
    (hg : ∀ k : Fin 256, P4 (ix2 0 k) = if h : k.val < 192 then g ⟨k.val, h⟩ else 0)
    (hw : ∀ (k : Fin 256) (j : Fin 384), P5 (ix2 k j) = if h : k.val < 192 then w ⟨k.val, h⟩ (Rows.qcol j) else 0) :
    k0_pay1 (F := Ideal) (k0_pay5 P0 P1 P2 P3) (k0_pay6 P4) (k0_pay7 P0 P1 P2 P3) P5 (ix2 r j) = Rows.queries p g w j := by
  have hn := inv_rank
  refine Eq.trans ?_ (Rows.queries_eq (fun k => k0_pay4 (F := Ideal) P0 P1 P2 P3 (ix2 r ⟨768 + k.val, by omega⟩)) (fun k => P4 (ix2 0 k))
    (fun k => P5 (ix2 k j)) p g w j (fun k => hp _) hg (fun k => hw k j))
  generalize e : k0_pay4 (F := Ideal) P0 P1 P2 P3 = Q
  pointwise [k0_pay1, k0_pay5, k0_pay6, k0_pay7, e, hn]

/-- The block's compressed keys and values, from its packed projection. -/
theorem pay_ckv (Q : FVec Ideal S256x2688 .f32) (p : Fin 6256 → EReal) (r : Fin 256) (i : Fin 128)
    (hp : ∀ j, Q (ix2 r j) = Rows.packed p j) :
    k0_pay2 (F := Ideal) Q P6 (ix2 r i) = Rows.ckv p (fun k => P6 (ix2 0 k)) i := by
  have hq : ∀ k : Fin 128, Q (ix2 r ⟨1024 + k.val, by omega⟩) = p ⟨704 + k.val, by omega⟩ := fun k =>
    (hp _).trans (Rows.packed_ckv _ _)
  pointwise [k0_pay2, hq, Rows.ckv, Rows.lit_inv128]

/-- The block's keys and values, from its packed projection. -/
theorem pay_kv (Q : FVec Ideal S256x2688 .f32) (p : Fin 6256 → EReal) (w : Fin 128 → Fin 512 → EReal) (r : Fin 256) (j : Fin 512)
    (hp : ∀ j, Q (ix2 r j) = Rows.packed p j) (hw : ∀ k j, P7 (ix2 k j) = w k (Rows.kvcol j)) :
    k0_pay3 (F := Ideal) Q P6 P7 (ix2 r j) = Rows.keysValues p (fun k => P6 (ix2 0 k)) w j := by
  have hc := fun i => pay_ckv P6 Q p r i hp
  pointwise [k0_pay3, hc, hw, Rows.keysValues]

end Payloads

/-- The block indices of the pipelined windows. -/
theorem idx : ∀ t : Fin cfg0.N, win0_0.index t = ![t.val, 0] ∧ win0_1.index t = ![0, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0]
    ∧ win0_9.index t = ![t.val, 0] ∧ win0_10.index t = ![t.val, 0] ∧ win0_11.index t = ![t.val, 0] :=
  (by decide +kernel : ∀ t : Fin grid0.N, _)

/-- Row `r` of block `t`, among the array's rows. -/
def row (t : Fin cfg0.N) (r : Fin 256) : Fin 8192 :=
  ⟨t.val * 256 + r.val, by have := t.isLt; have e : cfg0.N = 32 := rfl; omega⟩

variable (m : (ℓ : Loc nD τ sig) → Buf (Elt Ideal) ℓ)

/-- The projection of row `r` of the arrays, before packing. -/
def prow (x : FVec Ideal S8192x1024 .f32) (md : FVec Ideal S1x1x6144 .f32) (g : FVec Ideal S1024 .f32)
    (w : FVec Ideal S1024x6256 .f32) (r : Fin 8192) : Fin 6256 → EReal :=
  Rows.proj (fun k => x (ix2 r k)) (fun k => g (ix1 k)) (fun k => md (ix3 0 0 ⟨1024 + k.val, by omega⟩))
    (fun k => md (ix3 0 0 ⟨k.val, by omega⟩)) (fun k n => w (ix2 k n))

/-- The packed projection of the arrays. -/
def packedRows (x : FVec Ideal S8192x1024 .f32) (md : FVec Ideal S1x1x6144 .f32) (g : FVec Ideal S1024 .f32)
    (w : FVec Ideal S1024x6256 .f32) : FVec Ideal S8192x2688 .f32 := fun i => Rows.packed (prow x md g w (i 0)) (i 1)

/-- The queries of the arrays. -/
def queryRows (x : FVec Ideal S8192x1024 .f32) (md : FVec Ideal S1x1x6144 .f32) (g : FVec Ideal S1024 .f32)
    (w : FVec Ideal S1024x6256 .f32) (gq : FVec Ideal S192 .f32) (wq : FVec Ideal S192x384 .f32) : FVec Ideal S8192x384 .f32 := fun i =>
  Rows.queries (prow x md g w (i 0)) (fun k => gq (ix1 k)) (fun k j => wq (ix2 k j)) (i 1)

/-- The compressed keys and values of the arrays. -/
def ckvRows (x : FVec Ideal S8192x1024 .f32) (md : FVec Ideal S1x1x6144 .f32) (g : FVec Ideal S1024 .f32)
    (w : FVec Ideal S1024x6256 .f32) (gk : FVec Ideal S128 .f32) : FVec Ideal S8192x128 .f32 := fun i =>
  Rows.ckv (prow x md g w (i 0)) (fun k => gk (ix1 k)) (i 1)

/-- The keys and values of the arrays. -/
def kvRows (x : FVec Ideal S8192x1024 .f32) (md : FVec Ideal S1x1x6144 .f32) (g : FVec Ideal S1024 .f32)
    (w : FVec Ideal S1024x6256 .f32) (gk : FVec Ideal S128 .f32) (wk : FVec Ideal S128x512 .f32) : FVec Ideal S8192x512 .f32 := fun i =>
  Rows.keysValues (prow x md g w (i 0)) (fun k => gk (ix1 k)) (fun k j => wk (ix2 k j)) (i 1)

section Blocks
variable (c : Dev nD) (t : Fin cfg0.N)

theorem blk0 (r : Fin 256) (k : Fin 1024) : (iblk m c 0 t : FVec Ideal S256x1024 .f32) (ix2 r k)
    = (m ((c : Thread nD τ).loc main_arg0) : FVec Ideal S8192x1024 .f32) (ix2 (row t r) k) := by
  have e := V_main_arg0 m c
  blk_point [iblk, e, idx t, row]

theorem blk1 (n : Fin 6144) : (iblk m c 1 t : FVec Ideal S1x1x6144 .f32) (ix3 0 0 n)
    = (m ((c : Thread nD τ).loc main_arg1) : FVec Ideal S1x1x6144 .f32) (ix3 0 0 n) := by
  have e := V_main_arg1 m c
  blk_point [iblk, e, idx t]

theorem blk2 (k : Fin 1024) : (iblk m c 2 t : FVec Ideal S1x1024 .f32) (ix2 0 k)
    = (m ((c : Thread nD τ).loc main_arg2) : FVec Ideal S1024 .f32) (ix1 k) := by
  refine Eq.trans ?_ (gain1 m c k)
  blk_point [iblk, idx t]

theorem blk3 (k : Fin 1024) (j : Fin 2688) : (iblk m c 3 t : FVec Ideal S1024x2688 .bf16) (ix2 k j)
    = Rows.packed (fun n => (m ((c : Thread nD τ).loc main_arg3) : FVec Ideal S1024x6256 .f32) (ix2 k n)) j := by
  refine Eq.trans ?_ (pack_at _ k j)
  rw [← weight m c]
  blk_point [iblk, idx t]

theorem blk4 (k : Fin 256) : (iblk m c 4 t : FVec Ideal S1x256 .f32) (ix2 0 k)
    = if h : k.val < 192 then (m ((c : Thread nD τ).loc main_arg4) : FVec Ideal S192 .f32) (ix1 ⟨k.val, h⟩) else (0 : EReal) := by
  refine Eq.trans ?_ (packG_at _ k)
  rw [← gain m c]
  blk_point [iblk, idx t]

theorem blk5 (k : Fin 256) (j : Fin 384) : (iblk m c 5 t : FVec Ideal S256x384 .bf16) (ix2 k j)
    = if h : k.val < 192 then (m ((c : Thread nD τ).loc main_arg5) : FVec Ideal S192x384 .f32) (ix2 ⟨k.val, h⟩ (Rows.qcol j)) else (0 : EReal) := by
  refine Eq.trans ?_ (packQ_at _ k j)
  rw [← weightQ m c]
  blk_point [iblk, idx t]

theorem blk6 (k : Fin 128) : (iblk m c 6 t : FVec Ideal S1x128 .f32) (ix2 0 k)
    = (m ((c : Thread nD τ).loc main_arg6) : FVec Ideal S128 .f32) (ix1 k) := by
  refine Eq.trans ?_ (gain2 m c k)
  blk_point [iblk, idx t]

theorem blk7 (k : Fin 128) (j : Fin 512) : (iblk m c 7 t : FVec Ideal S128x512 .bf16) (ix2 k j)
    = (m ((c : Thread nD τ).loc main_arg7) : FVec Ideal S128x512 .f32) (ix2 k (Rows.kvcol j)) := by
  refine Eq.trans ?_ (packKV_at _ k j)
  rw [← weightKV m c]
  blk_point [iblk, idx t]

/-- The block's packed projection is the arrays'. -/
theorem proj_blk (r : Fin 256) (j : Fin 2688) :
    k0_pay4 (F := Ideal) (iblk m c 0 t) (iblk m c 1 t) (iblk m c 2 t) (iblk m c 3 t) (ix2 r j)
      = Rows.packed (prow (m ((c : Thread nD τ).loc main_arg0)) (m ((c : Thread nD τ).loc main_arg1))
          (m ((c : Thread nD τ).loc main_arg2)) (m ((c : Thread nD τ).loc main_arg3)) (row t r)) j := by
  refine (pay_proj _ _ _ _ _ r j (blk3 m c t)).trans ?_
  have h0 := fun k => blk0 m c t r k
  have h1 := blk1 m c t
  have h2 := blk2 m c t
  simp only [h0, h1, h2]
  rfl

end Blocks

/-- The packed projection that the later outputs share. -/
theorem shared (x0 : FVec Ideal S256x1024 .f32) (x1 : FVec Ideal S1x1x6144 .f32) (x2 : FVec Ideal S1x1024 .f32)
    (x3 : FVec Ideal S1024x2688 .bf16) (x4 : FVec Ideal S1x256 .f32) (x5 : FVec Ideal S256x384 .bf16)
    (x6 : FVec Ideal S1x128 .f32) (x7 : FVec Ideal S128x512 .bf16) :
    k0_pay8 (F := Ideal) x0 x1 x2 x3 x4 x5 x6 x7 = k0_pay4 x0 x1 x2 x3 := by
  unfold k0_pay8 r0_0 r0_1 r0_2 r0_3
  simp (disch := decide) only [View.ld_unit_lit']

/-- Block `t` of the packed projection. -/
theorem point8 (c : Dev nD) (t : Fin cfg0.N) (y : S256x2688.Idx) :
    k0_pay4 (F := Ideal) (iblk m c 0 t) (iblk m c 1 t) (iblk m c 2 t) (iblk m c 3 t) y
      = packedRows (m ((c : Thread nD τ).loc main_arg0)) (m ((c : Thread nD τ).loc main_arg1))
      (m ((c : Thread nD τ).loc main_arg2)) (m ((c : Thread nD τ).loc main_arg3)) (ix2 (row t (y 0)) (y 1)) := by
  rw [eq_ix2 y]
  exact proj_blk m c t (y 0) (y 1)

/-- Where block `t` of the packed projection lies. -/
theorem emb8 (t : Fin cfg0.N) (y : S256x2688.Idx) :
    (((cfg0.win 8).blk t).view.emb y : S8192x2688.Idx) = ix2 (row t (y 0)) (y 1) := by
  funext a
  match a with
  | ⟨0, _⟩ => exact Fin.ext (by blk_simp [idx t, row]; rfl)
  | ⟨1, _⟩ => exact Fin.ext (by blk_simp [idx t]; rfl)

/-- The packed projection's array after the run. -/
theorem final8 (c : Dev nD) : (dats m 0 c).arrAt 8 (cfgs 0).N
    = packedRows (m ((c : Thread nD τ).loc main_arg0)) (m ((c : Thread nD τ).loc main_arg1))
      (m ((c : Thread nD τ).loc main_arg2)) (m ((c : Thread nD τ).loc main_arg3)) := by
  refine (dats m 0 c).arrAt_eq_of_covers 8 _ (by decide +kernel) fun t _ y => ?_
  have h := (point8 m c t y).trans (congrArg (packedRows (m ((c : Thread nD τ).loc main_arg0)) (m ((c : Thread nD τ).loc main_arg1))
      (m ((c : Thread nD τ).loc main_arg2)) (m ((c : Thread nD τ).loc main_arg3))) (emb8 t y).symm)
  blk_simp; rw [after0_8]; frame_out
  exact h

/-- Block `t` of the queries. -/
theorem point9 (c : Dev nD) (t : Fin cfg0.N) (y : S256x384.Idx) :
    k0_pay1 (F := Ideal) (k0_pay5 (iblk m c 0 t) (iblk m c 1 t) (iblk m c 2 t) (iblk m c 3 t))
      (k0_pay6 (iblk m c 4 t)) (k0_pay7 (iblk m c 0 t) (iblk m c 1 t) (iblk m c 2 t) (iblk m c 3 t)) (iblk m c 5 t) y
      = queryRows (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (ix2 (row t (y 0)) (y 1)) := by
  rw [eq_ix2 y]
  exact pay_queries _ _ _ _ _ _ _ _ _ _ _ (fun j => proj_blk m c t (y 0) j) (blk4 m c t) (blk5 m c t)

/-- Where block `t` of the queries lies. -/
theorem emb9 (t : Fin cfg0.N) (y : S256x384.Idx) :
    (((cfg0.win 9).blk t).view.emb y : S8192x384.Idx) = ix2 (row t (y 0)) (y 1) := by
  funext a
  match a with
  | ⟨0, _⟩ => exact Fin.ext (by blk_simp [idx t, row]; rfl)
  | ⟨1, _⟩ => exact Fin.ext (by blk_simp [idx t]; rfl)

/-- The queries' array after the run. -/
theorem final9 (c : Dev nD) : (dats m 0 c).arrAt 9 (cfgs 0).N
    = queryRows (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 9 _ (by decide +kernel) fun t _ y => ?_
  have h := (point9 m c t y).trans (congrArg (queryRows (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))) (emb9 t y).symm)
  blk_simp; rw [after0_9]; frame_out
  exact h

/-- Block `t` of the compressed keys and values. -/
theorem point10 (c : Dev nD) (t : Fin cfg0.N) (y : S256x128.Idx) :
    k0_pay2 (F := Ideal) (k0_pay4 (F := Ideal) (iblk m c 0 t) (iblk m c 1 t) (iblk m c 2 t) (iblk m c 3 t)) (iblk m c 6 t) y
      = ckvRows (m ((c : Thread nD τ).loc main_arg0)) (m ((c : Thread nD τ).loc main_arg1))
      (m ((c : Thread nD τ).loc main_arg2)) (m ((c : Thread nD τ).loc main_arg3))
      (m ((c : Thread nD τ).loc main_arg6)) (ix2 (row t (y 0)) (y 1)) := by
  rw [eq_ix2 y]
  have h6 := blk6 m c t
  refine (pay_ckv _ _ _ _ _ (fun j => proj_blk m c t (y 0) j)).trans ?_
  simp only [h6]
  rfl

/-- Where block `t` of the compressed keys and values lies. -/
theorem emb10 (t : Fin cfg0.N) (y : S256x128.Idx) :
    (((cfg0.win 10).blk t).view.emb y : S8192x128.Idx) = ix2 (row t (y 0)) (y 1) := by
  funext a
  match a with
  | ⟨0, _⟩ => exact Fin.ext (by blk_simp [idx t, row]; rfl)
  | ⟨1, _⟩ => exact Fin.ext (by blk_simp [idx t]; rfl)

/-- The compressed keys' and values' array after the run. -/
theorem final10 (c : Dev nD) : (dats m 0 c).arrAt 10 (cfgs 0).N
    = ckvRows (m ((c : Thread nD τ).loc main_arg0)) (m ((c : Thread nD τ).loc main_arg1))
      (m ((c : Thread nD τ).loc main_arg2)) (m ((c : Thread nD τ).loc main_arg3))
      (m ((c : Thread nD τ).loc main_arg6)) := by
  refine (dats m 0 c).arrAt_eq_of_covers 10 _ (by decide +kernel) fun t _ y => ?_
  have h := (point10 m c t y).trans (congrArg (ckvRows (m ((c : Thread nD τ).loc main_arg0)) (m ((c : Thread nD τ).loc main_arg1))
      (m ((c : Thread nD τ).loc main_arg2)) (m ((c : Thread nD τ).loc main_arg3))
      (m ((c : Thread nD τ).loc main_arg6))) (emb10 t y).symm)
  blk_simp; rw [after0_10]; frame_out
  rw [shared]
  exact h

/-- Block `t` of the keys and values. -/
theorem point11 (c : Dev nD) (t : Fin cfg0.N) (y : S256x512.Idx) :
    k0_pay3 (F := Ideal) (k0_pay4 (F := Ideal) (iblk m c 0 t) (iblk m c 1 t) (iblk m c 2 t) (iblk m c 3 t)) (iblk m c 6 t) (iblk m c 7 t) y
      = kvRows (m ((c : Thread nD τ).loc main_arg0)) (m ((c : Thread nD τ).loc main_arg1))
      (m ((c : Thread nD τ).loc main_arg2)) (m ((c : Thread nD τ).loc main_arg3))
      (m ((c : Thread nD τ).loc main_arg6)) (m ((c : Thread nD τ).loc main_arg7)) (ix2 (row t (y 0)) (y 1)) := by
  rw [eq_ix2 y]
  have h6 := blk6 m c t
  refine (pay_kv _ _ _ _ (fun k j => (m ((c : Thread nD τ).loc main_arg7) : FVec Ideal S128x512 .f32) (ix2 k (j))) _ _
    (fun j => proj_blk m c t (y 0) j) (blk7 m c t)).trans ?_
  simp only [h6]
  rfl

/-- Where block `t` of the keys and values lies. -/
theorem emb11 (t : Fin cfg0.N) (y : S256x512.Idx) :
    (((cfg0.win 11).blk t).view.emb y : S8192x512.Idx) = ix2 (row t (y 0)) (y 1) := by
  funext a
  match a with
  | ⟨0, _⟩ => exact Fin.ext (by blk_simp [idx t, row]; rfl)
  | ⟨1, _⟩ => exact Fin.ext (by blk_simp [idx t]; rfl)

/-- The keys' and values' array after the run. -/
theorem final11 (c : Dev nD) : (dats m 0 c).arrAt 11 (cfgs 0).N
    = kvRows (m ((c : Thread nD τ).loc main_arg0)) (m ((c : Thread nD τ).loc main_arg1))
      (m ((c : Thread nD τ).loc main_arg2)) (m ((c : Thread nD τ).loc main_arg3))
      (m ((c : Thread nD τ).loc main_arg6)) (m ((c : Thread nD τ).loc main_arg7)) := by
  refine (dats m 0 c).arrAt_eq_of_covers 11 _ (by decide +kernel) fun t _ y => ?_
  have h := (point11 m c t y).trans (congrArg (kvRows (m ((c : Thread nD τ).loc main_arg0)) (m ((c : Thread nD τ).loc main_arg1))
      (m ((c : Thread nD τ).loc main_arg2)) (m ((c : Thread nD τ).loc main_arg3))
      (m ((c : Thread nD τ).loc main_arg6)) (m ((c : Thread nD τ).loc main_arg7))) (emb11 t y).symm)
  blk_simp; rw [after0_11]; frame_out
  rw [shared]
  exact h

end Cert.Kernel4Ideal.Value

end
-- ==== Proof.InprojTail.lean ====
module

public import proofs.«01_k».proof.Proof.InprojKer
public import Idealize.ShloMosaic.Lib.Claim

@[expose] public section

set_option maxRecDepth 16384

noncomputable section

open Idealize.ShloMosaic Idealize.ShloMosaic.TcCoe Idealize.SL.Sem

namespace Cert.Kernel4Ideal.Value
open Cert.Kernel4Ideal Cert.Kernel4Ideal.Gen

variable (m : (ℓ : Loc nD τ sig) → Buf (Elt Ideal) ℓ)

/-- The contents of a buffer after the lines that follow the call. -/
def tail (c : Dev nD) (b : Ref sig .tc) : Buf (Elt Ideal) ((c.tc : Thread nD τ).loc b) :=
  Pipeline.afterTail₀ cfgs (dats m) 0 (V0 m) [hostOps1] c b

theorem win8 (c : Dev nD) (V : Valuation τ sig (Elt Ideal)) (A) :
    Pipeline.withArrays (cfgs 0).spec c V A (Proc.devRef .tc main_v42_0) = A 8 :=
  Pipeline.withArrays_arr (cfgs 0).spec (by decide +kernel) c V A 8

theorem win10 (c : Dev nD) (V : Valuation τ sig (Elt Ideal)) (A) :
    Pipeline.withArrays (cfgs 0).spec c V A (Proc.devRef .tc main_v42_2) = A 10 :=
  Pipeline.withArrays_arr (cfgs 0).spec (by decide +kernel) c V A 10

/-- The keys of the two heads, out of the packed projection. -/
def keys (A : FVec Ideal S8192x2688 .f32) : FVec Ideal S32x256x2x64 .f32 :=
  concatenate S32x256x2x64 2
    [⟨S32x256x1x64, broadcastInDim S32x256x1x64 ![0, 1, 3] bcast_S32x256x64_S32x256x1x64_0_1_3
        (extractStridedSlice S32x256x64 ![0, 0, 256] (shapeCast S32x256x2688 A shapeCasts_S8192x2688_S32x256x2688) slices_S32x256x2688_S32x256x64_0_0_256)⟩,
     ⟨S32x256x1x64, broadcastInDim S32x256x1x64 ![0, 1, 3] bcast_S32x256x64_S32x256x1x64_0_1_3
        (extractStridedSlice S32x256x64 ![0, 0, 384] (shapeCast S32x256x2688 A shapeCasts_S8192x2688_S32x256x2688) slices_S32x256x2688_S32x256x64_0_0_384)⟩]
    concatenates_S32x256x1x64_S32x256x1x64_S32x256x2x64_d2

theorem keys_at (A : FVec Ideal S8192x2688 .f32) (b : Fin 32) (s : Fin 256) (h : Fin 2) (d : Fin 64) :
    keys A (ix4 b s h d) = A (ix2 ⟨b.val * 256 + s.val, by omega⟩ ⟨256 + h.val * 128 + d.val, by omega⟩) := by
  match h with
  | ⟨0, _⟩ => pointwise [keys]
  | ⟨1, _⟩ => pointwise [keys]

/-- The values of the two heads, out of the packed projection. -/
def values (A : FVec Ideal S8192x2688 .f32) : FVec Ideal S32x256x2x64 .f32 :=
  concatenate S32x256x2x64 2
    [⟨S32x256x1x64, broadcastInDim S32x256x1x64 ![0, 1, 3] bcast_S32x256x64_S32x256x1x64_0_1_3
        (extractStridedSlice S32x256x64 ![0, 0, 512] (shapeCast S32x256x2688 A shapeCasts_S8192x2688_S32x256x2688) slices_S32x256x2688_S32x256x64_0_0_512)⟩,
     ⟨S32x256x1x64, broadcastInDim S32x256x1x64 ![0, 1, 3] bcast_S32x256x64_S32x256x1x64_0_1_3
        (extractStridedSlice S32x256x64 ![0, 0, 640] (shapeCast S32x256x2688 A shapeCasts_S8192x2688_S32x256x2688) slices_S32x256x2688_S32x256x64_0_0_640)⟩]
    concatenates_S32x256x1x64_S32x256x1x64_S32x256x2x64_d2

theorem values_at (A : FVec Ideal S8192x2688 .f32) (b : Fin 32) (s : Fin 256) (h : Fin 2) (d : Fin 64) :
    values A (ix4 b s h d) = A (ix2 ⟨b.val * 256 + s.val, by omega⟩ ⟨512 + h.val * 128 + d.val, by omega⟩) := by
  match h with
  | ⟨0, _⟩ => pointwise [values]
  | ⟨1, _⟩ => pointwise [values]

/-- The rotated part of the keys, out of the packed projection. -/
def rotated (A : FVec Ideal S8192x2688 .f32) : FVec Ideal S32x256x32 .f32 :=
  extractStridedSlice S32x256x32 ![0, 0, 1152] (shapeCast S32x256x2688 A shapeCasts_S8192x2688_S32x256x2688) slices_S32x256x2688_S32x256x32_0_0_1152

theorem rotated_at (A : FVec Ideal S8192x2688 .f32) (b : Fin 32) (s : Fin 256) (i : Fin 32) :
    rotated A (ix3 b s i) = A (ix2 ⟨b.val * 256 + s.val, by omega⟩ ⟨1152 + i.val, by omega⟩) := by
  pointwise [rotated]

/-- The compressed keys and values, frame by frame. -/
def frames (A : FVec Ideal S8192x128 .f32) : FVec Ideal S32x256x128 .f32 :=
  shapeCast S32x256x128 A shapeCasts_S8192x128_S32x256x128

theorem frames_at (A : FVec Ideal S8192x128 .f32) (b : Fin 32) (s : Fin 256) (i : Fin 128) :
    frames A (ix3 b s i) = A (ix2 ⟨b.val * 256 + s.val, by omega⟩ i) := by
  pointwise [frames]

section Columns
variable (x : FVec Ideal S8192x1024 .f32) (md : FVec Ideal S1x1x6144 .f32) (g : FVec Ideal S1024 .f32)
  (w : FVec Ideal S1024x6256 .f32) (b : Fin 32) (s : Fin 256)

/-- The row of token `s` of frame `b`. -/
def at' (b : Fin 32) (s : Fin 256) : Fin 8192 := ⟨b.val * 256 + s.val, by omega⟩

theorem keys_col (h : Fin 2) (d : Fin 64) :
    keys (packedRows x md g w) (ix4 b s h d) = prow x md g w (at' b s) ⟨256 + (h.val * 64 + d.val), by omega⟩ :=
  (keys_at _ b s h d).trans (Rows.packed_of _ ⟨256 + h.val * 128 + d.val, by omega⟩ _ (by dsimp only; omega)
    (by unfold Rows.source; dsimp only; split_ifs <;> omega))

theorem values_col (h : Fin 2) (d : Fin 64) :
    values (packedRows x md g w) (ix4 b s h d) = prow x md g w (at' b s) ⟨384 + (h.val * 64 + d.val), by omega⟩ :=
  (values_at _ b s h d).trans (Rows.packed_of _ ⟨512 + h.val * 128 + d.val, by omega⟩ _ (by dsimp only; omega)
    (by unfold Rows.source; dsimp only; split_ifs <;> omega))

theorem rotated_col (i : Fin 32) :
    rotated (packedRows x md g w) (ix3 b s i) = prow x md g w (at' b s) ⟨832 + i.val, by omega⟩ :=
  (rotated_at _ b s i).trans (Rows.packed_of _ ⟨1152 + i.val, by omega⟩ _ (by dsimp only; omega)
    (by unfold Rows.source; dsimp only; split_ifs <;> omega))

theorem frames_col (gk : FVec Ideal S128 .f32) (i : Fin 128) :
    frames (ckvRows x md g w gk) (ix3 b s i) = Rows.ckv (prow x md g w (at' b s)) (fun k => gk (ix1 k)) i :=
  frames_at _ b s i

end Columns

/-- The keys' buffer after the lines. -/
theorem tail48 (c : Dev nD) : tail m c main_v48 = keys ((dats m 0 c).arrAt 8 (cfgs 0).N) := by
  refine Eq.trans ?_ (congrArg keys (win8 c (V0 m c) fun w => (dats m 0 c).arrAt w (cfgs 0).N))
  unfold tail Pipeline.afterTail₀
  generalize Pipeline.withArrays (cfgs 0).spec c (V0 m c) (fun w => (dats m 0 c).arrAt w (cfgs 0).N) = A
  simp only [hostOps1, List.flatten_cons, List.flatten_nil, List.append_nil, List.cons_append, List.nil_append]
  after_results_simp
  rfl

/-- The values' buffer after the lines. -/
theorem tail53 (c : Dev nD) : tail m c main_v53 = values ((dats m 0 c).arrAt 8 (cfgs 0).N) := by
  refine Eq.trans ?_ (congrArg values (win8 c (V0 m c) fun w => (dats m 0 c).arrAt w (cfgs 0).N))
  unfold tail Pipeline.afterTail₀
  generalize Pipeline.withArrays (cfgs 0).spec c (V0 m c) (fun w => (dats m 0 c).arrAt w (cfgs 0).N) = A
  simp only [hostOps1, List.flatten_cons, List.flatten_nil, List.append_nil, List.cons_append, List.nil_append]
  after_results_simp
  rfl

/-- The compressed keys' and values' buffer after the lines. -/
theorem tail54 (c : Dev nD) : tail m c main_v54 = frames ((dats m 0 c).arrAt 10 (cfgs 0).N) := by
  refine Eq.trans ?_ (congrArg frames (win10 c (V0 m c) fun w => (dats m 0 c).arrAt w (cfgs 0).N))
  unfold tail Pipeline.afterTail₀
  generalize Pipeline.withArrays (cfgs 0).spec c (V0 m c) (fun w => (dats m 0 c).arrAt w (cfgs 0).N) = A
  simp only [hostOps1, List.flatten_cons, List.flatten_nil, List.append_nil, List.cons_append, List.nil_append]
  after_results_simp
  rfl

/-- The rotated part's buffer after the lines. -/
theorem tail55 (c : Dev nD) : tail m c main_v55 = rotated ((dats m 0 c).arrAt 8 (cfgs 0).N) := by
  refine Eq.trans ?_ (congrArg rotated (win8 c (V0 m c) fun w => (dats m 0 c).arrAt w (cfgs 0).N))
  unfold tail Pipeline.afterTail₀
  generalize Pipeline.withArrays (cfgs 0).spec c (V0 m c) (fun w => (dats m 0 c).arrAt w (cfgs 0).N) = A
  simp only [hostOps1, List.flatten_cons, List.flatten_nil, List.append_nil, List.cons_append, List.nil_append]
  after_results_simp
  rfl

end Cert.Kernel4Ideal.Value

end
-- ==== Proof.InprojRef.lean ====
module

public import proofs.«01_k».proof.Proof.Gen.Reference4Ideal.Read
public import proofs.«01_k».proof.Proof.InprojRows
public import proofs.«01_k».proof.Proof.Pieces
public import Idealize.ShloMosaic.Lib.Pointwise

@[expose] public section

set_option maxRecDepth 16384

noncomputable section

open Idealize.ShloMosaic Idealize.ShloMosaic.TcCoe Idealize.SL.Sem

namespace Cert.Reference4Ideal.Value
open Cert.Reference4Ideal Cert.Reference4Ideal.Gen Cert.Reference4Ideal.Read

variable (x : FVec Ideal S8192x1024 .f32) (md : FVec Ideal S1x1x6144 .f32) (g : FVec Ideal S1024 .f32)
  (w : FVec Ideal S1024x6256 .f32) (gq : FVec Ideal S192 .f32) (wq : FVec Ideal S192x384 .f32)
  (gk : FVec Ideal S128 .f32) (wk : FVec Ideal S128x512 .f32)

/-- The modulated, normalised input at a token. -/
theorem ref_in (b : Fin 32) (s : Fin 256) (k : Fin 1024) :
    val_main_v25 (F := Ideal) x md g (ix3 b s k)
      = Rows.modulated (fun k => x (ix2 ⟨b.val * 256 + s.val, by omega⟩ k)) (fun k => g (ix1 k))
          (fun k => md (ix3 0 0 ⟨1024 + k.val, by omega⟩)) (fun k => md (ix3 0 0 ⟨k.val, by omega⟩)) k := by
  pointwise [val_main_v0, val_main_v1, val_main_v6, val_main_v7, val_main_cst, val_main_v8, val_main_v9, val_main_cst_0,
    val_main_v10, val_main_v11, val_main_cst_1, val_main_v12, val_main_v13, val_main_v14, val_main_v15, val_main_v16,
    val_main_v17, val_main_v18, val_main_v19, val_main_cst_2, val_main_v20, val_main_v21, val_main_v22, val_main_v23,
    val_main_v24, val_main_v25, Rows.modulated, Rows.rms, Rows.div_1024]

/-- The projection of row `r`, before packing. -/
def prow (r : Fin 8192) : Fin 6256 → EReal :=
  Rows.proj (fun k => x (ix2 r k)) (fun k => g (ix1 k)) (fun k => md (ix3 0 0 ⟨1024 + k.val, by omega⟩))
    (fun k => md (ix3 0 0 ⟨k.val, by omega⟩)) (fun k n => w (ix2 k n))

/-- The row of token `s` of frame `b`. -/
def at' (b : Fin 32) (s : Fin 256) : Fin 8192 := ⟨b.val * 256 + s.val, by omega⟩

/-- The input projection at a token. -/
theorem ref_proj (b : Fin 32) (s : Fin 256) (n : Fin 6256) :
    val_main_v26 (F := Ideal) x md g w (ix3 b s n) = prow x md g w (at' b s) n := by
  have e : val_main_v26 (F := Ideal) x md g w (ix3 b s n)
      = ∑ k, val_main_v25 (F := Ideal) x md g (ix3 b s k) * w (ix2 k n) := by
    pointwise [val_main_v26]
  rw [e]
  simp only [ref_in]
  rfl

/-! The pieces of the projection. -/

theorem piece27 (b : Fin 32) (s : Fin 256) (l : Fin 256) :
    val_main_v27 (F := Ideal) x md g w (ix3 b s l) = prow x md g w (at' b s) ⟨l.val, by omega⟩ := by
  have h := ref_proj x md g w
  pointwise [val_main_v27, h]

theorem piece28 (b : Fin 32) (s : Fin 256) (l : Fin 128) :
    val_main_v28 (F := Ideal) x md g w (ix3 b s l) = prow x md g w (at' b s) ⟨256 + l.val, by omega⟩ := by
  have h := ref_proj x md g w
  pointwise [val_main_v28, h]

theorem piece29 (b : Fin 32) (s : Fin 256) (l : Fin 128) :
    val_main_v29 (F := Ideal) x md g w (ix3 b s l) = prow x md g w (at' b s) ⟨384 + l.val, by omega⟩ := by
  have h := ref_proj x md g w
  pointwise [val_main_v29, h]

theorem piece30 (b : Fin 32) (s : Fin 256) (l : Fin 192) :
    val_main_v30 (F := Ideal) x md g w (ix3 b s l) = prow x md g w (at' b s) ⟨512 + l.val, by omega⟩ := by
  have h := ref_proj x md g w
  pointwise [val_main_v30, h]

theorem piece31 (b : Fin 32) (s : Fin 256) (l : Fin 128) :
    val_main_v31 (F := Ideal) x md g w (ix3 b s l) = prow x md g w (at' b s) ⟨704 + l.val, by omega⟩ := by
  have h := ref_proj x md g w
  pointwise [val_main_v31, h]

theorem piece32 (b : Fin 32) (s : Fin 256) (l : Fin 32) :
    val_main_v32 (F := Ideal) x md g w (ix3 b s l) = prow x md g w (at' b s) ⟨832 + l.val, by omega⟩ := by
  have h := ref_proj x md g w
  pointwise [val_main_v32, h]

theorem piece33 (b : Fin 32) (s : Fin 256) (l : Fin 256) :
    val_main_v33 (F := Ideal) x md g w (ix3 b s l) = prow x md g w (at' b s) ⟨864 + l.val, by omega⟩ := by
  have h := ref_proj x md g w
  pointwise [val_main_v33, h]

theorem piece34 (b : Fin 32) (s : Fin 256) (l : Fin 768) :
    val_main_v34 (F := Ideal) x md g w (ix3 b s l) = prow x md g w (at' b s) ⟨1120 + l.val, by omega⟩ := by
  have h := ref_proj x md g w
  pointwise [val_main_v34, h]

theorem piece35 (b : Fin 32) (s : Fin 256) (l : Fin 256) :
    val_main_v35 (F := Ideal) x md g w (ix3 b s l) = prow x md g w (at' b s) ⟨1888 + l.val, by omega⟩ := by
  have h := ref_proj x md g w
  pointwise [val_main_v35, h]

theorem piece36 (b : Fin 32) (s : Fin 256) (l : Fin 8) :
    val_main_v36 (F := Ideal) x md g w (ix3 b s l) = prow x md g w (at' b s) ⟨2144 + l.val, by omega⟩ := by
  have h := ref_proj x md g w
  pointwise [val_main_v36, h]

theorem piece37 (b : Fin 32) (s : Fin 256) (l : Fin 8) :
    val_main_v37 (F := Ideal) x md g w (ix3 b s l) = prow x md g w (at' b s) ⟨2152 + l.val, by omega⟩ := by
  have h := ref_proj x md g w
  pointwise [val_main_v37, h]

theorem piece39 (b : Fin 32) (s : Fin 256) (h : Fin 2) (d : Fin 64) :
    val_main_v39 (F := Ideal) x md g w (ix4 b s h d) = prow x md g w (at' b s) ⟨256 + (h.val * 64 + d.val), by omega⟩ := by
  have e := piece28 x md g w
  pointwise [val_main_v39, e]

theorem piece75 (b : Fin 32) (s : Fin 256) (l : Fin 256) :
    val_main_v75 (F := Ideal) x md g w (ix3 b s l)
      = prow x md g w (at' b s) ⟨256 + (l.val / 128 * 64 + l.val % 64), by omega⟩ := by
  have e := piece39 x md g w
  have d : l.val / 64 / 2 = l.val / 128 := by omega
  pointwise [val_main_v75, val_main_v72, val_main_v71, e, d]

theorem piece40 (b : Fin 32) (s : Fin 256) (h : Fin 2) (d : Fin 64) :
    val_main_v40 (F := Ideal) x md g w (ix4 b s h d) = prow x md g w (at' b s) ⟨384 + (h.val * 64 + d.val), by omega⟩ := by
  have e := piece29 x md g w
  pointwise [val_main_v40, e]

theorem piece76 (b : Fin 32) (s : Fin 256) (l : Fin 256) :
    val_main_v76 (F := Ideal) x md g w (ix3 b s l)
      = prow x md g w (at' b s) ⟨384 + (l.val / 128 * 64 + l.val % 64), by omega⟩ := by
  have e := piece40 x md g w
  have d : l.val / 64 / 2 = l.val / 128 := by omega
  pointwise [val_main_v76, val_main_v74, val_main_v73, e, d]

theorem piece80 (b : Fin 32) (s : Fin 256) (l : Fin 128) :
    val_main_v80 (F := Ideal) x md g w (ix3 b s l) = prow x md g w (at' b s) ⟨832 + l.val % 32, by omega⟩ := by
  have e := piece32 x md g w
  pointwise [val_main_v80, val_main_v79, val_main_v78, e]

set_option maxHeartbeats 2000000 in
/-- The packed projection at a token. -/
theorem ref_packed (b : Fin 32) (s : Fin 256) (j : Fin 2688) :
    val_main_v82 (F := Ideal) x md g w (ix3 b s j) = Rows.packed (prow x md g w (at' b s)) j := by
  unfold val_main_v82
  by_cases h0 : j.val < 256
  · refine Eq.trans (Pieces.at3 _ _ b s j 0 (by simp) _ rfl 0 rfl ⟨j.val - 0, by omega⟩ (by dsimp only; omega)) ?_
    rw [piece27]
    exact (Rows.packed_of _ _ _ (by omega) (by unfold Rows.source; dsimp only; split_ifs <;> omega)).symm
  by_cases h1 : j.val < 512
  · refine Eq.trans (Pieces.at3 _ _ b s j 1 (by simp) _ rfl 256 rfl ⟨j.val - 256, by omega⟩ (by dsimp only; omega)) ?_
    rw [piece75]
    exact (Rows.packed_of _ _ _ (by omega) (by unfold Rows.source; dsimp only; split_ifs <;> omega)).symm
  by_cases h2 : j.val < 768
  · refine Eq.trans (Pieces.at3 _ _ b s j 2 (by simp) _ rfl 512 rfl ⟨j.val - 512, by omega⟩ (by dsimp only; omega)) ?_
    rw [piece76]
    exact (Rows.packed_of _ _ _ (by omega) (by unfold Rows.source; dsimp only; split_ifs <;> omega)).symm
  by_cases h3 : j.val < 960
  · refine Eq.trans (Pieces.at3 _ _ b s j 3 (by simp) _ rfl 768 rfl ⟨j.val - 768, by omega⟩ (by dsimp only; omega)) ?_
    rw [piece30]
    exact (Rows.packed_of _ _ _ (by omega) (by unfold Rows.source; dsimp only; split_ifs <;> omega)).symm
  by_cases h4 : j.val < 1024
  · refine Eq.trans (Pieces.at3 _ _ b s j 4 (by simp) _ rfl 960 rfl ⟨j.val - 960, by omega⟩ (by dsimp only; omega)) ?_
    rw [Rows.packed_zero _ _ (by omega)]
    pointwise [val_main_v77, val_main_cst_9]
  by_cases h5 : j.val < 1152
  · refine Eq.trans (Pieces.at3 _ _ b s j 5 (by simp) _ rfl 1024 rfl ⟨j.val - 1024, by omega⟩ (by dsimp only; omega)) ?_
    rw [piece31]
    exact (Rows.packed_of _ _ _ (by omega) (by unfold Rows.source; dsimp only; split_ifs <;> omega)).symm
  by_cases h6 : j.val < 1280
  · refine Eq.trans (Pieces.at3 _ _ b s j 6 (by simp) _ rfl 1152 rfl ⟨j.val - 1152, by omega⟩ (by dsimp only; omega)) ?_
    rw [piece80]
    exact (Rows.packed_of _ _ _ (by omega) (by unfold Rows.source; dsimp only; split_ifs <;> omega)).symm
  by_cases h7 : j.val < 1536
  · refine Eq.trans (Pieces.at3 _ _ b s j 7 (by simp) _ rfl 1280 rfl ⟨j.val - 1280, by omega⟩ (by dsimp only; omega)) ?_
    rw [piece33]
    exact (Rows.packed_of _ _ _ (by omega) (by unfold Rows.source; dsimp only; split_ifs <;> omega)).symm
  by_cases h8 : j.val < 2304
  · refine Eq.trans (Pieces.at3 _ _ b s j 8 (by simp) _ rfl 1536 rfl ⟨j.val - 1536, by omega⟩ (by dsimp only; omega)) ?_
    rw [piece34]
    exact (Rows.packed_of _ _ _ (by omega) (by unfold Rows.source; dsimp only; split_ifs <;> omega)).symm
  by_cases h9 : j.val < 2560
  · refine Eq.trans (Pieces.at3 _ _ b s j 9 (by simp) _ rfl 2304 rfl ⟨j.val - 2304, by omega⟩ (by dsimp only; omega)) ?_
    rw [piece35]
    exact (Rows.packed_of _ _ _ (by omega) (by unfold Rows.source; dsimp only; split_ifs <;> omega)).symm
  by_cases h10 : j.val < 2568
  · refine Eq.trans (Pieces.at3 _ _ b s j 10 (by simp) _ rfl 2560 rfl ⟨j.val - 2560, by omega⟩ (by dsimp only; omega)) ?_
    rw [piece36]
    exact (Rows.packed_of _ _ _ (by omega) (by unfold Rows.source; dsimp only; split_ifs <;> omega)).symm
  by_cases h11 : j.val < 2576
  · refine Eq.trans (Pieces.at3 _ _ b s j 11 (by simp) _ rfl 2568 rfl ⟨j.val - 2568, by omega⟩ (by dsimp only; omega)) ?_
    rw [piece37]
    exact (Rows.packed_of _ _ _ (by omega) (by unfold Rows.source; dsimp only; split_ifs <;> omega)).symm
  refine Eq.trans (Pieces.at3 _ _ b s j 12 (by simp) _ rfl 2576 rfl ⟨j.val - 2576, by omega⟩ (by dsimp only; omega)) ?_
  rw [Rows.packed_zero _ _ (by omega)]
  pointwise [val_main_v81, val_main_cst_10]

/-- The compressed queries at a token. -/
theorem ref_cq (b : Fin 32) (s : Fin 256) (i : Fin 192) :
    val_main_v53 (F := Ideal) x md g w gq (ix3 b s i) = Rows.cq (prow x md g w (at' b s)) (fun k => gq (ix1 k)) i := by
  have h := piece30 x md g w
  pointwise [val_main_v41, val_main_cst_3, val_main_v42, val_main_v43, val_main_cst_4, val_main_v44, val_main_v45,
    val_main_cst_5, val_main_v46, val_main_v47, val_main_v48, val_main_v49, val_main_v50, val_main_v51, val_main_v52,
    val_main_v53, h, Rows.cq, Rows.div_192]

/-- The queries at a token, head by head. -/
theorem ref_uq (b : Fin 32) (s : Fin 256) (j : Fin 384) :
    val_main_v54 (F := Ideal) x md g w gq wq (ix3 b s j)
      = ∑ i, Rows.cq (prow x md g w (at' b s)) (fun k => gq (ix1 k)) i * wq (ix2 i j) := by
  have h := ref_cq x md g w gq
  pointwise [val_main_v54, h]

/-- The packed queries at a token. -/
theorem ref_queries (b : Fin 32) (s : Fin 256) (j : Fin 384) :
    val_main_v87 (F := Ideal) x md g w gq wq (ix3 b s j)
      = Rows.queries (prow x md g w (at' b s)) (fun k => gq (ix1 k)) (fun i n => wq (ix2 i n)) j := by
  have h := ref_uq x md g w gq wq
  unfold val_main_v87 Rows.queries Rows.qcol
  by_cases hj : j.val < 256
  · refine Eq.trans (Pieces.at3 _ _ b s j 0 (by simp) _ rfl 0 rfl ⟨j.val, by omega⟩ (by dsimp only; omega)) ?_
    simp only [dif_pos hj]
    pointwise [val_main_v84, val_main_v83, val_main_v55, h]
  · refine Eq.trans (Pieces.at3 _ _ b s j 1 (by simp) _ rfl 256 rfl ⟨j.val - 256, by omega⟩ (by dsimp only; omega)) ?_
    have d : (j.val - 256) / 32 * 96 + (64 + (j.val - 256) % 32) = (j.val - 256) / 32 * 96 + 64 + j.val % 32 := by omega
    simp only [dif_neg hj]
    pointwise [val_main_v86, val_main_v85, val_main_v55, h, d]

/-- The compressed keys and values at a token. -/
theorem ref_ckv (b : Fin 32) (s : Fin 256) (i : Fin 128) :
    val_main_v68 (F := Ideal) x md g w gk (ix3 b s i) = Rows.ckv (prow x md g w (at' b s)) (fun k => gk (ix1 k)) i := by
  have h := piece31 x md g w
  pointwise [val_main_v56, val_main_cst_6, val_main_v57, val_main_v58, val_main_cst_7, val_main_v59, val_main_v60,
    val_main_cst_8, val_main_v61, val_main_v62, val_main_v63, val_main_v64, val_main_v65, val_main_v66, val_main_v67,
    val_main_v68, h, Rows.ckv, Rows.div_128]

/-- The keys and values at a token, head by head. -/
theorem ref_ukv (b : Fin 32) (s : Fin 256) (j : Fin 512) :
    val_main_v69 (F := Ideal) x md g w gk wk (ix3 b s j)
      = ∑ i, Rows.ckv (prow x md g w (at' b s)) (fun k => gk (ix1 k)) i * wk (ix2 i j) := by
  have h := ref_ckv x md g w gk
  pointwise [val_main_v69, h]

/-- The packed keys and values at a token. -/
theorem ref_kv (b : Fin 32) (s : Fin 256) (j : Fin 512) :
    val_main_v92 (F := Ideal) x md g w gk wk (ix3 b s j)
      = Rows.keysValues (prow x md g w (at' b s)) (fun k => gk (ix1 k)) (fun i n => wk (ix2 i n)) j := by
  have h := ref_ukv x md g w gk wk
  unfold val_main_v92 Rows.keysValues Rows.kvcol
  by_cases hj : j.val < 256
  · refine Eq.trans (Pieces.at3 _ _ b s j 0 (by simp) _ rfl 0 rfl ⟨j.val, by omega⟩ (by dsimp only; omega)) ?_
    simp only [dif_pos hj]
    pointwise [val_main_v89, val_main_v88, val_main_v70, h]
  · refine Eq.trans (Pieces.at3 _ _ b s j 1 (by simp) _ rfl 256 rfl ⟨j.val - 256, by omega⟩ (by dsimp only; omega)) ?_
    have d : (j.val - 256) / 64 * 128 + (64 + (j.val - 256) % 64) = (j.val - 256) / 64 * 128 + 64 + j.val % 64 := by omega
    simp only [dif_neg hj]
    pointwise [val_main_v91, val_main_v90, val_main_v70, h, d]

/-- Row `r` is token `r mod 256` of frame `r / 256`. -/
theorem at_row (r : Fin 8192) : at' ⟨r.val / 256, by omega⟩ ⟨r.val % 256, by omega⟩ = r :=
  Fin.ext (by unfold at'; dsimp only; omega)

/-- The packed projection at row `r`, column `j`. -/
theorem out_packed (r : Fin 8192) (j : Fin 2688) :
    val_main_v93 (F := Ideal) x md g w (ix2 r j) = Rows.packed (prow x md g w r) j := by
  have h := ref_packed x md g w ⟨r.val / 256, by omega⟩ ⟨r.val % 256, by omega⟩ j
  rw [at_row] at h
  rw [← h]
  pointwise [val_main_v93]

/-- The packed queries at row `r`, column `j`. -/
theorem out_queries (r : Fin 8192) (j : Fin 384) :
    val_main_v94 (F := Ideal) x md g w gq wq (ix2 r j)
      = Rows.queries (prow x md g w r) (fun k => gq (ix1 k)) (fun i n => wq (ix2 i n)) j := by
  have h := ref_queries x md g w gq wq ⟨r.val / 256, by omega⟩ ⟨r.val % 256, by omega⟩ j
  rw [at_row] at h
  rw [← h]
  pointwise [val_main_v94]

/-- The packed keys and values at row `r`, column `j`. -/
theorem out_kv (r : Fin 8192) (j : Fin 512) :
    val_main_v95 (F := Ideal) x md g w gk wk (ix2 r j)
      = Rows.keysValues (prow x md g w r) (fun k => gk (ix1 k)) (fun i n => wk (ix2 i n)) j := by
  have h := ref_kv x md g w gk wk ⟨r.val / 256, by omega⟩ ⟨r.val % 256, by omega⟩ j
  rw [at_row] at h
  rw [← h]
  pointwise [val_main_v95]

end Cert.Reference4Ideal.Value

end
-- ==== Proof.InprojClaim.lean ====
module

public import proofs.«01_k».proof.Defs
public import proofs.«01_k».proof.Proof.InprojTail
public import proofs.«01_k».proof.Proof.InprojRef
public import Idealize.ShloMosaic.Lib.Claim

@[expose] public section

set_option maxRecDepth 16384

noncomputable section

open Idealize.ShloMosaic Idealize.ShloMosaic.TcCoe Idealize.SL.Sem

namespace Cert.Proof.Inproj

variable (m : (ℓ : Loc Cert.Kernel4Ideal.nD Cert.Kernel4Ideal.τ Cert.Kernel4Ideal.sig) → Buf (Elt Ideal) ℓ)

/-- The reference's cached keys are the kernel's. -/
theorem keys (c : Dev 1) : Cert.Reference4Ideal.Read.val_main_v39 (F := Ideal)
      (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3))
    = Cert.Kernel4Ideal.Value.tail m c Cert.Kernel4Ideal.main_v48 := by
  rw [Cert.Kernel4Ideal.Value.tail48, Cert.Kernel4Ideal.Value.final8]
  funext i
  rw [eq_ix4 i]
  exact (Cert.Reference4Ideal.Value.piece39 _ _ _ _ _ _ _ _).trans (Cert.Kernel4Ideal.Value.keys_col _ _ _ _ _ _ _ _).symm

/-- The reference's cached values are the kernel's. -/
theorem values (c : Dev 1) : Cert.Reference4Ideal.Read.val_main_v40 (F := Ideal)
      (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3))
    = Cert.Kernel4Ideal.Value.tail m c Cert.Kernel4Ideal.main_v53 := by
  rw [Cert.Kernel4Ideal.Value.tail53, Cert.Kernel4Ideal.Value.final8]
  funext i
  rw [eq_ix4 i]
  exact (Cert.Reference4Ideal.Value.piece40 _ _ _ _ _ _ _ _).trans (Cert.Kernel4Ideal.Value.values_col _ _ _ _ _ _ _ _).symm

/-- The reference's cached compressed keys and values are the kernel's. -/
theorem compressed (c : Dev 1) : Cert.Reference4Ideal.Read.val_main_v68 (F := Ideal)
      (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3))
      (m ((c : Thread Cert.Kernel4Ideal.nD Cert.Kernel4Ideal.τ).loc Cert.Kernel4Ideal.main_arg6))
    = Cert.Kernel4Ideal.Value.tail m c Cert.Kernel4Ideal.main_v54 := by
  rw [Cert.Kernel4Ideal.Value.tail54, Cert.Kernel4Ideal.Value.final10]
  funext i
  rw [eq_ix3 i]
  exact (Cert.Reference4Ideal.Value.ref_ckv _ _ _ _ _ _ _ _).trans (Cert.Kernel4Ideal.Value.frames_col _ _ _ _ _ _ _ _).symm

/-- The reference's cached rotated part is the kernel's. -/
theorem rotated (c : Dev 1) : Cert.Reference4Ideal.Read.val_main_v32 (F := Ideal)
      (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3))
    = Cert.Kernel4Ideal.Value.tail m c Cert.Kernel4Ideal.main_v55 := by
  rw [Cert.Kernel4Ideal.Value.tail55, Cert.Kernel4Ideal.Value.final8]
  funext i
  rw [eq_ix3 i]
  exact (Cert.Reference4Ideal.Value.piece32 _ _ _ _ _ _ _).trans (Cert.Kernel4Ideal.Value.rotated_col _ _ _ _ _ _ _).symm

/-- The reference's packed projection is the kernel's. -/
theorem packed (c : Dev 1) : Cert.Reference4Ideal.Read.val_main_v93 (F := Ideal)
      (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3))
    = (Cert.Kernel4Ideal.Gen.dats m 0 c).arrAt 8 (Cert.Kernel4Ideal.cfgs 0).N := by
  rw [Cert.Kernel4Ideal.Value.final8]
  funext i
  rw [eq_ix2 i]
  exact Cert.Reference4Ideal.Value.out_packed _ _ _ _ _ _

/-- The reference's packed queries are the kernel's. -/
theorem queries (c : Dev 1) : Cert.Reference4Ideal.Read.val_main_v94 (F := Ideal)
      (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3))
      (m ((c : Thread Cert.Kernel4Ideal.nD Cert.Kernel4Ideal.τ).loc Cert.Kernel4Ideal.main_arg4))
      (m ((c : Thread Cert.Kernel4Ideal.nD Cert.Kernel4Ideal.τ).loc Cert.Kernel4Ideal.main_arg5))
    = (Cert.Kernel4Ideal.Gen.dats m 0 c).arrAt 9 (Cert.Kernel4Ideal.cfgs 0).N := by
  rw [Cert.Kernel4Ideal.Value.final9]
  funext i
  rw [eq_ix2 i]
  exact Cert.Reference4Ideal.Value.out_queries _ _ _ _ _ _ _ _

/-- The reference's packed keys and values are the kernel's. -/
theorem keysValues (c : Dev 1) : Cert.Reference4Ideal.Read.val_main_v95 (F := Ideal)
      (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3))
      (m ((c : Thread Cert.Kernel4Ideal.nD Cert.Kernel4Ideal.τ).loc Cert.Kernel4Ideal.main_arg6))
      (m ((c : Thread Cert.Kernel4Ideal.nD Cert.Kernel4Ideal.τ).loc Cert.Kernel4Ideal.main_arg7))
    = (Cert.Kernel4Ideal.Gen.dats m 0 c).arrAt 11 (Cert.Kernel4Ideal.cfgs 0).N := by
  rw [Cert.Kernel4Ideal.Value.final11]
  funext i
  rw [eq_ix2 i]
  exact Cert.Reference4Ideal.Value.out_kv _ _ _ _ _ _ _ _

set_option maxHeartbeats 2000000 in
/-- The input projection of the context rows and its reference give the same seven arrays. -/
theorem algebraic : Cert.algebraic_Kernel4Ideal_Reference4Ideal := by
  intro m g m' g' _ hagree
  refine ⟨fun c => Cert.Kernel4Ideal.Value.tail m c Cert.Kernel4Ideal.main_v48,
    fun c => Cert.Kernel4Ideal.Value.tail m c Cert.Kernel4Ideal.main_v53,
    fun c => Cert.Kernel4Ideal.Value.tail m c Cert.Kernel4Ideal.main_v54,
    fun c => Cert.Kernel4Ideal.Value.tail m c Cert.Kernel4Ideal.main_v55,
    fun c => (Cert.Kernel4Ideal.Gen.dats m 0 c).arrAt 8 (Cert.Kernel4Ideal.cfgs 0).N,
    fun c => (Cert.Kernel4Ideal.Gen.dats m 0 c).arrAt 9 (Cert.Kernel4Ideal.cfgs 0).N,
    fun c => (Cert.Kernel4Ideal.Gen.dats m 0 c).arrAt 11 (Cert.Kernel4Ideal.cfgs 0).N, ?_, ?_⟩
  · exact θ_run_mono (θ_run_and (Cert.Kernel4Ideal.Gen.run_main m g) (Cert.Kernel4Ideal.Gen.unchanged m g))
      fun r h c => ⟨(h.1 c).2 _ (by decide), (h.1 c).2 _ (by decide), (h.1 c).2 _ (by decide), (h.1 c).2 _ (by decide),
        (h.1 c).1 8, (h.1 c).1 9, (h.1 c).1 11, h.2 c⟩
  · refine θ_run_mono (Cert.Reference4Ideal.Value.run m' g') fun r h c => ?_
    obtain ⟨h0, h1, h2, h3, h4, h5, h6, h7⟩ := hagree c
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2⟩
    · refine (Cert.Reference4Ideal.Read.val_main_v39_eq _ _ _ _).trans ?_
      rw [h0, h1, h2, h3]; exact keys m c
    · refine (Cert.Reference4Ideal.Read.val_main_v40_eq _ _ _ _).trans ?_
      rw [h0, h1, h2, h3]; exact values m c
    · rw [Cert.Reference4Ideal.Read.val_main_v68_eq, h0, h1, h2, h3, h6]; exact compressed m c
    · refine (Cert.Reference4Ideal.Read.val_main_v32_eq _ _ _ _).trans ?_
      rw [h0, h1, h2, h3]; exact rotated m c
    · rw [Cert.Reference4Ideal.Read.val_main_v93_eq, h0, h1, h2, h3]; exact packed m c
    · rw [Cert.Reference4Ideal.Read.val_main_v94_eq, h0, h1, h2, h3, h4, h5]; exact queries m c
    · rw [Cert.Reference4Ideal.Read.val_main_v95_eq, h0, h1, h2, h3, h6, h7]; exact keysValues m c

end Cert.Proof.Inproj

end
-- ==== Proof.FfnCtxKer.lean ====
module

public import proofs.«01_k».proof.Proof.Gen.Kernel7Ideal.Frame
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel7Ideal.Value
open Cert.Kernel7Ideal Cert.Kernel7Ideal.Gen

/-- What the body stores at row `r`, column `j` of its block is the sub-layer on row `r`. -/
theorem pay_row (P0 : FVec Ideal S256x1024 .f32) (P1 : FVec Ideal S1x1x6144 .f32) (P2 : FVec Ideal S1x1024 .f32)
    (P3 : FVec Ideal S1024x5632 .bf16) (P4 : FVec Ideal S2816x1024 .bf16) (P5 : FVec Ideal S1x1024 .f32)
    (r : Fin 256) (j : Fin 1024) :
    k0_pay1 (F := Ideal) P0 (k0_pay3 P1) (k0_pay4 P0 P1 P2 P3 P4) P5 (ix2 r j)
      = Rows.ffn (fun k => P0 (ix2 r k)) (fun k => P2 (ix2 0 k)) (fun k => P1 (ix3 0 0 ⟨4096 + k.val, by omega⟩))
          (fun k => P1 (ix3 0 0 ⟨3072 + k.val, by omega⟩)) (fun k => P1 (ix3 0 0 ⟨5120 + k.val, by omega⟩))
          (fun k => P5 (ix2 0 k)) (fun k l => P3 (ix2 k l)) (fun l k => P4 (ix2 l k)) j := by
  pointwise [k0_pay1, k0_pay2, k0_pay3, k0_pay4, Rows.ffn, Rows.residual, Rows.ffnIn, Rows.hidden, Rows.modulated, Rows.rms,
    Rows.lit_inv1024]

/-- The block indices of the pipelined windows: both row windows take block `t`, the modulation row is shared. -/
theorem idx : ∀ t : Fin cfg0.N, win0_0.index t = ![t.val, 0] ∧ win0_1.index t = ![0, 0, 0]
    ∧ win0_6.index t = ![t.val, 0] ∧ win0_2.index t = ![0, 0] ∧ win0_3.index t = ![0, 0] ∧ win0_4.index t = ![0, 0]
    ∧ win0_5.index t = ![0, 0] :=
  (by decide +kernel : ∀ t : Fin grid0.N, _)

variable (m : (ℓ : Loc nD τ sig) → Buf (Elt Ideal) ℓ)

/-- The sub-layer on row `r` of the arrays, under the one modulation. -/
def out (x : FVec Ideal S8192x1024 .f32) (md : FVec Ideal S1x1x6144 .f32) (g : FVec Ideal S1024 .f32)
    (wu : FVec Ideal S1024x5632 .f32) (wd : FVec Ideal S2816x1024 .f32) (g' : FVec Ideal S1024 .f32)
    (r : Fin 8192) (j : Fin 1024) : EReal :=
  Rows.ffn (fun k => x (ix2 r k)) (fun k => g (ix1 k))
    (fun k => md (ix3 0 0 ⟨4096 + k.val, by omega⟩))
    (fun k => md (ix3 0 0 ⟨3072 + k.val, by omega⟩))
    (fun k => md (ix3 0 0 ⟨5120 + k.val, by omega⟩))
    (fun k => g' (ix1 k)) (fun k l => wu (ix2 k l)) (fun l k => wd (ix2 l k)) j

/-- What point `t` stores at an index of its block is the sub-layer at the array index under it. -/
theorem point (c : Dev nD) (t : Fin cfg0.N) (y : S256x1024.Idx) :
    k0_pay1 (F := Ideal) (iblk m c 0 t) (k0_pay3 (iblk m c 1 t))
        (k0_pay4 (iblk m c 0 t) (iblk m c 1 t) (iblk m c 2 t) (iblk m c 3 t) (iblk m c 4 t)) (iblk m c 5 t) y
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          ((((cfg0.win 6).blk t).view.emb y : S8192x1024.Idx) 0) ((((cfg0.win 6).blk t).view.emb y : S8192x1024.Idx) 1) := by
  rw [eq_ix2 y]
  refine (pay_row _ _ _ _ _ _ (y 0) (y 1)).trans ?_
  refine Rows.ffn_congr (fun k => ?_) (fun k => ?_) (fun k => ?_) (fun k => ?_) (fun k => ?_) (fun k => ?_)
    (fun k l => ?_) (fun l k => ?_) ?_
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · refine Fin.ext ?_; blk_simp [idx t]

/-- The result array after the run. -/
theorem final (c : Dev nD) : (dats m 0 c).arrAt 6 (cfgs 0).N
    = fun i : S8192x1024.Idx => out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (i 0) (i 1) := by
  refine (dats m 0 c).arrAt_eq_of_covers 6 _ (by decide +kernel) fun t _ y => ?_
  blk_simp; rw [after0_6]; frame_out
  exact point m c t y

end Cert.Kernel7Ideal.Value
-- ==== Proof.FfnCtxRef.lean ====
module

public import proofs.«01_k».proof.Proof.Gen.Reference7Ideal.Read
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.Reference7Ideal.Value
open Cert.Reference7Ideal Cert.Reference7Ideal.Gen Cert.Reference7Ideal.Read

/-- The modulated, normalised input at a token. -/
theorem ref_in (x : FVec Ideal S8192x1024 .f32) (md : FVec Ideal S1x1x6144 .f32) (g : FVec Ideal S1024 .f32)
    (b : Fin 32) (q : Fin 256) (k : Fin 1024) :
    val_main_v25 (F := Ideal) x md g (ix3 b q k)
      = Rows.modulated (fun k => x (ix2 ⟨b.val * 256 + q.val, by omega⟩ k)) (fun k => g (ix1 k))
          (fun k => md (ix3 0 0 ⟨4096 + k.val, by omega⟩)) (fun k => md (ix3 0 0 ⟨3072 + k.val, by omega⟩)) k := by
  pointwise [val_main_v0, val_main_v4, val_main_v5, val_main_v7, val_main_cst, val_main_v8, val_main_v9, val_main_cst_0,
    val_main_v10, val_main_v11, val_main_cst_1, val_main_v12, val_main_v13, val_main_v14, val_main_v15, val_main_v16,
    val_main_v17, val_main_v18, val_main_v19, val_main_cst_2, val_main_v20, val_main_v21, val_main_v22, val_main_v23,
    val_main_v24, val_main_v25, Rows.modulated, Rows.rms, Rows.div_1024]

/-- The row added, before its normalisation. -/
theorem ref_ffn (x : FVec Ideal S8192x1024 .f32) (md : FVec Ideal S1x1x6144 .f32) (g : FVec Ideal S1024 .f32)
    (wu : FVec Ideal S1024x5632 .f32) (wd : FVec Ideal S2816x1024 .f32) (b : Fin 32) (q : Fin 256) (i : Fin 1024) :
    val_main_v31 (F := Ideal) x md g wu wd (ix3 b q i)
      = Rows.ffnIn (fun k => x (ix2 ⟨b.val * 256 + q.val, by omega⟩ k)) (fun k => g (ix1 k))
          (fun k => md (ix3 0 0 ⟨4096 + k.val, by omega⟩)) (fun k => md (ix3 0 0 ⟨3072 + k.val, by omega⟩))
          (fun k l => wu (ix2 k l)) (fun l k => wd (ix2 l k)) i := by
  pointwise [val_main_v31, val_main_v30, val_main_v29, val_main_call0_v0, val_main_call0_v1, val_main_call0_cst,
    val_main_call0_v2, val_main_call0_v3, val_main_call0_cst_0, val_main_call0_v4, val_main_call0_v5, val_main_v28,
    val_main_v27, val_main_v26, ref_in, Rows.ffnIn, Rows.hidden, Ideal.logistic]

/-- The reference's result at row `r`, column `j`. -/
theorem ref_out (x : FVec Ideal S8192x1024 .f32) (md : FVec Ideal S1x1x6144 .f32) (g : FVec Ideal S1024 .f32)
    (wu : FVec Ideal S1024x5632 .f32) (wd : FVec Ideal S2816x1024 .f32) (g' : FVec Ideal S1024 .f32)
    (r : Fin 8192) (j : Fin 1024) :
    val_main_v48 (F := Ideal) x md g wu wd g' (ix2 r j)
      = Rows.ffn (fun k => x (ix2 r k)) (fun k => g (ix1 k))
          (fun k => md (ix3 0 0 ⟨4096 + k.val, by omega⟩))
          (fun k => md (ix3 0 0 ⟨3072 + k.val, by omega⟩))
          (fun k => md (ix3 0 0 ⟨5120 + k.val, by omega⟩))
          (fun k => g' (ix1 k)) (fun k l => wu (ix2 k l)) (fun l k => wd (ix2 l k)) j := by
  have e : r.val / 256 * 256 + r.val % 256 = r.val := by omega
  pointwise [val_main_v48, val_main_v47, val_main_v46, val_main_v45, val_main_v44, val_main_v43, val_main_v42,
    val_main_v41, val_main_v40, val_main_v39, val_main_v38, val_main_v37, val_main_cst_5, val_main_v36, val_main_v35,
    val_main_cst_4, val_main_v34, val_main_v33, val_main_cst_3, val_main_v32, val_main_v6, val_main_v0, ref_ffn,
    Rows.ffn, Rows.residual, Rows.rms, Rows.div_1024, e]

end Cert.Reference7Ideal.Value
-- ==== Proof.FfnCtxClaim.lean ====
module

public import proofs.«01_k».proof.Defs
public import proofs.«01_k».proof.Proof.FfnCtxKer
public import proofs.«01_k».proof.Proof.FfnCtxRef
public import Idealize.ShloMosaic.Lib.Claim

@[expose] public section

set_option maxRecDepth 16384

noncomputable section

open Idealize.ShloMosaic Idealize.ShloMosaic.TcCoe Idealize.SL.Sem

namespace Cert.Proof.FfnCtx

/-- The reference's term is the result array. -/
theorem result (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (h0 : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0))
    (h1 : m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1))
    (h2 : m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2))
    (h3 : m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3))
    (h4 : m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4))
    (h5 : m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) :
    Cert.Reference7Ideal.Value.res_main_v48 m' c = (Cert.Kernel7Ideal.Gen.dats m 0 c).arrAt 6 (Cert.Kernel7Ideal.cfgs 0).N := by
  rw [Cert.Reference7Ideal.Read.val_main_v48_eq, Cert.Kernel7Ideal.Value.final m c, h0, h1, h2, h3, h4, h5]
  funext i
  rw [eq_ix2 i]
  exact Cert.Reference7Ideal.Value.ref_out _ _ _ _ _ _ _ _

/-- The feed-forward kernel of the context tokens and its reference give the same rows. -/
theorem algebraic : Cert.algebraic_Kernel7Ideal_Reference7Ideal := by
  intro m g m' g' _ hagree
  refine ⟨fun c => (Cert.Kernel7Ideal.Gen.dats m 0 c).arrAt 6 (Cert.Kernel7Ideal.cfgs 0).N, ?_, ?_⟩
  · exact θ_run_mono (θ_run_and (Cert.Kernel7Ideal.Gen.run_main m g) (Cert.Kernel7Ideal.Gen.unchanged m g))
      fun r h c => ⟨(h.1 c).1 6, h.2 c⟩
  · exact θ_run_mono (Cert.Reference7Ideal.Value.run m' g') fun r h c =>
      ⟨(h c).1.trans (result m m' c (hagree c).1 (hagree c).2.1 (hagree c).2.2.1 (hagree c).2.2.2.1 (hagree c).2.2.2.2.1
        (hagree c).2.2.2.2.2), (h c).2⟩

/-- The reference runs and leaves its arguments as they were. -/
theorem quiescent_ref : Cert.quiescent_Reference7Ideal := fun m g _ =>
  θ_run_mono (Cert.Reference7Ideal.Value.run m g) fun r h => ⟨fun c => (h c).2, sem_eq_zero_of_no_sems (by decide) r.2⟩

end Cert.Proof.FfnCtx

end
-- ==== Proof.MergeCtxKer.lean ====
module

public import proofs.«01_k».proof.Proof.Gen.Kernel8Ideal.Frame
public import proofs.«01_k».proof.Proof.MergeRows
public import proofs.«01_k».proof.Proof.Loads
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel8Ideal.Value
open Cert.Kernel8Ideal Cert.Kernel8Ideal.Gen

/-- The floor division of a column number by 64, as the kernel computes it. -/
theorem floor64 : ∀ k : Fin 256, Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 k.val) 64#32) 0#32))
          (IntOp.subi (IntOp.divsi ArithUnit.vector (BitVec.ofNat 32 k.val) 64#32) 1#32)
          (IntOp.divsi ArithUnit.vector (BitVec.ofNat 32 k.val) 64#32) = BitVec.ofNat 32 (k.val / 64) := by
  decide +kernel

/-- Comparing the floors is comparing the heads. -/
theorem eq4 : ∀ a b : Fin 4, IntOp.cmpi CmpIPredicate.eq (BitVec.ofNat 32 a.val) (BitVec.ofNat 32 b.val)
    = if a.val = b.val then 1#1 else 0#1 := by
  decide +kernel

/-- The indicator of two columns lying in one head. -/
theorem sel (k j : Fin 256) :
    k0_pay9 (F := Ideal) (iota .tc S256x256 32 [0] iota_S256x256_d0_w32) 64#32 k0_pay7 k0_pay8 (ix2 k j)
      = if k.val / 64 = j.val / 64 then 1 else 0 := by
  pointwise [k0_pay9, k0_pay7, k0_pay8]
  rw [floor64 k, floor64 j]
  have e := eq4 ⟨k.val / 64, by omega⟩ ⟨j.val / 64, by omega⟩
  simp only at e
  rw [e]
  by_cases hk : k.val / 64 = j.val / 64
  · rw [if_pos hk, if_pos hk]; rfl
  · rw [if_neg hk, if_neg hk]; rfl

/-- The recurrence's branch at a row and column of the block. -/
theorem pay_head (P6 P7 z : FVec Ideal S256x256 .f32) (gn : FVec Ideal S1x256 .f32) (r j : Fin 256)
    (h : ∀ k, (P6 (ix2 r k) + P7 (ix2 r k)) * (P6 (ix2 r k) + P7 (ix2 r k)) - (P6 (ix2 r k) + P7 (ix2 r k)) * (P6 (ix2 r k) + P7 (ix2 r k)) = 0) :
    k0_pay12 (F := Ideal) (k0_pay5 P6 P7) (k0_pay6 P6 P7)
        (k0_pay9 (iota .tc S256x256 32 [0] iota_S256x256_d0_w32) 64#32 k0_pay7 k0_pay8) (k0_pay10 (k0_pay6 P6 P7))
        (k0_pay11 (k0_pay6 P6 P7)) gn z (ix2 r j)
      = Rows.headNorm (fun k => P6 (ix2 r k) + P7 (ix2 r k)) (fun k => z (ix2 r k)) (fun k => gn (ix2 0 k)) j := by
  have hs := sel
  pointwise [k0_pay12, k0_pay5, k0_pay6, k0_pay10, k0_pay11, hs, h, Rows.headNorm, Rows.lit_inv64]
  have e := Rows.sum_head (fun k => (P6 (ix2 r k) + P7 (ix2 r k)) * (P6 (ix2 r k) + P7 (ix2 r k))) ⟨j.val / 64, by omega⟩
  simp only [mul_ite, mul_one, mul_zero, ite_self, Finset.sum_const_zero, add_zero] at e ⊢
  rw [e]; rfl

/-- What the body stores at row `r`, column `j` of its block is the merge of row `r`. -/
theorem pay_row (P0 : FVec Ideal S256x1024 .f32) (P1 : FVec Ideal S1x1x6144 .f32) (P2 : FVec Ideal S1x1024 .f32)
    (P3 P4 P5 P6 P7 P8 : FVec Ideal S256x256 .f32) (P9 : FVec Ideal S1x256 .f32)
    (G0 G1 G2 G3 : FVec Ideal S1024x1024 .bf16) (B0 B1 B2 B3 : FVec Ideal S1x256x1024 .bf16)
    (P12 : FVec Ideal S1024x1024 .bf16) (P13 : FVec Ideal S1x1024 .f32)
    (wg : Fin 1024 → Fin 4096 → EReal) (wb : Fin 4 → Fin 256 → Fin 1024 → EReal) (r : Fin 256) (j : Fin 1024)
    (hG0 : ∀ k l, G0 (ix2 k l) = wg k ⟨0 * 1024 + l.val, by omega⟩) (hG1 : ∀ k l, G1 (ix2 k l) = wg k ⟨1 * 1024 + l.val, by omega⟩)
    (hG2 : ∀ k l, G2 (ix2 k l) = wg k ⟨2 * 1024 + l.val, by omega⟩) (hG3 : ∀ k l, G3 (ix2 k l) = wg k ⟨3 * 1024 + l.val, by omega⟩)
    (hB0 : ∀ k l, B0 (ix3 0 k l) = wb 0 k l) (hB1 : ∀ k l, B1 (ix3 0 k l) = wb 1 k l)
    (hB2 : ∀ k l, B2 (ix3 0 k l) = wb 2 k l) (hB3 : ∀ k l, B3 (ix3 0 k l) = wb 3 k l)
    (h : ∀ k, (P6 (ix2 r k) + P7 (ix2 r k)) * (P6 (ix2 r k) + P7 (ix2 r k)) - (P6 (ix2 r k) + P7 (ix2 r k)) * (P6 (ix2 r k) + P7 (ix2 r k)) = 0) :
    k0_pay1 (F := Ideal) P0 (k0_pay3 P1)
        (k0_pay14 (k0_pay4 P0 P1 P2)
          (k0_pay12 (k0_pay5 P6 P7) (k0_pay6 P6 P7)
            (k0_pay9 (iota .tc S256x256 32 [0] iota_S256x256_d0_w32) 64#32 k0_pay7 k0_pay8) (k0_pay10 (k0_pay6 P6 P7))
            (k0_pay11 (k0_pay6 P6 P7)) P9 P8)
          P4 P5 (k0_pay13 (k0_pay4 P0 P1 P2) P3 G0 B0) G1 B1 G2 B2 G3 B3 P12) (k0_pay15 P13) (ix2 r j)
      = Rows.merge (fun k => P0 (ix2 r k)) (fun k => P2 (ix2 0 k)) (fun k => P1 (ix3 0 0 ⟨1024 + k.val, by omega⟩))
          (fun k => P1 (ix3 0 0 ⟨k.val, by omega⟩)) (fun k => P1 (ix3 0 0 ⟨2048 + k.val, by omega⟩)) (fun k => P13 (ix2 0 k))
          (fun k => P3 (ix2 r k)) (fun k => P4 (ix2 r k)) (fun k => P5 (ix2 r k)) (fun k => P6 (ix2 r k) + P7 (ix2 r k))
          (fun k => P8 (ix2 r k)) (fun k => P9 (ix2 0 k)) wg wb (fun k l => P12 (ix2 k l)) j := by
  have hd := fun c => pay_head P6 P7 P8 P9 r c h
  generalize k0_pay12 (F := Ideal) (k0_pay5 P6 P7) (k0_pay6 P6 P7)
            (k0_pay9 (iota .tc S256x256 32 [0] iota_S256x256_d0_w32) 64#32 k0_pay7 k0_pay8) (k0_pay10 (k0_pay6 P6 P7))
            (k0_pay11 (k0_pay6 P6 P7)) P9 P8 = Q at hd ⊢
  pointwise [k0_pay1, k0_pay2, k0_pay3, k0_pay4, k0_pay13, k0_pay14, k0_pay15, hd, hG0, hG1, hG2, hG3, hB0, hB1, hB2, hB3,
    Rows.merge, Rows.mix, Rows.mixed, Rows.branch, Rows.residual, Rows.modulated, Rows.rms, Rows.lit_inv1024]

/-- The block indices of the pipelined windows: the row windows take block `t`, the modulation row the sequence. -/
theorem idx : ∀ t : Fin cfg0.N, win0_0.index t = ![t.val, 0] ∧ win0_1.index t = ![0, 0, 0]
    ∧ win0_2.index t = ![0, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 9]
    ∧ win0_9.index t = ![0, 0] ∧ win0_10.index t = ![0, 0] ∧ win0_11.index t = ![0, 0, 0] ∧ win0_12.index t = ![0, 0]
    ∧ win0_13.index t = ![0, 0] ∧ win0_14.index t = ![t.val, 0] :=
  (by decide +kernel : ∀ t : Fin grid0.N, _)

variable (m : (ℓ : Loc nD τ sig) → Buf (Elt Ideal) ℓ)

/-- The square of a sum minus itself: zero where the sum is finite. -/
def squareDiff (a b : FVec Ideal S8192x256 .f32) (i : S8192x256.Idx) : EReal :=
  (a i + b i) * (a i + b i) - (a i + b i) * (a i + b i)

/-- The merge on row `r` of the arrays, the modulation of the row's sequence. -/
def out (x : FVec Ideal S8192x1024 .f32) (md : FVec Ideal S1x1x6144 .f32) (g : FVec Ideal S1024 .f32)
    (a b c o₁ o₂ : FVec Ideal S8192x256 .f32) (pr : FVec Ideal S8192x2688 .f32) (dn : FVec Ideal S64 .f32)
    (wi : FVec Ideal S1024x6256 .f32) (wb : FVec Ideal S4x256x1024 .f32) (wo : FVec Ideal S1024x1024 .f32)
    (g' : FVec Ideal S1024 .f32) (r : Fin 8192) (j : Fin 1024) : EReal :=
  Rows.merge (fun k => x (ix2 r k)) (fun k => g (ix1 k))
    (fun k => md (ix3 0 0 ⟨1024 + k.val, by omega⟩))
    (fun k => md (ix3 0 0 ⟨k.val, by omega⟩))
    (fun k => md (ix3 0 0 ⟨2048 + k.val, by omega⟩)) (fun k => g' (ix1 k))
    (fun k => a (ix2 r k)) (fun k => b (ix2 r k)) (fun k => c (ix2 r k)) (fun k => o₁ (ix2 r k) + o₂ (ix2 r k))
    (fun k => pr (ix2 r ⟨2304 + k.val, by omega⟩)) (fun k => dn (ix1 ⟨k.val % 64, by omega⟩))
    (fun k l => wi (ix2 k ⟨2160 + l.val, by omega⟩)) (fun n k l => wb (ix3 n k l)) (fun k l => wo (ix2 k l)) j

/-- Row `r` of block `t`, among the array's rows. -/
def row (t : Fin cfg0.N) (r : Fin 256) : Fin 8192 :=
  ⟨t.val * 256 + r.val, by have := t.isLt; have e : cfg0.N = 32 := rfl; omega⟩

/-- The block of the gate `z`, whose columns start at 2304 of the packed projection. -/
theorem zblk (c : Dev nD) (t : Fin cfg0.N) (r k : Fin 256) :
    (X0_8 m c t : FVec Ideal S256x256 .f32) (ix2 r k) = (m ((c : Thread nD τ).loc main_arg8) : FVec Ideal S8192x2688 .f32)
      (ix2 (row t r) ⟨2304 + k.val, by omega⟩) := by
  unfold X0_8 Pipeline.Window.fill row
  rw [dif_pos (moved0_8 t _)]
  blk_point [iblk, V, idx t]

/-- What point `t` stores at an index of its block is the merge at the array index under it. -/
theorem point (c : Dev nD)
    (hfin : ∀ i, squareDiff (m ((c : Thread nD τ).loc main_arg6)) (m ((c : Thread nD τ).loc main_arg7)) i = 0) (t : Fin cfg0.N) (y : S256x1024.Idx) :
    k0_pay1 (F := Ideal) (iblk m c 0 t) (k0_pay3 (iblk m c 1 t))
      (k0_pay14 (k0_pay4 (iblk m c 0 t) (iblk m c 1 t) (iblk m c 2 t))
        (k0_pay12 (k0_pay5 (iblk m c 6 t) (iblk m c 7 t)) (k0_pay6 (iblk m c 6 t) (iblk m c 7 t))
          (k0_pay9 (iota Kind.tc S256x256 32 [0] iota_S256x256_d0_w32) (64#32) k0_pay7 k0_pay8)
          (k0_pay10 (k0_pay6 (iblk m c 6 t) (iblk m c 7 t))) (k0_pay11 (k0_pay6 (iblk m c 6 t) (iblk m c 7 t)))
          (iblk m c 9 t) (X0_8 m c t))
        (iblk m c 4 t) (iblk m c 5 t)
        (k0_pay13 (k0_pay4 (iblk m c 0 t) (iblk m c 1 t) (iblk m c 2 t)) (iblk m c 3 t)
          (View.ld (iblk m c 10 t) (Rect.unit ![0, 0] ![1024, 1024] inb_S1024x4096_S1024x1024_0_0))
          (View.ld (iblk m c 11 t) (Rect.unit ![0, 0, 0] ![1, 256, 1024] inb_S4x256x1024_S1x256x1024_0_0_0)))
        (View.ld (iblk m c 10 t) (Rect.unit ![0, 1024] ![1024, 1024] inb_S1024x4096_S1024x1024_0_1024))
        (View.ld (iblk m c 11 t) (Rect.unit ![1, 0, 0] ![1, 256, 1024] inb_S4x256x1024_S1x256x1024_1_0_0))
        (View.ld (iblk m c 10 t) (Rect.unit ![0, 2048] ![1024, 1024] inb_S1024x4096_S1024x1024_0_2048))
        (View.ld (iblk m c 11 t) (Rect.unit ![2, 0, 0] ![1, 256, 1024] inb_S4x256x1024_S1x256x1024_2_0_0))
        (View.ld (iblk m c 10 t) (Rect.unit ![0, 3072] ![1024, 1024] inb_S1024x4096_S1024x1024_0_3072))
        (View.ld (iblk m c 11 t) (Rect.unit ![3, 0, 0] ![1, 256, 1024] inb_S4x256x1024_S1x256x1024_3_0_0))
        (iblk m c 12 t))
      (k0_pay15 (iblk m c 13 t)) y
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13))
          ((((cfg0.win 14).blk t).view.emb y : S8192x1024.Idx) 0) ((((cfg0.win 14).blk t).view.emb y : S8192x1024.Idx) 1) := by
  rw [eq_ix2 y]
  refine (pay_row _ _ _ _ _ _ _ _ _ _ _ _ _ _ _ _ _ _ _ _
    (fun k l => (iblk m c 10 t : FVec Ideal S1024x4096 .bf16) (ix2 k l))
    (fun n k l => (iblk m c 11 t : FVec Ideal S4x256x1024 .bf16) (ix3 n k l)) (y 0) (y 1)
    (fun k l => ?_) (fun k l => ?_) (fun k l => ?_) (fun k l => ?_) (fun k l => ?_) (fun k l => ?_) (fun k l => ?_)
    (fun k l => ?_) (fun k => ?_)).trans ?_
  · exact Loads.ld2 _ _ _ _ _ _ (by simp) (by simp)
  · exact Loads.ld2 _ _ _ _ _ _ (by simp) (by simp)
  · exact Loads.ld2 _ _ _ _ _ _ (by simp) (by simp)
  · exact Loads.ld2 _ _ _ _ _ _ (by simp) (by simp)
  · exact Loads.ld3 _ _ _ _ _ _ _ _ (by simp) (by simp) (by simp)
  · exact Loads.ld3 _ _ _ _ _ _ _ _ (by simp) (by simp) (by simp)
  · exact Loads.ld3 _ _ _ _ _ _ _ _ (by simp) (by simp) (by simp)
  · exact Loads.ld3 _ _ _ _ _ _ _ _ (by simp) (by simp) (by simp)
  · have e6 : (iblk m c 6 t : FVec Ideal S256x256 .f32) (ix2 (y 0) k) = (m ((c : Thread nD τ).loc main_arg6) : FVec Ideal S8192x256 .f32) (ix2 (row t (y 0)) k) := by
      blk_point [iblk, V, idx t, row]
    have e7 : (iblk m c 7 t : FVec Ideal S256x256 .f32) (ix2 (y 0) k) = (m ((c : Thread nD τ).loc main_arg7) : FVec Ideal S8192x256 .f32) (ix2 (row t (y 0)) k) := by
      blk_point [iblk, V, idx t, row]
    rw [e6, e7]
    exact hfin _
  refine Rows.merge_congr (fun k => ?_) (fun k => ?_) (fun k => ?_) (fun k => ?_) (fun k => ?_) (fun k => ?_)
    (fun k => ?_) (fun k => ?_) (fun k => ?_) (fun k => ?_) (fun k => ?_) (fun k => ?_)
    (fun k l => ?_) (fun n k l => ?_) (fun k l => ?_) ?_
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · refine (zblk m c t _ _).trans ?_
    blk_point [idx t, row]
  · blk_point [iblk, V, idx t]
  · blk_point [iblk, V, idx t]
  · blk_point [iblk, V, idx t]
  · blk_point [iblk, V, idx t]
  · refine Fin.ext ?_; blk_simp [idx t]

/-- The result array after the run. -/
theorem final (c : Dev nD)
    (hfin : ∀ i, squareDiff (m ((c : Thread nD τ).loc main_arg6)) (m ((c : Thread nD τ).loc main_arg7)) i = 0) : (dats m 0 c).arrAt 14 (cfgs 0).N
    = fun i : S8192x1024.Idx => out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13)) (i 0) (i 1) := by
  refine (dats m 0 c).arrAt_eq_of_covers 14 _ (by decide +kernel) fun t _ y => ?_
  blk_simp; rw [after0_14]; unfold outsAt0 out0_A_14; frame_out
  exact point m c hfin t y

end Cert.Kernel8Ideal.Value
-- ==== Proof.MergeCtxRef.lean ====
module

public import proofs.«01_k».proof.Proof.Gen.Reference8Ideal.Read
public import proofs.«01_k».proof.Proof.MergeRows
public import Idealize.ShloMosaic.Lib.Pointwise

@[expose] public section

set_option maxRecDepth 16384

noncomputable section

open Idealize.ShloMosaic Idealize.ShloMosaic.TcCoe Idealize.SL.Sem

namespace Cert.Reference8Ideal.Value
open Cert.Reference8Ideal Cert.Reference8Ideal.Gen Cert.Reference8Ideal.Read

variable (x : FVec Ideal S8192x1024 .f32) (md : FVec Ideal S1x1x6144 .f32) (g : FVec Ideal S1024 .f32)
  (a b' c o₁ o₂ : FVec Ideal S8192x256 .f32) (pr : FVec Ideal S8192x2688 .f32) (dn : FVec Ideal S64 .f32)
  (wi : FVec Ideal S1024x6256 .f32) (wb : FVec Ideal S4x256x1024 .f32) (wo : FVec Ideal S1024x1024 .f32)
  (g' : FVec Ideal S1024 .f32)

/-- The modulated, normalised input at a token. -/
theorem ref_in (b : Fin 32) (q : Fin 256) (k : Fin 1024) :
    val_main_v25 (F := Ideal) x md g (ix3 b q k)
      = Rows.modulated (fun k => x (ix2 ⟨b.val * 256 + q.val, by omega⟩ k)) (fun k => g (ix1 k))
          (fun k => md (ix3 0 0 ⟨1024 + k.val, by omega⟩)) (fun k => md (ix3 0 0 ⟨k.val, by omega⟩)) k := by
  pointwise [val_main_v0, val_main_v1, val_main_v2, val_main_v7, val_main_cst, val_main_v8, val_main_v9, val_main_cst_0,
    val_main_v10, val_main_v11, val_main_cst_1, val_main_v12, val_main_v13, val_main_v14, val_main_v15, val_main_v16,
    val_main_v17, val_main_v18, val_main_v19, val_main_cst_2, val_main_v20, val_main_v21, val_main_v22, val_main_v23,
    val_main_v24, val_main_v25, Rows.modulated, Rows.rms, Rows.div_1024]

/-- The fourth branch: the two directions added, normalised head by head and gated. -/
theorem ref_head (b : Fin 32) (q : Fin 256) (k : Fin 256) :
    val_main_v48 (F := Ideal) o₁ o₂ pr dn (ix3 b q k)
      = Rows.headNorm (fun k => o₁ (ix2 ⟨b.val * 256 + q.val, by omega⟩ k) + o₂ (ix2 ⟨b.val * 256 + q.val, by omega⟩ k))
          (fun k => pr (ix2 ⟨b.val * 256 + q.val, by omega⟩ ⟨2304 + k.val, by omega⟩))
          (fun k => dn (ix1 ⟨k.val % 64, by omega⟩)) k := by
  have e : k.val / 64 * 64 + k.val % 64 = k.val := by omega
  pointwise [val_main_v28, val_main_v29, val_main_v30, val_main_v31, val_main_v32, val_main_v33, val_main_cst_3,
    val_main_v34, val_main_v35, val_main_cst_4, val_main_v36, val_main_v37, val_main_cst_5, val_main_v38, val_main_v39,
    val_main_v40, val_main_v41, val_main_v42, val_main_v43, val_main_v44, val_main_v45, val_main_call0_v0,
    val_main_call0_v1, val_main_call0_cst, val_main_call0_v2, val_main_call0_v3, val_main_call0_cst_0, val_main_call0_v4,
    val_main_call0_v5, val_main_v46, val_main_v47, val_main_v48, Rows.headNorm, Rows.sameHead, Rows.div_64,
    Ideal.logistic, e]

/-- The gates at a token. -/
theorem ref_gate (b : Fin 32) (q : Fin 256) (n : Fin 4) (j : Fin 1024) :
    val_main_v65 (F := Ideal) x md g wi (ix4 b q n j)
      = Ideal.logistic (∑ k, Rows.modulated (fun k => x (ix2 ⟨b.val * 256 + q.val, by omega⟩ k)) (fun k => g (ix1 k))
          (fun k => md (ix3 0 0 ⟨1024 + k.val, by omega⟩)) (fun k => md (ix3 0 0 ⟨k.val, by omega⟩)) k
          * wi (ix2 k ⟨2160 + (n.val * 1024 + j.val), by omega⟩)) := by
  pointwise [val_main_v26, val_main_v27, val_main_v59, val_main_v60, val_main_v61, val_main_cst_6, val_main_v62,
    val_main_v63, val_main_cst_7, val_main_v64, val_main_v65, ref_in, Ideal.logistic]

/-- The branches, projected. -/
theorem ref_branch (b : Fin 32) (q : Fin 256) (n : Fin 4) (j : Fin 1024) :
    val_main_v58 (F := Ideal) a b' c o₁ o₂ pr dn wb (ix4 b q n j)
      = ∑ k, val_main_v56 (F := Ideal) a b' c o₁ o₂ pr dn (ix4 b q n k) * wb (ix3 n k j) := by
  have e : val_main_v58 (F := Ideal) a b' c o₁ o₂ pr dn wb (ix4 b q n j)
      = ∑ k, wb (ix3 n k j) * val_main_v56 (F := Ideal) a b' c o₁ o₂ pr dn (ix4 b q n k) := by
    pointwise [val_main_v57, val_main_v58]
  exact e.trans (Finset.sum_congr rfl fun k _ => mul_comm _ _)

/-- The four branches, one beside the other. -/
theorem ref_stack (b : Fin 32) (q : Fin 256) (k : Fin 256) :
    (val_main_v56 (F := Ideal) a b' c o₁ o₂ pr dn (ix4 b q 0 k) = a (ix2 ⟨b.val * 256 + q.val, by omega⟩ k)
    ∧ val_main_v56 (F := Ideal) a b' c o₁ o₂ pr dn (ix4 b q 1 k) = b' (ix2 ⟨b.val * 256 + q.val, by omega⟩ k))
    ∧ val_main_v56 (F := Ideal) a b' c o₁ o₂ pr dn (ix4 b q 2 k) = c (ix2 ⟨b.val * 256 + q.val, by omega⟩ k)
    ∧ val_main_v56 (F := Ideal) a b' c o₁ o₂ pr dn (ix4 b q 3 k) = val_main_v48 (F := Ideal) o₁ o₂ pr dn (ix3 b q k) := by
  refine ⟨⟨?_, ?_⟩, ?_, ?_⟩
  all_goals pointwise [val_main_v49, val_main_v50, val_main_v51, val_main_v52, val_main_v53, val_main_v54, val_main_v55, val_main_v56]

/-- The branches, gated and summed, at a token. -/
theorem ref_mix (b : Fin 32) (q : Fin 256) (i : Fin 1024) :
    val_main_v67 (F := Ideal) x md g a b' c o₁ o₂ pr dn wi wb (ix3 b q i)
      = ∑ n : Fin 4, val_main_v65 (F := Ideal) x md g wi (ix4 b q n i)
          * val_main_v58 (F := Ideal) a b' c o₁ o₂ pr dn wb (ix4 b q n i) := by
  pointwise [val_main_v66, val_main_v67, val_main_cst_8]

/-- The modulated input at a token, as a row. -/
def hrow (b : Fin 32) (q : Fin 256) : Fin 1024 → EReal :=
  Rows.modulated (fun k => x (ix2 ⟨b.val * 256 + q.val, by omega⟩ k)) (fun k => g (ix1 k))
    (fun k => md (ix3 0 0 ⟨1024 + k.val, by omega⟩)) (fun k => md (ix3 0 0 ⟨k.val, by omega⟩))

/-- The branches, gated and summed, as the specification writes them. -/
theorem ref_mixed (b : Fin 32) (q : Fin 256) (i : Fin 1024) :
    val_main_v67 (F := Ideal) x md g a b' c o₁ o₂ pr dn wi wb (ix3 b q i)
      = Rows.mixed (hrow x md g b q) (fun k => a (ix2 ⟨b.val * 256 + q.val, by omega⟩ k))
          (fun k => b' (ix2 ⟨b.val * 256 + q.val, by omega⟩ k)) (fun k => c (ix2 ⟨b.val * 256 + q.val, by omega⟩ k))
          (Rows.headNorm (fun k => o₁ (ix2 ⟨b.val * 256 + q.val, by omega⟩ k) + o₂ (ix2 ⟨b.val * 256 + q.val, by omega⟩ k))
            (fun k => pr (ix2 ⟨b.val * 256 + q.val, by omega⟩ ⟨2304 + k.val, by omega⟩)) (fun k => dn (ix1 ⟨k.val % 64, by omega⟩)))
          (fun k l => wi (ix2 k ⟨2160 + l.val, by omega⟩)) (fun n k l => wb (ix3 n k l)) i := by
  rw [ref_mix, Fin.sum_univ_four, ref_branch, ref_branch, ref_branch, ref_branch, ref_gate, ref_gate, ref_gate, ref_gate]
  have s0 := fun k => (ref_stack a b' c o₁ o₂ pr dn b q k).1.1
  have s1 := fun k => (ref_stack a b' c o₁ o₂ pr dn b q k).1.2
  have s2 := fun k => (ref_stack a b' c o₁ o₂ pr dn b q k).2.1
  have s3 := fun k => ((ref_stack a b' c o₁ o₂ pr dn b q k).2.2).trans (ref_head o₁ o₂ pr dn b q k)
  simp only [s0, s1, s2, s3]
  rfl

/-- The reference's result at row `r`, column `j`. -/
theorem ref_out (r : Fin 8192) (j : Fin 1024) :
    val_main_v85 (F := Ideal) x md g a b' c o₁ o₂ pr dn wi wb wo g' (ix2 r j)
      = Rows.merge (fun k => x (ix2 r k)) (fun k => g (ix1 k))
        (fun k => md (ix3 0 0 ⟨1024 + k.val, by omega⟩))
        (fun k => md (ix3 0 0 ⟨k.val, by omega⟩))
        (fun k => md (ix3 0 0 ⟨2048 + k.val, by omega⟩)) (fun k => g' (ix1 k))
        (fun k => a (ix2 r k)) (fun k => b' (ix2 r k)) (fun k => c (ix2 r k)) (fun k => o₁ (ix2 r k) + o₂ (ix2 r k))
        (fun k => pr (ix2 r ⟨2304 + k.val, by omega⟩)) (fun k => dn (ix1 ⟨k.val % 64, by omega⟩))
        (fun k l => wi (ix2 k ⟨2160 + l.val, by omega⟩)) (fun n k l => wb (ix3 n k l)) (fun k l => wo (ix2 k l)) j := by
  have e : r.val / 256 * 256 + r.val % 256 = r.val := by omega
  have hm := fun i => ref_mixed x md g a b' c o₁ o₂ pr dn wi wb ⟨r.val / 256, by omega⟩ ⟨r.val % 256, by omega⟩ i
  simp only [hrow, e] at hm
  pointwise [val_main_v85, val_main_v84, val_main_v83, val_main_v82, val_main_v81, val_main_v80, val_main_v79,
    val_main_v78, val_main_v77, val_main_v76, val_main_v75, val_main_v74, val_main_cst_11, val_main_v73, val_main_v72,
    val_main_cst_10, val_main_v71, val_main_v70, val_main_cst_9, val_main_v69, val_main_v68, val_main_v3, val_main_v0,
    hm, Rows.merge, Rows.mix, Rows.residual, Rows.rms, Rows.div_1024, e]

end Cert.Reference8Ideal.Value
-- ==== Proof.MergeCtxClaim.lean ====
module

public import proofs.«01_k».proof.Defs
public import proofs.«01_k».proof.Proof.Finite
public import proofs.«01_k».proof.Proof.MergeCtxKer
public import proofs.«01_k».proof.Proof.MergeCtxRef
public import proofs.«01_k».proof.Proof.Gen.Pre_finite8
public import Idealize.ShloMosaic.Lib.Claim

@[expose] public section

set_option maxRecDepth 16384

noncomputable section

open Idealize.ShloMosaic Idealize.ShloMosaic.TcCoe Idealize.SL.Sem

namespace Cert.Proof.MergeCtx

/-- The reference's term is the result array. -/
theorem result (m : (ℓ : Loc Cert.Kernel8Ideal.nD Cert.Kernel8Ideal.τ Cert.Kernel8Ideal.sig) → Buf (Elt Ideal) ℓ)
    (m' : (ℓ : Loc Cert.Reference8Ideal.nD Cert.Reference8Ideal.τ Cert.Reference8Ideal.sig) → Buf (Elt Ideal) ℓ) (c : Dev 1)
    (h0 : m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0))
    (h1 : m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1))
    (h2 : m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2))
    (h3 : m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3))
    (h4 : m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4))
    (h5 : m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5))
    (h6 : m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6))
    (h7 : m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7))
    (h8 : m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8))
    (h9 : m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9))
    (h10 : m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10))
    (h11 : m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11))
    (h12 : m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12))
    (h13 : m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13))
    (hfin : ∀ i, Cert.Kernel8Ideal.Value.squareDiff (m ((c.tc : Thread Cert.Kernel8Ideal.nD Cert.Kernel8Ideal.τ).loc Cert.Kernel8Ideal.main_arg6))
      (m ((c.tc : Thread Cert.Kernel8Ideal.nD Cert.Kernel8Ideal.τ).loc Cert.Kernel8Ideal.main_arg7)) i = 0) :
    Cert.Reference8Ideal.Value.res_main_v85 m' c = (Cert.Kernel8Ideal.Gen.dats m 0 c).arrAt 14 (Cert.Kernel8Ideal.cfgs 0).N := by
  rw [Cert.Reference8Ideal.Read.val_main_v85_eq, Cert.Kernel8Ideal.Value.final m c hfin, h0, h1, h2, h3, h4, h5, h6, h7, h8, h9, h10, h11, h12, h13]
  funext i
  rw [eq_ix2 i]
  exact Cert.Reference8Ideal.Value.ref_out _ _ _ _ _ _ _ _ _ _ _ _ _ _ _ _

/-- Where both directions are finite, the square of their sum minus itself is zero. -/
theorem square_diff (m : (ℓ : Loc Cert.Kernel8Ideal.nD Cert.Kernel8Ideal.τ Cert.Kernel8Ideal.sig) → Buf (Elt Ideal) ℓ)
    (h : Cert.Pre_Kernel8Ideal_finite8 m) (c : Dev 1) (i : Cert.Kernel8Ideal.S8192x256.Idx) :
    Cert.Kernel8Ideal.Value.squareDiff (m ((c.tc : Thread Cert.Kernel8Ideal.nD Cert.Kernel8Ideal.τ).loc Cert.Kernel8Ideal.main_arg6))
      (m ((c.tc : Thread Cert.Kernel8Ideal.nD Cert.Kernel8Ideal.τ).loc Cert.Kernel8Ideal.main_arg7)) i = 0 := by
  obtain ⟨a, ha⟩ := Cert.Finite.real_of_abs_lt _ _ (fun _ => rfl) (h c).1 i
  obtain ⟨b, hb⟩ := Cert.Finite.real_of_abs_lt _ _ (fun _ => rfl) (h c).2 i
  unfold Cert.Kernel8Ideal.Value.squareDiff
  rw [ha, hb, ← EReal.coe_add, ← EReal.coe_mul, ← EReal.coe_sub, sub_self, EReal.coe_zero]

/-- The merge kernel of the context tokens and its reference give the same rows. -/
theorem algebraic : Cert.algebraic_Kernel8Ideal_Reference8Ideal_pre_finite8 := by
  intro m g m' g' hpre hagree
  refine ⟨fun c => (Cert.Kernel8Ideal.Gen.dats m 0 c).arrAt 14 (Cert.Kernel8Ideal.cfgs 0).N, ?_, ?_⟩
  · exact θ_run_mono (θ_run_and (Cert.Kernel8Ideal.Gen.run_main m g) (Cert.Kernel8Ideal.Gen.unchanged m g))
      fun r h c => ⟨(h.1 c).1 14, h.2 c⟩
  · exact θ_run_mono (Cert.Reference8Ideal.Value.run m' g') fun r h c =>
      ⟨(h c).1.trans (result m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2
        (square_diff m hpre c)), (h c).2⟩

end Cert.Proof.MergeCtx

end
-- ==== Proof.RopeRows.lean ====
module

public import proofs.«01_k».proof.Proof.InprojRows

@[expose] public section

noncomputable section

open Idealize.ShloMosaic

/-! The rotation of queries and keys by their token's position, over the extended reals. -/

namespace Cert.Rows

/-- Column `j` of a row of four heads of 64, rotated: each head's quarters of 16 are turned in pairs, by the cosines and
    sines of the token. -/
def turnA (x : Fin 256 → EReal) (c s : Fin 64 → EReal) (j : Fin 256) : EReal :=
  x j * c ⟨j.val % 64, by omega⟩
    + (if h : j.val % 64 / 16 % 2 = 0 then -x ⟨j.val + 16, by omega⟩ else x ⟨j.val - 16, by omega⟩) * s ⟨j.val % 64, by omega⟩

/-- The rotation written as two shifts of the whole row, each masked by its table of sines. -/
theorem turnA_eq (x : Fin 256 → EReal) (c s : Fin 64 → EReal) (j : Fin 256) :
    x j * c ⟨j.val % 64, by omega⟩
      + x ⟨(j.val + 256 - 240) % 256, by omega⟩ * (if j.val % 64 / 16 % 2 = 0 then -s ⟨j.val % 64, by omega⟩ else 0)
      + x ⟨(j.val + 256 - 16) % 256, by omega⟩ * (if j.val % 64 / 16 % 2 = 0 then 0 else s ⟨j.val % 64, by omega⟩)
      = turnA x c s j := by
  unfold turnA
  by_cases h : j.val % 64 / 16 % 2 = 0
  · have e : (⟨(j.val + 256 - 240) % 256, by omega⟩ : Fin 256) = ⟨j.val + 16, by omega⟩ := Fin.ext (by dsimp only; omega)
    rw [if_pos h, if_pos h, dif_pos h, mul_zero, add_zero, e, mul_neg, EReal.neg_mul]
  · have e : (⟨(j.val + 256 - 16) % 256, by omega⟩ : Fin 256) = ⟨j.val - 16, by omega⟩ := Fin.ext (by dsimp only; omega)
    rw [if_neg h, if_neg h, dif_neg h, mul_zero, add_zero, e]

/-- Column `j` of a row of four heads of 32, rotated: each head's quarters of 8 are turned in pairs, by the cosines and
    sines of the token. -/
def turnB (x : Fin 128 → EReal) (c s : Fin 32 → EReal) (j : Fin 128) : EReal :=
  x j * c ⟨j.val % 32, by omega⟩
    + (if h : j.val % 32 / 8 % 2 = 0 then -x ⟨j.val + 8, by omega⟩ else x ⟨j.val - 8, by omega⟩) * s ⟨j.val % 32, by omega⟩

/-- The rotation written as two shifts of the whole row, each masked by its table of sines. -/
theorem turnB_eq (x : Fin 128 → EReal) (c s : Fin 32 → EReal) (j : Fin 128) :
    x j * c ⟨j.val % 32, by omega⟩
      + x ⟨(j.val + 128 - 120) % 128, by omega⟩ * (if j.val % 32 / 8 % 2 = 0 then -s ⟨j.val % 32, by omega⟩ else 0)
      + x ⟨(j.val + 128 - 8) % 128, by omega⟩ * (if j.val % 32 / 8 % 2 = 0 then 0 else s ⟨j.val % 32, by omega⟩)
      = turnB x c s j := by
  unfold turnB
  by_cases h : j.val % 32 / 8 % 2 = 0
  · have e : (⟨(j.val + 128 - 120) % 128, by omega⟩ : Fin 128) = ⟨j.val + 8, by omega⟩ := Fin.ext (by dsimp only; omega)
    rw [if_pos h, if_pos h, dif_pos h, mul_zero, add_zero, e, mul_neg, EReal.neg_mul]
  · have e : (⟨(j.val + 128 - 8) % 128, by omega⟩ : Fin 128) = ⟨j.val - 8, by omega⟩ := Fin.ext (by dsimp only; omega)
    rw [if_neg h, if_neg h, dif_neg h, mul_zero, add_zero, e]

end Cert.Rows
-- ==== Proof.RopePay.lean ====
module

public import proofs.«01_k».proof.Proof.Gen.Kernel9Ideal.Frame
public import proofs.«01_k».proof.Proof.RopeRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel9Ideal.Value
open Cert.Kernel9Ideal Cert.Kernel9Ideal.Gen

/-- The named constant is `1/192`. -/
theorem inv_rank : Named.named (F := Ideal) κ "inv_rank" (φ := .f32) 0x3BAAAAAB#32 = ((1 / 192 : ℝ) : EReal) :=
  IdealRules.named_const.ideal_named_scalar _ _ _ _ rfl

section Payloads
variable (P0 : FVec Ideal S512x1024 .f32) (P1 : FVec Ideal S1x1x6144 .f32) (P2 : FVec Ideal S1x1024 .f32)
  (P3 : FVec Ideal S1024x2688 .bf16) (P4 : FVec Ideal S1x256 .f32) (P5 : FVec Ideal S256x384 .bf16)
  (P6 : FVec Ideal S1x128 .f32) (P7 : FVec Ideal S128x512 .bf16)

/-- The block's packed projection. -/
theorem pay_proj (w : Fin 1024 → Fin 6256 → EReal) (r : Fin 512) (j : Fin 2688)
    (hw : ∀ k j, P3 (ix2 k j) = Rows.packed (w k) j) :
    k0_pay2 (F := Ideal) P0 P1 P2 P3 (ix2 r j)
      = Rows.packed (Rows.proj (fun k => P0 (ix2 r k)) (fun k => P2 (ix2 0 k))
          (fun k => P1 (ix3 0 0 ⟨1024 + k.val, by omega⟩)) (fun k => P1 (ix3 0 0 ⟨k.val, by omega⟩)) w) j := by
  refine Eq.trans ?_ (Rows.packed_sum _ _ _)
  pointwise [k0_pay2, hw, Rows.modulated, Rows.rms, Rows.lit_inv1024]

/-- The block's queries, from its packed projection. -/
theorem pay_queries (p : Fin 6256 → EReal) (g : Fin 192 → EReal) (w : Fin 192 → Fin 384 → EReal) (r : Fin 512) (j : Fin 384)
    (hp : ∀ j, k0_pay2 (F := Ideal) P0 P1 P2 P3 (ix2 r j) = Rows.packed p j)
    (hg : ∀ k : Fin 256, P4 (ix2 0 k) = if h : k.val < 192 then g ⟨k.val, h⟩ else 0)
    (hw : ∀ (k : Fin 256) (j : Fin 384), P5 (ix2 k j) = if h : k.val < 192 then w ⟨k.val, h⟩ (Rows.qcol j) else 0) :
    k0_pay6 (F := Ideal) (k0_pay3 P0 P1 P2 P3) (k0_pay4 P4) (k0_pay5 P0 P1 P2 P3) P5 (ix2 r j) = Rows.queries p g w j := by
  have hn := inv_rank
  refine Eq.trans ?_ (Rows.queries_eq (fun k => k0_pay2 (F := Ideal) P0 P1 P2 P3 (ix2 r ⟨768 + k.val, by omega⟩)) (fun k => P4 (ix2 0 k))
    (fun k => P5 (ix2 k j)) p g w j (fun k => hp _) hg (fun k => hw k j))
  generalize e : k0_pay2 (F := Ideal) P0 P1 P2 P3 = Q
  pointwise [k0_pay6, k0_pay3, k0_pay4, k0_pay5, e, hn]

/-- The block's compressed keys and values, from its packed projection. -/
theorem pay_ckv (Q : FVec Ideal S512x2688 .f32) (p : Fin 6256 → EReal) (r : Fin 512) (i : Fin 128)
    (hp : ∀ j, Q (ix2 r j) = Rows.packed p j) :
    k0_pay7 (F := Ideal) Q P6 (ix2 r i) = Rows.ckv p (fun k => P6 (ix2 0 k)) i := by
  have hq : ∀ k : Fin 128, Q (ix2 r ⟨1024 + k.val, by omega⟩) = p ⟨704 + k.val, by omega⟩ := fun k =>
    (hp _).trans (Rows.packed_ckv _ _)
  pointwise [k0_pay7, hq, Rows.ckv, Rows.lit_inv128]

/-- The block's keys and values, from its packed projection. -/
theorem pay_kv (Q : FVec Ideal S512x2688 .f32) (p : Fin 6256 → EReal) (w : Fin 128 → Fin 512 → EReal) (r : Fin 512) (j : Fin 512)
    (hp : ∀ j, Q (ix2 r j) = Rows.packed p j) (hw : ∀ k j, P7 (ix2 k j) = w k (Rows.kvcol j)) :
    k0_pay8 (F := Ideal) Q P6 P7 (ix2 r j) = Rows.keysValues p (fun k => P6 (ix2 0 k)) w j := by
  have hc := fun i => pay_ckv P6 Q p r i hp
  pointwise [k0_pay8, hc, hw, Rows.keysValues]

/-- The block's rotated queries of the windowed attention. -/
theorem pay_turnQ (Q : FVec Ideal S512x2688 .f32) (C N V : FVec Ideal S512x256 .f32) (c s : Fin 64 → EReal) (x : Fin 256 → EReal)
    (r : Fin 512) (j : Fin 256) (hx : ∀ l : Fin 256, Q (ix2 r ⟨l.val, by omega⟩) = x l)
    (hc : ∀ l : Fin 256, C (ix2 r l) = c ⟨l.val % 64, by omega⟩)
    (hn : ∀ l : Fin 256, N (ix2 r l) = if l.val % 64 / 16 % 2 = 0 then -s ⟨l.val % 64, by omega⟩ else 0)
    (hv : ∀ l : Fin 256, V (ix2 r l) = if l.val % 64 / 16 % 2 = 0 then 0 else s ⟨l.val % 64, by omega⟩) :
    k0_pay15 (F := Ideal) Q (k0_pay9 C) N V (ix2 r j) = Rows.turnA x c s j := by
  rw [← Rows.turnA_eq, ← hn j, ← hv j, ← hc j, ← hx, ← hx, ← hx]
  pointwise [k0_pay15, k0_pay9, k0_pay10, k0_pay11]

/-- The block's rotated keys of the windowed attention. -/
theorem pay_turnK (Q : FVec Ideal S512x2688 .f32) (C N V : FVec Ideal S512x256 .f32) (c s : Fin 64 → EReal) (x : Fin 256 → EReal)
    (r : Fin 512) (j : Fin 256) (hx : ∀ l : Fin 256, Q (ix2 r ⟨256 + l.val, by omega⟩) = x l)
    (hc : ∀ l : Fin 256, C (ix2 r l) = c ⟨l.val % 64, by omega⟩)
    (hn : ∀ l : Fin 256, N (ix2 r l) = if l.val % 64 / 16 % 2 = 0 then -s ⟨l.val % 64, by omega⟩ else 0)
    (hv : ∀ l : Fin 256, V (ix2 r l) = if l.val % 64 / 16 % 2 = 0 then 0 else s ⟨l.val % 64, by omega⟩) :
    k0_pay16 (F := Ideal) Q (k0_pay9 C) N V (ix2 r j) = Rows.turnA x c s j := by
  rw [← Rows.turnA_eq, ← hn j, ← hv j, ← hc j, ← hx, ← hx, ← hx]
  pointwise [k0_pay16, k0_pay9, k0_pay10, k0_pay11]

/-- The block's rotated queries of the latent attention. -/
theorem pay_turnP (Q : FVec Ideal S512x384 .f32) (C N V : FVec Ideal S512x128 .f32) (c s : Fin 32 → EReal) (x : Fin 128 → EReal)
    (r : Fin 512) (j : Fin 128) (hx : ∀ l : Fin 128, Q (ix2 r ⟨256 + l.val, by omega⟩) = x l)
    (hc : ∀ l : Fin 128, C (ix2 r l) = c ⟨l.val % 32, by omega⟩)
    (hn : ∀ l : Fin 128, N (ix2 r l) = if l.val % 32 / 8 % 2 = 0 then -s ⟨l.val % 32, by omega⟩ else 0)
    (hv : ∀ l : Fin 128, V (ix2 r l) = if l.val % 32 / 8 % 2 = 0 then 0 else s ⟨l.val % 32, by omega⟩) :
    k0_pay17 (F := Ideal) Q C N V (ix2 r j) = Rows.turnB x c s j := by
  rw [← Rows.turnB_eq, ← hn j, ← hv j, ← hc j, ← hx, ← hx, ← hx]
  pointwise [k0_pay17, k0_pay12, k0_pay13, k0_pay14]

/-- The block's rotated keys of the latent attention. -/
theorem pay_turnR (Q : FVec Ideal S512x2688 .f32) (C N V : FVec Ideal S512x128 .f32) (c s : Fin 32 → EReal) (x : Fin 128 → EReal)
    (r : Fin 512) (j : Fin 128) (hx : ∀ l : Fin 128, Q (ix2 r ⟨1152 + l.val, by omega⟩) = x l)
    (hc : ∀ l : Fin 128, C (ix2 r l) = c ⟨l.val % 32, by omega⟩)
    (hn : ∀ l : Fin 128, N (ix2 r l) = if l.val % 32 / 8 % 2 = 0 then -s ⟨l.val % 32, by omega⟩ else 0)
    (hv : ∀ l : Fin 128, V (ix2 r l) = if l.val % 32 / 8 % 2 = 0 then 0 else s ⟨l.val % 32, by omega⟩) :
    k0_pay1 (F := Ideal) Q (k0_pay12 C) (k0_pay13 N) (k0_pay14 V) (ix2 r j) = Rows.turnB x c s j := by
  rw [← Rows.turnB_eq, ← hn j, ← hv j, ← hc j, ← hx, ← hx, ← hx]
  pointwise [k0_pay1, k0_pay12, k0_pay13, k0_pay14]

end Payloads

end Cert.Kernel9Ideal.Value

end
-- ==== Proof.RopeLow.lean ====
module

public import proofs.«01_k».proof.Proof.Gen.Kernel9Ideal.Frame
public import proofs.«01_k».proof.Proof.InprojPack
public import proofs.«01_k».proof.Proof.InprojLow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! The weights and gains as the host lines of the sample rows' call pack them: as those of the context rows' call. -/

namespace Cert.Kernel9Ideal.Value
open Cert.Kernel9Ideal Cert.Kernel9Ideal.Gen

variable (m : (ℓ : Loc nD τ sig) → Buf (Elt Ideal) ℓ)

/-- The packed weight is what the host lines leave in the window's array. -/
theorem weight (c : Dev nD) : V m c main_v21 = Cert.Kernel4Ideal.Value.pack (m ((c : Thread nD τ).loc main_arg3)) := by
  unfold Cert.Kernel4Ideal.Value.pack Cert.Kernel4Ideal.Value.pack1 Cert.Kernel4Ideal.Value.pack2
  after_results_simp
  try dsimp only [Matrix.cons_val]
  try after_results_simp
  rfl

/-- The window's array of the query weight is the packed weight. -/
theorem weightQ (c : Dev nD) : V m c main_v30 = Cert.Kernel4Ideal.Value.packQ (m ((c : Thread nD τ).loc main_arg5)) := by
  unfold Cert.Kernel4Ideal.Value.packQ
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The window's array of the key and value weight is the packed weight. -/
theorem weightKV (c : Dev nD) : V m c main_v37 = Cert.Kernel4Ideal.Value.packKV (m ((c : Thread nD τ).loc main_arg7)) := by
  unfold Cert.Kernel4Ideal.Value.packKV
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The window's array of the queries' gain is the padded gain. -/
theorem gain (c : Dev nD) : V m c main_v39 = Cert.Kernel4Ideal.Value.packG (m ((c : Thread nD τ).loc main_arg4)) := by
  unfold Cert.Kernel4Ideal.Value.packG
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The window's array of the input's gain. -/
theorem gain1 (c : Dev nD) (k : Fin 1024) :
    (V m c main_v132 : FVec Ideal S1x1024 .f32) (ix2 0 k) = (m ((c : Thread nD τ).loc main_arg2) : FVec Ideal S1024 .f32) (ix1 k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  pointwise

/-- The window's array of the keys' gain. -/
theorem gain2 (c : Dev nD) (k : Fin 128) :
    (V m c main_v133 : FVec Ideal S1x128 .f32) (ix2 0 k) = (m ((c : Thread nD τ).loc main_arg6) : FVec Ideal S128 .f32) (ix1 k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  pointwise

end Cert.Kernel9Ideal.Value

end
-- ==== Proof.RopeKer.lean ====
module

public import proofs.«01_k».proof.Proof.RopePay
public import proofs.«01_k».proof.Proof.RopeLow

@[expose] public section

set_option maxRecDepth 16384

noncomputable section

open Idealize.ShloMosaic Idealize.ShloMosaic.TcCoe Idealize.SL.Sem

namespace Cert.Kernel9Ideal.Value
open Cert.Kernel9Ideal Cert.Kernel9Ideal.Gen

/-- The block indices of the pipelined windows. -/
theorem idx : ∀ t : Fin cfg0.N, win0_0.index t = ![t.val, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val % 8, 0]
    ∧ win0_9.index t = ![t.val % 8, 0] ∧ win0_10.index t = ![t.val % 8, 0] ∧ win0_11.index t = ![t.val % 8, 0]
    ∧ win0_12.index t = ![t.val % 8, 0] ∧ win0_13.index t = ![t.val % 8, 0] ∧ win0_14.index t = ![t.val, 0]
    ∧ win0_15.index t = ![t.val, 0] ∧ win0_16.index t = ![t.val, 0] ∧ win0_17.index t = ![t.val, 0]
    ∧ win0_18.index t = ![t.val, 0] ∧ win0_19.index t = ![t.val, 0] ∧ win0_20.index t = ![t.val, 0]
    ∧ win0_21.index t = ![t.val, 0] :=
  (by decide +kernel : ∀ t : Fin grid0.N, _)

/-- Row `r` of block `t`, among the array's rows. -/
def row (t : Fin cfg0.N) (r : Fin 512) : Fin 8192 :=
  ⟨t.val * 512 + r.val, by have := t.isLt; have e : cfg0.N = 16 := rfl; omega⟩

/-- The sequence of row `r` of block `t`. -/
theorem seq_row (t : Fin cfg0.N) (r : Fin 512) : (⟨(row t r).val / 4096, by omega⟩ : Fin 2)
    = ⟨t.val / 8, by have := t.isLt; have e : cfg0.N = 16 := rfl; omega⟩ := Fin.ext (by unfold row; dsimp only; omega)

/-- The token of row `r`, among its sequence's. -/
def token (r : Fin 8192) : Fin 4096 := ⟨r.val % 4096, by omega⟩

/-- The token of row `r` of block `t`. -/
theorem token_row (t : Fin cfg0.N) (r : Fin 512) : token (row t r) = ⟨t.val % 8 * 512 + r.val, by omega⟩ :=
  Fin.ext (by unfold token row; dsimp only; omega)

variable (m : (ℓ : Loc nD τ sig) → Buf (Elt Ideal) ℓ)

/-- The projection of row `r` of the arrays, before packing. -/
def prow (x : FVec Ideal S8192x1024 .f32) (md : FVec Ideal S2x1x6144 .f32) (g : FVec Ideal S1024 .f32)
    (w : FVec Ideal S1024x6256 .f32) (r : Fin 8192) : Fin 6256 → EReal :=
  Rows.proj (fun k => x (ix2 r k)) (fun k => g (ix1 k)) (fun k => md (ix3 ⟨r.val / 4096, by omega⟩ 0 ⟨1024 + k.val, by omega⟩))
    (fun k => md (ix3 ⟨r.val / 4096, by omega⟩ 0 ⟨k.val, by omega⟩)) (fun k n => w (ix2 k n))

/-- The packed projection of the arrays. -/
def packedRows (x : FVec Ideal S8192x1024 .f32) (md : FVec Ideal S2x1x6144 .f32) (g : FVec Ideal S1024 .f32)
    (w : FVec Ideal S1024x6256 .f32) : FVec Ideal S8192x2688 .f32 := fun i => Rows.packed (prow x md g w (i 0)) (i 1)

/-- The queries of the arrays. -/
def queryRows (x : FVec Ideal S8192x1024 .f32) (md : FVec Ideal S2x1x6144 .f32) (g : FVec Ideal S1024 .f32)
    (w : FVec Ideal S1024x6256 .f32) (gq : FVec Ideal S192 .f32) (wq : FVec Ideal S192x384 .f32) : FVec Ideal S8192x384 .f32 := fun i =>
  Rows.queries (prow x md g w (i 0)) (fun k => gq (ix1 k)) (fun k j => wq (ix2 k j)) (i 1)

/-- The compressed keys and values of the arrays. -/
def ckvRows (x : FVec Ideal S8192x1024 .f32) (md : FVec Ideal S2x1x6144 .f32) (g : FVec Ideal S1024 .f32)
    (w : FVec Ideal S1024x6256 .f32) (gk : FVec Ideal S128 .f32) : FVec Ideal S8192x128 .f32 := fun i =>
  Rows.ckv (prow x md g w (i 0)) (fun k => gk (ix1 k)) (i 1)

/-- The keys and values of the arrays. -/
def kvRows (x : FVec Ideal S8192x1024 .f32) (md : FVec Ideal S2x1x6144 .f32) (g : FVec Ideal S1024 .f32)
    (w : FVec Ideal S1024x6256 .f32) (gk : FVec Ideal S128 .f32) (wk : FVec Ideal S128x512 .f32) : FVec Ideal S8192x512 .f32 := fun i =>
  Rows.keysValues (prow x md g w (i 0)) (fun k => gk (ix1 k)) (fun k j => wk (ix2 k j)) (i 1)

section Blocks
variable (c : Dev nD) (t : Fin cfg0.N)

theorem blk0 (r : Fin 512) (k : Fin 1024) : (iblk m c 0 t : FVec Ideal S512x1024 .f32) (ix2 r k)
    = (m ((c : Thread nD τ).loc main_arg0) : FVec Ideal S8192x1024 .f32) (ix2 (row t r) k) := by
  have e := V_main_arg0 m c
  blk_point [iblk, e, idx t, row]

theorem blk1 (r : Fin 512) (n : Fin 6144) : (iblk m c 1 t : FVec Ideal S1x1x6144 .f32) (ix3 0 0 n)
    = (m ((c : Thread nD τ).loc main_arg1) : FVec Ideal S2x1x6144 .f32) (ix3 ⟨(row t r).val / 4096, by omega⟩ 0 n) := by
  have e := V_main_arg1 m c
  rw [seq_row]
  blk_point [iblk, e, idx t]

theorem blk2 (k : Fin 1024) : (iblk m c 2 t : FVec Ideal S1x1024 .f32) (ix2 0 k)
    = (m ((c : Thread nD τ).loc main_arg2) : FVec Ideal S1024 .f32) (ix1 k) := by
  refine Eq.trans ?_ (gain1 m c k)
  blk_point [iblk, idx t]

theorem blk3 (k : Fin 1024) (j : Fin 2688) : (iblk m c 3 t : FVec Ideal S1024x2688 .bf16) (ix2 k j)
    = Rows.packed (fun n => (m ((c : Thread nD τ).loc main_arg3) : FVec Ideal S1024x6256 .f32) (ix2 k n)) j := by
  refine Eq.trans ?_ (Cert.Kernel4Ideal.Value.pack_at _ k j)
  rw [← weight m c]
  blk_point [iblk, idx t]

theorem blk4 (k : Fin 256) : (iblk m c 4 t : FVec Ideal S1x256 .f32) (ix2 0 k)
    = if h : k.val < 192 then (m ((c : Thread nD τ).loc main_arg4) : FVec Ideal S192 .f32) (ix1 ⟨k.val, h⟩) else (0 : EReal) := by
  refine Eq.trans ?_ (Cert.Kernel4Ideal.Value.packG_at _ k)
  rw [← gain m c]
  blk_point [iblk, idx t]

theorem blk5 (k : Fin 256) (j : Fin 384) : (iblk m c 5 t : FVec Ideal S256x384 .bf16) (ix2 k j)
    = if h : k.val < 192 then (m ((c : Thread nD τ).loc main_arg5) : FVec Ideal S192x384 .f32) (ix2 ⟨k.val, h⟩ (Rows.qcol j)) else (0 : EReal) := by
  refine Eq.trans ?_ (Cert.Kernel4Ideal.Value.packQ_at _ k j)
  rw [← weightQ m c]
  blk_point [iblk, idx t]

theorem blk6 (k : Fin 128) : (iblk m c 6 t : FVec Ideal S1x128 .f32) (ix2 0 k)
    = (m ((c : Thread nD τ).loc main_arg6) : FVec Ideal S128 .f32) (ix1 k) := by
  refine Eq.trans ?_ (gain2 m c k)
  blk_point [iblk, idx t]

theorem blk7 (k : Fin 128) (j : Fin 512) : (iblk m c 7 t : FVec Ideal S128x512 .bf16) (ix2 k j)
    = (m ((c : Thread nD τ).loc main_arg7) : FVec Ideal S128x512 .f32) (ix2 k (Rows.kvcol j)) := by
  refine Eq.trans ?_ (Cert.Kernel4Ideal.Value.packKV_at _ k j)
  rw [← weightKV m c]
  blk_point [iblk, idx t]

/-- The block's packed projection is the arrays'. -/
theorem proj_blk (r : Fin 512) (j : Fin 2688) :
    k0_pay2 (F := Ideal) (iblk m c 0 t) (iblk m c 1 t) (iblk m c 2 t) (iblk m c 3 t) (ix2 r j)
      = Rows.packed (prow (m ((c : Thread nD τ).loc main_arg0)) (m ((c : Thread nD τ).loc main_arg1))
          (m ((c : Thread nD τ).loc main_arg2)) (m ((c : Thread nD τ).loc main_arg3)) (row t r)) j := by
  refine (pay_proj _ _ _ _ _ r j (blk3 m c t)).trans ?_
  have h0 := fun k => blk0 m c t r k
  have h1 := blk1 m c t r
  have h2 := blk2 m c t
  simp only [h0, h1, h2]
  rfl

end Blocks

/-- The packed projection that the later outputs share. -/
theorem shared (x0 : FVec Ideal S512x1024 .f32) (x1 : FVec Ideal S1x1x6144 .f32) (x2 : FVec Ideal S1x1024 .f32)
    (x3 : FVec Ideal S1024x2688 .bf16) (x4 : FVec Ideal S1x256 .f32) (x5 : FVec Ideal S256x384 .bf16)
    (x6 : FVec Ideal S1x128 .f32) (x7 : FVec Ideal S128x512 .bf16) (x8 x9 x10 : FVec Ideal S512x256 .f32)
    (x11 x12 x13 : FVec Ideal S512x128 .f32) :
    k0_pay18 (F := Ideal) x0 x1 x2 x3 x4 x5 x6 x7 x8 x9 x10 x11 x12 x13 = k0_pay2 x0 x1 x2 x3 := by
  unfold k0_pay18
  simp (disch := decide) only [View.ld_unit_lit']

/-- Its compressed queries. -/
theorem sharedQ (x0 : FVec Ideal S512x1024 .f32) (x1 : FVec Ideal S1x1x6144 .f32) (x2 : FVec Ideal S1x1024 .f32)
    (x3 : FVec Ideal S1024x2688 .bf16) (x4 : FVec Ideal S1x256 .f32) (x5 : FVec Ideal S256x384 .bf16)
    (x6 : FVec Ideal S1x128 .f32) (x7 : FVec Ideal S128x512 .bf16) (x8 x9 x10 : FVec Ideal S512x256 .f32)
    (x11 x12 x13 : FVec Ideal S512x128 .f32) :
    k0_pay19 (F := Ideal) x0 x1 x2 x3 x4 x5 x6 x7 x8 x9 x10 x11 x12 x13 = k0_pay3 x0 x1 x2 x3 := by
  unfold k0_pay19
  simp (disch := decide) only [View.ld_unit_lit']

/-- The queries' gain. -/
theorem sharedG (x0 : FVec Ideal S512x1024 .f32) (x1 : FVec Ideal S1x1x6144 .f32) (x2 : FVec Ideal S1x1024 .f32)
    (x3 : FVec Ideal S1024x2688 .bf16) (x4 : FVec Ideal S1x256 .f32) (x5 : FVec Ideal S256x384 .bf16)
    (x6 : FVec Ideal S1x128 .f32) (x7 : FVec Ideal S128x512 .bf16) (x8 x9 x10 : FVec Ideal S512x256 .f32)
    (x11 x12 x13 : FVec Ideal S512x128 .f32) :
    k0_pay20 (F := Ideal) x0 x1 x2 x3 x4 x5 x6 x7 x8 x9 x10 x11 x12 x13 = k0_pay4 x4 := by
  unfold k0_pay20
  simp (disch := decide) only [View.ld_unit_lit']

/-- The compressed queries' mean square. -/
theorem sharedM (x0 : FVec Ideal S512x1024 .f32) (x1 : FVec Ideal S1x1x6144 .f32) (x2 : FVec Ideal S1x1024 .f32)
    (x3 : FVec Ideal S1024x2688 .bf16) (x4 : FVec Ideal S1x256 .f32) (x5 : FVec Ideal S256x384 .bf16)
    (x6 : FVec Ideal S1x128 .f32) (x7 : FVec Ideal S128x512 .bf16) (x8 x9 x10 : FVec Ideal S512x256 .f32)
    (x11 x12 x13 : FVec Ideal S512x128 .f32) :
    k0_pay21 (F := Ideal) x0 x1 x2 x3 x4 x5 x6 x7 x8 x9 x10 x11 x12 x13 = k0_pay5 x0 x1 x2 x3 := by
  unfold k0_pay21
  simp (disch := decide) only [View.ld_unit_lit']

/-- The cosines. -/
theorem sharedC (x0 : FVec Ideal S512x1024 .f32) (x1 : FVec Ideal S1x1x6144 .f32) (x2 : FVec Ideal S1x1024 .f32)
    (x3 : FVec Ideal S1024x2688 .bf16) (x4 : FVec Ideal S1x256 .f32) (x5 : FVec Ideal S256x384 .bf16)
    (x6 : FVec Ideal S1x128 .f32) (x7 : FVec Ideal S128x512 .bf16) (x8 x9 x10 : FVec Ideal S512x256 .f32)
    (x11 x12 x13 : FVec Ideal S512x128 .f32) :
    k0_pay22 (F := Ideal) x0 x1 x2 x3 x4 x5 x6 x7 x8 x9 x10 x11 x12 x13 = k0_pay9 x8 := by
  unfold k0_pay22
  simp (disch := decide) only [View.ld_unit_lit']

/-- Block `t` of the packed projection. -/
theorem point14 (c : Dev nD) (t : Fin cfg0.N) (y : S512x2688.Idx) :
    k0_pay2 (F := Ideal) (iblk m c 0 t) (iblk m c 1 t) (iblk m c 2 t) (iblk m c 3 t) y
      = packedRows (m ((c : Thread nD τ).loc main_arg0)) (m ((c : Thread nD τ).loc main_arg1))
      (m ((c : Thread nD τ).loc main_arg2)) (m ((c : Thread nD τ).loc main_arg3)) (ix2 (row t (y 0)) (y 1)) := by
  rw [eq_ix2 y]
  exact proj_blk m c t (y 0) (y 1)

/-- Where block `t` of the packed projection lies. -/
theorem emb14 (t : Fin cfg0.N) (y : S512x2688.Idx) :
    (((cfg0.win 14).blk t).view.emb y : S8192x2688.Idx) = ix2 (row t (y 0)) (y 1) := by
  funext a
  match a with
  | ⟨0, _⟩ => exact Fin.ext (by blk_simp [idx t, row]; rfl)
  | ⟨1, _⟩ => exact Fin.ext (by blk_simp [idx t]; rfl)

/-- The packed projection's array after the run. -/
theorem final14 (c : Dev nD) : (dats m 0 c).arrAt 14 (cfgs 0).N
    = packedRows (m ((c : Thread nD τ).loc main_arg0)) (m ((c : Thread nD τ).loc main_arg1))
      (m ((c : Thread nD τ).loc main_arg2)) (m ((c : Thread nD τ).loc main_arg3)) := by
  refine (dats m 0 c).arrAt_eq_of_covers 14 _ (by decide +kernel) fun t _ y => ?_
  have h := (point14 m c t y).trans (congrArg (packedRows (m ((c : Thread nD τ).loc main_arg0)) (m ((c : Thread nD τ).loc main_arg1))
      (m ((c : Thread nD τ).loc main_arg2)) (m ((c : Thread nD τ).loc main_arg3))) (emb14 t y).symm)
  blk_simp; rw [after0_14]; frame_out
  exact h

/-- Block `t` of the queries. -/
theorem point15 (c : Dev nD) (t : Fin cfg0.N) (y : S512x384.Idx) :
    k0_pay6 (F := Ideal) (k0_pay3 (iblk m c 0 t) (iblk m c 1 t) (iblk m c 2 t) (iblk m c 3 t))
      (k0_pay4 (iblk m c 4 t)) (k0_pay5 (iblk m c 0 t) (iblk m c 1 t) (iblk m c 2 t) (iblk m c 3 t)) (iblk m c 5 t) y
      = queryRows (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (ix2 (row t (y 0)) (y 1)) := by
  rw [eq_ix2 y]
  exact pay_queries _ _ _ _ _ _ _ _ _ _ _ (fun j => proj_blk m c t (y 0) j) (blk4 m c t) (blk5 m c t)

/-- Where block `t` of the queries lies. -/
theorem emb15 (t : Fin cfg0.N) (y : S512x384.Idx) :
    (((cfg0.win 15).blk t).view.emb y : S8192x384.Idx) = ix2 (row t (y 0)) (y 1) := by
  funext a
  match a with
  | ⟨0, _⟩ => exact Fin.ext (by blk_simp [idx t, row]; rfl)
  | ⟨1, _⟩ => exact Fin.ext (by blk_simp [idx t]; rfl)

/-- The queries' array after the run. -/
theorem final15 (c : Dev nD) : (dats m 0 c).arrAt 15 (cfgs 0).N
    = queryRows (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 15 _ (by decide +kernel) fun t _ y => ?_
  have h := (point15 m c t y).trans (congrArg (queryRows (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))) (emb15 t y).symm)
  blk_simp; rw [after0_15]; frame_out
  rw [sharedQ, sharedG, sharedM]
  exact h

/-- Block `t` of the compressed keys and values. -/
theorem point16 (c : Dev nD) (t : Fin cfg0.N) (y : S512x128.Idx) :
    k0_pay7 (F := Ideal) (k0_pay2 (F := Ideal) (iblk m c 0 t) (iblk m c 1 t) (iblk m c 2 t) (iblk m c 3 t)) (iblk m c 6 t) y
      = ckvRows (m ((c : Thread nD τ).loc main_arg0)) (m ((c : Thread nD τ).loc main_arg1))
      (m ((c : Thread nD τ).loc main_arg2)) (m ((c : Thread nD τ).loc main_arg3))
      (m ((c : Thread nD τ).loc main_arg6)) (ix2 (row t (y 0)) (y 1)) := by
  rw [eq_ix2 y]
  have h6 := blk6 m c t
  refine (pay_ckv _ _ _ _ _ (fun j => proj_blk m c t (y 0) j)).trans ?_
  simp only [h6]
  rfl

/-- Where block `t` of the compressed keys and values lies. -/
theorem emb16 (t : Fin cfg0.N) (y : S512x128.Idx) :
    (((cfg0.win 16).blk t).view.emb y : S8192x128.Idx) = ix2 (row t (y 0)) (y 1) := by
  funext a
  match a with
  | ⟨0, _⟩ => exact Fin.ext (by blk_simp [idx t, row]; rfl)
  | ⟨1, _⟩ => exact Fin.ext (by blk_simp [idx t]; rfl)

/-- The compressed keys' and values' array after the run. -/
theorem final16 (c : Dev nD) : (dats m 0 c).arrAt 16 (cfgs 0).N
    = ckvRows (m ((c : Thread nD τ).loc main_arg0)) (m ((c : Thread nD τ).loc main_arg1))
      (m ((c : Thread nD τ).loc main_arg2)) (m ((c : Thread nD τ).loc main_arg3))
      (m ((c : Thread nD τ).loc main_arg6)) := by
  refine (dats m 0 c).arrAt_eq_of_covers 16 _ (by decide +kernel) fun t _ y => ?_
  have h := (point16 m c t y).trans (congrArg (ckvRows (m ((c : Thread nD τ).loc main_arg0)) (m ((c : Thread nD τ).loc main_arg1))
      (m ((c : Thread nD τ).loc main_arg2)) (m ((c : Thread nD τ).loc main_arg3))
      (m ((c : Thread nD τ).loc main_arg6))) (emb16 t y).symm)
  blk_simp; rw [after0_16]; frame_out
  rw [shared]
  exact h

/-- Block `t` of the keys and values. -/
theorem point17 (c : Dev nD) (t : Fin cfg0.N) (y : S512x512.Idx) :
    k0_pay8 (F := Ideal) (k0_pay2 (F := Ideal) (iblk m c 0 t) (iblk m c 1 t) (iblk m c 2 t) (iblk m c 3 t)) (iblk m c 6 t) (iblk m c 7 t) y
      = kvRows (m ((c : Thread nD τ).loc main_arg0)) (m ((c : Thread nD τ).loc main_arg1))
      (m ((c : Thread nD τ).loc main_arg2)) (m ((c : Thread nD τ).loc main_arg3))
      (m ((c : Thread nD τ).loc main_arg6)) (m ((c : Thread nD τ).loc main_arg7)) (ix2 (row t (y 0)) (y 1)) := by
  rw [eq_ix2 y]
  have h6 := blk6 m c t
  refine (pay_kv _ _ _ _ (fun k j => (m ((c : Thread nD τ).loc main_arg7) : FVec Ideal S128x512 .f32) (ix2 k (j))) _ _
    (fun j => proj_blk m c t (y 0) j) (blk7 m c t)).trans ?_
  simp only [h6]
  rfl

/-- Where block `t` of the keys and values lies. -/
theorem emb17 (t : Fin cfg0.N) (y : S512x512.Idx) :
    (((cfg0.win 17).blk t).view.emb y : S8192x512.Idx) = ix2 (row t (y 0)) (y 1) := by
  funext a
  match a with
  | ⟨0, _⟩ => exact Fin.ext (by blk_simp [idx t, row]; rfl)
  | ⟨1, _⟩ => exact Fin.ext (by blk_simp [idx t]; rfl)

/-- The keys' and values' array after the run. -/
theorem final17 (c : Dev nD) : (dats m 0 c).arrAt 17 (cfgs 0).N
    = kvRows (m ((c : Thread nD τ).loc main_arg0)) (m ((c : Thread nD τ).loc main_arg1))
      (m ((c : Thread nD τ).loc main_arg2)) (m ((c : Thread nD τ).loc main_arg3))
      (m ((c : Thread nD τ).loc main_arg6)) (m ((c : Thread nD τ).loc main_arg7)) := by
  refine (dats m 0 c).arrAt_eq_of_covers 17 _ (by decide +kernel) fun t _ y => ?_
  have h := (point17 m c t y).trans (congrArg (kvRows (m ((c : Thread nD τ).loc main_arg0)) (m ((c : Thread nD τ).loc main_arg1))
      (m ((c : Thread nD τ).loc main_arg2)) (m ((c : Thread nD τ).loc main_arg3))
      (m ((c : Thread nD τ).loc main_arg6)) (m ((c : Thread nD τ).loc main_arg7))) (emb17 t y).symm)
  blk_simp; rw [after0_17]; frame_out
  rw [shared]
  exact h

end Cert.Kernel9Ideal.Value

end
-- ==== Proof.RopeMask.lean ====
module

public import proofs.«01_k».proof.Proof.Gen.Kernel9Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! The mask of the even quarters of a head, in whole numbers of 32 bits. -/

namespace Cert.Kernel9Ideal.Value
open Cert.Kernel9Ideal Cert.Kernel9Ideal.Gen

variable (m : (ℓ : Loc nD τ sig) → Buf (Elt Ideal) ℓ)

/-- Division, rounded down. -/
def floorDiv {s : Shape} (x y : IVec s 32) : IVec s 32 :=
  select (andi (cmpi .ne (signi x) (signi y)) (cmpi .ne (Host.remsi x y) (fun _ => 0#32))) (subi (Host.divsi x y) (fun _ => 1#32)) (Host.divsi x y)

/-- A divisor, one where it is zero. -/
def divisor {s : Shape} (y : IVec s 32) : IVec s 32 := select (cmpi .eq y (fun _ => 0#32)) (fun _ => 1#32) y

/-- The remainder, of the divisor's sign. -/
def remainder {s : Shape} (x y : IVec s 32) : IVec s 32 :=
  select (andi (cmpi .ne (cmpi .slt (Host.remsi x y) (fun _ => 0#32)) (cmpi .slt y (fun _ => 0#32))) (cmpi .ne (Host.remsi x y) (fun _ => 0#32)))
    (addi (Host.remsi x y) y) (Host.remsi x y)

/-- Where the quarters of `q` entries are even. -/
def evenQuarter {s : Shape} (x : IVec s 32) (q : BitVec 32) : IVec s 1 :=
  cmpi .eq (remainder (floorDiv x (fun _ => q)) (divisor (fun _ => 2#32))) (fun _ => 0#32)

theorem evenA : ∀ l : Fin 64, evenQuarter (iotaInDim (⟨1, ![64]⟩ : Shape) 32 0) 16#32 (ix1 l) = if l.val / 16 % 2 = 0 then 1#1 else 0#1 := by
  decide +kernel

theorem maskA_eq (c : Dev nD) : V m c main_v72 = evenQuarter (iotaInDim S64 32 0) 16#32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  unfold evenQuarter remainder floorDiv divisor
  simp only [StableHlo.TRef.ofBuf_toBuf]
  rfl

/-- The mask of the even quarters of a head. -/
theorem maskA (c : Dev nD) (l : Fin 64) :
    (V m c main_v72 : IVec S64 1) (ix1 l) = if l.val / 16 % 2 = 0 then 1#1 else 0#1 := by
  rw [maskA_eq]
  exact evenA l

theorem evenB : ∀ l : Fin 32, evenQuarter (iotaInDim (⟨1, ![32]⟩ : Shape) 32 0) 8#32 (ix1 l) = if l.val / 8 % 2 = 0 then 1#1 else 0#1 := by
  decide +kernel

theorem maskB_eq (c : Dev nD) : V m c main_v118 = evenQuarter (iotaInDim S32 32 0) 8#32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  unfold evenQuarter remainder floorDiv divisor
  simp only [StableHlo.TRef.ofBuf_toBuf]
  rfl

/-- The mask of the even quarters of a head. -/
theorem maskB (c : Dev nD) (l : Fin 32) :
    (V m c main_v118 : IVec S32 1) (ix1 l) = if l.val / 8 % 2 = 0 then 1#1 else 0#1 := by
  rw [maskB_eq]
  exact evenB l

end Cert.Kernel9Ideal.Value

end
-- ==== Proof.RopeTab.lean ====
module

public import proofs.«01_k».proof.Proof.Gen.Kernel9Ideal.Frame
public import proofs.«01_k».proof.Proof.Gen.Reference9Ideal.Read
public import proofs.«01_k».proof.Proof.RopeRows
public import proofs.«01_k».proof.Proof.RopeMask
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! The tables of cosines and sines that the host lines make. -/

namespace Cert.Kernel9Ideal.Value
open Cert.Kernel9Ideal Cert.Kernel9Ideal.Gen

variable (m : (ℓ : Loc nD τ sig) → Buf (Elt Ideal) ℓ)

/-- A table of the tokens, repeated over the four heads. -/
def tileA (t : FVec Ideal S4096x64 .f32) : FVec Ideal S4096x256 .f32 :=
  shapeCast S4096x256 (broadcastInDim S1x4096x4x64 ![0, 1, 2, 3] bcast_S1x4096x1x64_S1x4096x4x64_0_1_2_3
    (shapeCast S1x4096x1x64 t shapeCasts_S4096x64_S1x4096x1x64)) shapeCasts_S1x4096x4x64_S4096x256

theorem tileA_at (t : FVec Ideal S4096x64 .f32) (q : Fin 4096) (j : Fin 256) :
    tileA t (ix2 q j) = t (ix2 q ⟨j.val % 64, by omega⟩) := by
  pointwise [tileA]

/-- The sines, negated in a head's even quarters and zero in its odd ones. -/
def nextA (k : IVec S64 1) (s : FVec Ideal S4096x64 .f32) : FVec Ideal S4096x64 .f32 :=
  select (broadcastInDim S4096x64 ![0, 1] bcast_S1x64_S4096x64_0_1 (broadcastInDim S1x64 ![1] bcast_S64_S1x64_1 k)) (Host.negf s)
    (broadcastInDim S4096x64 ![] bcast_S_S4096x64 (constant S_ .f32 0x00000000#32 : FVec Ideal S_ .f32))

/-- The sines, zero in a head's even quarters. -/
def prevA (k : IVec S64 1) (s : FVec Ideal S4096x64 .f32) : FVec Ideal S4096x64 .f32 :=
  select (broadcastInDim S4096x64 ![0, 1] bcast_S1x64_S4096x64_0_1 (broadcastInDim S1x64 ![1] bcast_S64_S1x64_1 k))
    (broadcastInDim S4096x64 ![] bcast_S_S4096x64 (constant S_ .f32 0x00000000#32 : FVec Ideal S_ .f32)) s

theorem nextA_at (k : IVec S64 1) (s : FVec Ideal S4096x64 .f32) (hk : ∀ l : Fin 64, k (ix1 l) = if l.val / 16 % 2 = 0 then 1#1 else 0#1)
    (q : Fin 4096) (l : Fin 64) : nextA k s (ix2 q l) = if l.val / 16 % 2 = 0 then -s (ix2 q l) else 0 := by
  by_cases h : l.val / 16 % 2 = 0
  · have hk := (hk l).trans (if_pos h)
    rw [if_pos h]; pointwise [nextA, hk]
  · have hk := (hk l).trans (if_neg h)
    rw [if_neg h]; pointwise [nextA, hk]

theorem prevA_at (k : IVec S64 1) (s : FVec Ideal S4096x64 .f32) (hk : ∀ l : Fin 64, k (ix1 l) = if l.val / 16 % 2 = 0 then 1#1 else 0#1)
    (q : Fin 4096) (l : Fin 64) : prevA k s (ix2 q l) = if l.val / 16 % 2 = 0 then 0 else s (ix2 q l) := by
  by_cases h : l.val / 16 % 2 = 0
  · have hk := (hk l).trans (if_pos h)
    rw [if_pos h]; pointwise [prevA, hk]
  · have hk := (hk l).trans (if_neg h)
    rw [if_neg h]; pointwise [prevA, hk]

/-- The cosines the kernel reads are the reference's, repeated over the heads. -/
theorem cosA (c : Dev nD) : V m c main_v79 = tileA (Cert.Reference9Ideal.Read.val_main_v98 (F := Ideal)) := by
  unfold tileA
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The negated sines the kernel reads are the reference's, masked and repeated over the heads. -/
theorem sinNextA (c : Dev nD) : V m c main_v82
    = tileA (nextA (V m c main_v72) (Cert.Reference9Ideal.Read.val_main_v99 (F := Ideal))) := by
  unfold tileA nextA
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The sines the kernel reads are the reference's, masked and repeated over the heads. -/
theorem sinPrevA (c : Dev nD) : V m c main_v85
    = tileA (prevA (V m c main_v72) (Cert.Reference9Ideal.Read.val_main_v99 (F := Ideal))) := by
  unfold tileA prevA
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- A table of the tokens, repeated over the four heads. -/
def tileB (t : FVec Ideal S4096x32 .f32) : FVec Ideal S4096x128 .f32 :=
  shapeCast S4096x128 (broadcastInDim S1x4096x4x32 ![0, 1, 2, 3] bcast_S1x4096x1x32_S1x4096x4x32_0_1_2_3
    (shapeCast S1x4096x1x32 t shapeCasts_S4096x32_S1x4096x1x32)) shapeCasts_S1x4096x4x32_S4096x128

theorem tileB_at (t : FVec Ideal S4096x32 .f32) (q : Fin 4096) (j : Fin 128) :
    tileB t (ix2 q j) = t (ix2 q ⟨j.val % 32, by omega⟩) := by
  pointwise [tileB]

/-- The sines, negated in a head's even quarters and zero in its odd ones. -/
def nextB (k : IVec S32 1) (s : FVec Ideal S4096x32 .f32) : FVec Ideal S4096x32 .f32 :=
  select (broadcastInDim S4096x32 ![0, 1] bcast_S1x32_S4096x32_0_1 (broadcastInDim S1x32 ![1] bcast_S32_S1x32_1 k)) (Host.negf s)
    (broadcastInDim S4096x32 ![] bcast_S_S4096x32 (constant S_ .f32 0x00000000#32 : FVec Ideal S_ .f32))

/-- The sines, zero in a head's even quarters. -/
def prevB (k : IVec S32 1) (s : FVec Ideal S4096x32 .f32) : FVec Ideal S4096x32 .f32 :=
  select (broadcastInDim S4096x32 ![0, 1] bcast_S1x32_S4096x32_0_1 (broadcastInDim S1x32 ![1] bcast_S32_S1x32_1 k))
    (broadcastInDim S4096x32 ![] bcast_S_S4096x32 (constant S_ .f32 0x00000000#32 : FVec Ideal S_ .f32)) s

theorem nextB_at (k : IVec S32 1) (s : FVec Ideal S4096x32 .f32) (hk : ∀ l : Fin 32, k (ix1 l) = if l.val / 8 % 2 = 0 then 1#1 else 0#1)
    (q : Fin 4096) (l : Fin 32) : nextB k s (ix2 q l) = if l.val / 8 % 2 = 0 then -s (ix2 q l) else 0 := by
  by_cases h : l.val / 8 % 2 = 0
  · have hk := (hk l).trans (if_pos h)
    rw [if_pos h]; pointwise [nextB, hk]
  · have hk := (hk l).trans (if_neg h)
    rw [if_neg h]; pointwise [nextB, hk]

theorem prevB_at (k : IVec S32 1) (s : FVec Ideal S4096x32 .f32) (hk : ∀ l : Fin 32, k (ix1 l) = if l.val / 8 % 2 = 0 then 1#1 else 0#1)
    (q : Fin 4096) (l : Fin 32) : prevB k s (ix2 q l) = if l.val / 8 % 2 = 0 then 0 else s (ix2 q l) := by
  by_cases h : l.val / 8 % 2 = 0
  · have hk := (hk l).trans (if_pos h)
    rw [if_pos h]; pointwise [prevB, hk]
  · have hk := (hk l).trans (if_neg h)
    rw [if_neg h]; pointwise [prevB, hk]

/-- The cosines the kernel reads are the reference's, repeated over the heads. -/
theorem cosB (c : Dev nD) : V m c main_v125 = tileB (Cert.Reference9Ideal.Read.val_main_v126 (F := Ideal)) := by
  unfold tileB
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The negated sines the kernel reads are the reference's, masked and repeated over the heads. -/
theorem sinNextB (c : Dev nD) : V m c main_v128
    = tileB (nextB (V m c main_v118) (Cert.Reference9Ideal.Read.val_main_v127 (F := Ideal))) := by
  unfold tileB nextB
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The sines the kernel reads are the reference's, masked and repeated over the heads. -/
theorem sinPrevB (c : Dev nD) : V m c main_v131
    = tileB (prevB (V m c main_v118) (Cert.Reference9Ideal.Read.val_main_v127 (F := Ideal))) := by
  unfold tileB prevB
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

end Cert.Kernel9Ideal.Value

end
-- ==== Proof.RopeTurn.lean ====
module

public import proofs.«01_k».proof.Proof.RopeKer
public import proofs.«01_k».proof.Proof.RopeTab

@[expose] public section

set_option maxRecDepth 16384

noncomputable section

open Idealize.ShloMosaic Idealize.ShloMosaic.TcCoe Idealize.SL.Sem

namespace Cert.Kernel9Ideal.Value
open Cert.Kernel9Ideal Cert.Kernel9Ideal.Gen

variable (m : (ℓ : Loc nD τ sig) → Buf (Elt Ideal) ℓ)

/-- The cosines of the windowed attention's positions. -/
abbrev CA : FVec Ideal S4096x64 .f32 := Cert.Reference9Ideal.Read.val_main_v98 (F := Ideal)
/-- Their sines. -/
abbrev SA : FVec Ideal S4096x64 .f32 := Cert.Reference9Ideal.Read.val_main_v99 (F := Ideal)
/-- The cosines of the latent attention's positions. -/
abbrev CB : FVec Ideal S4096x32 .f32 := Cert.Reference9Ideal.Read.val_main_v126 (F := Ideal)
/-- Their sines. -/
abbrev SB : FVec Ideal S4096x32 .f32 := Cert.Reference9Ideal.Read.val_main_v127 (F := Ideal)

/-- The rotated queries of the windowed attention. -/
def turnedQ (x : FVec Ideal S8192x1024 .f32) (md : FVec Ideal S2x1x6144 .f32) (g : FVec Ideal S1024 .f32)
    (w : FVec Ideal S1024x6256 .f32) : FVec Ideal S8192x256 .f32 := fun i =>
  Rows.turnA (fun l => prow x md g w (i 0) ⟨l.val, by omega⟩) (fun d => CA (ix2 (token (i 0)) d)) (fun d => SA (ix2 (token (i 0)) d)) (i 1)

/-- The rotated keys of the windowed attention, each pair of heads twice. -/
def turnedK (x : FVec Ideal S8192x1024 .f32) (md : FVec Ideal S2x1x6144 .f32) (g : FVec Ideal S1024 .f32)
    (w : FVec Ideal S1024x6256 .f32) : FVec Ideal S8192x256 .f32 := fun i =>
  Rows.turnA (fun l => prow x md g w (i 0) ⟨256 + (l.val / 128 * 64 + l.val % 64), by omega⟩)
    (fun d => CA (ix2 (token (i 0)) d)) (fun d => SA (ix2 (token (i 0)) d)) (i 1)

/-- The rotated queries of the latent attention. -/
def turnedP (x : FVec Ideal S8192x1024 .f32) (md : FVec Ideal S2x1x6144 .f32) (g : FVec Ideal S1024 .f32)
    (w : FVec Ideal S1024x6256 .f32) (gq : FVec Ideal S192 .f32) (wq : FVec Ideal S192x384 .f32) : FVec Ideal S8192x128 .f32 := fun i =>
  Rows.turnB (fun l => Rows.queries (prow x md g w (i 0)) (fun k => gq (ix1 k)) (fun k j => wq (ix2 k j)) ⟨256 + l.val, by omega⟩)
    (fun d => CB (ix2 (token (i 0)) d)) (fun d => SB (ix2 (token (i 0)) d)) (i 1)

/-- The rotated keys of the latent attention, repeated over the heads. -/
def turnedR (x : FVec Ideal S8192x1024 .f32) (md : FVec Ideal S2x1x6144 .f32) (g : FVec Ideal S1024 .f32)
    (w : FVec Ideal S1024x6256 .f32) : FVec Ideal S8192x128 .f32 := fun i =>
  Rows.turnB (fun l => prow x md g w (i 0) ⟨832 + l.val % 32, by omega⟩)
    (fun d => CB (ix2 (token (i 0)) d)) (fun d => SB (ix2 (token (i 0)) d)) (i 1)

section Blocks
variable (c : Dev nD) (t : Fin cfg0.N)

theorem blk8 (r : Fin 512) (l : Fin 256) : (iblk m c 8 t : FVec Ideal S512x256 .f32) (ix2 r l)
    = CA (ix2 (token (row t r)) ⟨l.val % 64, by omega⟩) := by
  have e : (iblk m c 8 t : FVec Ideal S512x256 .f32) (ix2 r l) = (V m c main_v79 : FVec Ideal S4096x256 .f32) (ix2 (token (row t r)) l) := by
    rw [token_row]
    blk_point [iblk, idx t]
  rw [e, cosA m c, tileA_at]

theorem blk9 (r : Fin 512) (l : Fin 256) : (iblk m c 9 t : FVec Ideal S512x256 .f32) (ix2 r l)
    = if l.val % 64 / 16 % 2 = 0 then -SA (ix2 (token (row t r)) ⟨l.val % 64, by omega⟩) else (0 : EReal) := by
  have e : (iblk m c 9 t : FVec Ideal S512x256 .f32) (ix2 r l) = (V m c main_v82 : FVec Ideal S4096x256 .f32) (ix2 (token (row t r)) l) := by
    rw [token_row]
    blk_point [iblk, idx t]
  rw [e, sinNextA m c, tileA_at, nextA_at _ _ (maskA m c)]

theorem blk10 (r : Fin 512) (l : Fin 256) : (iblk m c 10 t : FVec Ideal S512x256 .f32) (ix2 r l)
    = if l.val % 64 / 16 % 2 = 0 then (0 : EReal) else SA (ix2 (token (row t r)) ⟨l.val % 64, by omega⟩) := by
  have e : (iblk m c 10 t : FVec Ideal S512x256 .f32) (ix2 r l) = (V m c main_v85 : FVec Ideal S4096x256 .f32) (ix2 (token (row t r)) l) := by
    rw [token_row]
    blk_point [iblk, idx t]
  rw [e, sinPrevA m c, tileA_at, prevA_at _ _ (maskA m c)]

theorem blk11 (r : Fin 512) (l : Fin 128) : (iblk m c 11 t : FVec Ideal S512x128 .f32) (ix2 r l)
    = CB (ix2 (token (row t r)) ⟨l.val % 32, by omega⟩) := by
  have e : (iblk m c 11 t : FVec Ideal S512x128 .f32) (ix2 r l) = (V m c main_v125 : FVec Ideal S4096x128 .f32) (ix2 (token (row t r)) l) := by
    rw [token_row]
    blk_point [iblk, idx t]
  rw [e, cosB m c, tileB_at]

theorem blk12 (r : Fin 512) (l : Fin 128) : (iblk m c 12 t : FVec Ideal S512x128 .f32) (ix2 r l)
    = if l.val % 32 / 8 % 2 = 0 then -SB (ix2 (token (row t r)) ⟨l.val % 32, by omega⟩) else (0 : EReal) := by
  have e : (iblk m c 12 t : FVec Ideal S512x128 .f32) (ix2 r l) = (V m c main_v128 : FVec Ideal S4096x128 .f32) (ix2 (token (row t r)) l) := by
    rw [token_row]
    blk_point [iblk, idx t]
  rw [e, sinNextB m c, tileB_at, nextB_at _ _ (maskB m c)]

theorem blk13 (r : Fin 512) (l : Fin 128) : (iblk m c 13 t : FVec Ideal S512x128 .f32) (ix2 r l)
    = if l.val % 32 / 8 % 2 = 0 then (0 : EReal) else SB (ix2 (token (row t r)) ⟨l.val % 32, by omega⟩) := by
  have e : (iblk m c 13 t : FVec Ideal S512x128 .f32) (ix2 r l) = (V m c main_v131 : FVec Ideal S4096x128 .f32) (ix2 (token (row t r)) l) := by
    rw [token_row]
    blk_point [iblk, idx t]
  rw [e, sinPrevB m c, tileB_at, prevB_at _ _ (maskB m c)]

/-- The block's queries are the arrays'. -/
theorem queries_blk (r : Fin 512) (j : Fin 384) :
    k0_pay6 (F := Ideal) (k0_pay3 (iblk m c 0 t) (iblk m c 1 t) (iblk m c 2 t) (iblk m c 3 t))
      (k0_pay4 (iblk m c 4 t)) (k0_pay5 (iblk m c 0 t) (iblk m c 1 t) (iblk m c 2 t) (iblk m c 3 t)) (iblk m c 5 t) (ix2 r j)
      = queryRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) j) :=
  point15 m c t (ix2 r j)

end Blocks

/-- Block `t` of the rotated queries of the windowed attention. -/
theorem point18 (c : Dev nD) (t : Fin cfg0.N) (y : S512x256.Idx) :
    k0_pay15 (F := Ideal) (k0_pay2 (F := Ideal) (iblk m c 0 t) (iblk m c 1 t) (iblk m c 2 t) (iblk m c 3 t)) (k0_pay9 (iblk m c 8 t)) (iblk m c 9 t) (iblk m c 10 t) y
      = turnedQ (m ((c : Thread nD τ).loc main_arg0)) (m ((c : Thread nD τ).loc main_arg1)) (m ((c : Thread nD τ).loc main_arg2)) (m ((c : Thread nD τ).loc main_arg3)) (ix2 (row t (y 0)) (y 1)) := by
  rw [eq_ix2 y]
  exact pay_turnQ _ _ _ _ _ (fun d => SA (ix2 (token (row t (y 0))) d)) _ _ _
    (fun l => (proj_blk m c t (y 0) _).trans (Rows.packed_of _ _ ⟨l.val, by omega⟩ (by dsimp only; omega)
      (by unfold Rows.source; dsimp only; split_ifs <;> omega)))
    (blk8 m c t (y 0)) (blk9 m c t (y 0)) (blk10 m c t (y 0))

/-- Where block `t` of the rotated queries of the windowed attention lies. -/
theorem emb18 (t : Fin cfg0.N) (y : S512x256.Idx) :
    (((cfg0.win 18).blk t).view.emb y : S8192x256.Idx) = ix2 (row t (y 0)) (y 1) := by
  funext a
  match a with
  | ⟨0, _⟩ => exact Fin.ext (by blk_simp [idx t, row]; rfl)
  | ⟨1, _⟩ => exact Fin.ext (by blk_simp [idx t]; rfl)

/-- The array of the rotated queries of the windowed attention after the run. -/
theorem final18 (c : Dev nD) : (dats m 0 c).arrAt 18 (cfgs 0).N
    = turnedQ (m ((c : Thread nD τ).loc main_arg0)) (m ((c : Thread nD τ).loc main_arg1)) (m ((c : Thread nD τ).loc main_arg2)) (m ((c : Thread nD τ).loc main_arg3)) := by
  refine (dats m 0 c).arrAt_eq_of_covers 18 _ (by decide +kernel) fun t _ y => ?_
  have h := (point18 m c t y).trans (congrArg (turnedQ (m ((c : Thread nD τ).loc main_arg0)) (m ((c : Thread nD τ).loc main_arg1)) (m ((c : Thread nD τ).loc main_arg2)) (m ((c : Thread nD τ).loc main_arg3))) (emb18 t y).symm)
  blk_simp; rw [after0_18]; frame_out
  rw [shared, sharedC]
  exact h

/-- Block `t` of the rotated keys of the windowed attention. -/
theorem point19 (c : Dev nD) (t : Fin cfg0.N) (y : S512x256.Idx) :
    k0_pay16 (F := Ideal) (k0_pay2 (F := Ideal) (iblk m c 0 t) (iblk m c 1 t) (iblk m c 2 t) (iblk m c 3 t)) (k0_pay9 (iblk m c 8 t)) (iblk m c 9 t) (iblk m c 10 t) y
      = turnedK (m ((c : Thread nD τ).loc main_arg0)) (m ((c : Thread nD τ).loc main_arg1)) (m ((c : Thread nD τ).loc main_arg2)) (m ((c : Thread nD τ).loc main_arg3)) (ix2 (row t (y 0)) (y 1)) := by
  rw [eq_ix2 y]
  exact pay_turnK _ _ _ _ _ (fun d => SA (ix2 (token (row t (y 0))) d)) _ _ _
    (fun l => (proj_blk m c t (y 0) _).trans (Rows.packed_of _ _ ⟨256 + (l.val / 128 * 64 + l.val % 64), by omega⟩ (by dsimp only; omega)
      (by unfold Rows.source; dsimp only; split_ifs <;> omega)))
    (blk8 m c t (y 0)) (blk9 m c t (y 0)) (blk10 m c t (y 0))

/-- Where block `t` of the rotated keys of the windowed attention lies. -/
theorem emb19 (t : Fin cfg0.N) (y : S512x256.Idx) :
    (((cfg0.win 19).blk t).view.emb y : S8192x256.Idx) = ix2 (row t (y 0)) (y 1) := by
  funext a
  match a with
  | ⟨0, _⟩ => exact Fin.ext (by blk_simp [idx t, row]; rfl)
  | ⟨1, _⟩ => exact Fin.ext (by blk_simp [idx t]; rfl)

/-- The array of the rotated keys of the windowed attention after the run. -/
theorem final19 (c : Dev nD) : (dats m 0 c).arrAt 19 (cfgs 0).N
    = turnedK (m ((c : Thread nD τ).loc main_arg0)) (m ((c : Thread nD τ).loc main_arg1)) (m ((c : Thread nD τ).loc main_arg2)) (m ((c : Thread nD τ).loc main_arg3)) := by
  refine (dats m 0 c).arrAt_eq_of_covers 19 _ (by decide +kernel) fun t _ y => ?_
  have h := (point19 m c t y).trans (congrArg (turnedK (m ((c : Thread nD τ).loc main_arg0)) (m ((c : Thread nD τ).loc main_arg1)) (m ((c : Thread nD τ).loc main_arg2)) (m ((c : Thread nD τ).loc main_arg3))) (emb19 t y).symm)
  blk_simp; rw [after0_19]; frame_out
  rw [shared, sharedC]
  exact h

/-- Block `t` of the rotated queries of the latent attention. -/
theorem point20 (c : Dev nD) (t : Fin cfg0.N) (y : S512x128.Idx) :
    k0_pay17 (F := Ideal) (k0_pay6 (F := Ideal) (k0_pay3 (iblk m c 0 t) (iblk m c 1 t) (iblk m c 2 t) (iblk m c 3 t))
      (k0_pay4 (iblk m c 4 t)) (k0_pay5 (iblk m c 0 t) (iblk m c 1 t) (iblk m c 2 t) (iblk m c 3 t)) (iblk m c 5 t)) (iblk m c 11 t) (iblk m c 12 t) (iblk m c 13 t) y
      = turnedP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t (y 0)) (y 1)) := by
  rw [eq_ix2 y]
  exact pay_turnP _ _ _ _ _ (fun d => SB (ix2 (token (row t (y 0))) d)) _ _ _
    (fun l => queries_blk m c t (y 0) ⟨256 + l.val, by omega⟩)
    (blk11 m c t (y 0)) (blk12 m c t (y 0)) (blk13 m c t (y 0))

/-- Where block `t` of the rotated queries of the latent attention lies. -/
theorem emb20 (t : Fin cfg0.N) (y : S512x128.Idx) :
    (((cfg0.win 20).blk t).view.emb y : S8192x128.Idx) = ix2 (row t (y 0)) (y 1) := by
  funext a
  match a with
  | ⟨0, _⟩ => exact Fin.ext (by blk_simp [idx t, row]; rfl)
  | ⟨1, _⟩ => exact Fin.ext (by blk_simp [idx t]; rfl)

/-- The array of the rotated queries of the latent attention after the run. -/
theorem final20 (c : Dev nD) : (dats m 0 c).arrAt 20 (cfgs 0).N
    = turnedP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 20 _ (by decide +kernel) fun t _ y => ?_
  have h := (point20 m c t y).trans (congrArg (turnedP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb20 t y).symm)
  blk_simp; rw [after0_20]; frame_out
  rw [sharedQ, sharedG, sharedM]
  exact h

/-- Block `t` of the rotated keys of the latent attention. -/
theorem point21 (c : Dev nD) (t : Fin cfg0.N) (y : S512x128.Idx) :
    k0_pay1 (F := Ideal) (k0_pay2 (F := Ideal) (iblk m c 0 t) (iblk m c 1 t) (iblk m c 2 t) (iblk m c 3 t)) (k0_pay12 (iblk m c 11 t)) (k0_pay13 (iblk m c 12 t)) (k0_pay14 (iblk m c 13 t)) y
      = turnedR (m ((c : Thread nD τ).loc main_arg0)) (m ((c : Thread nD τ).loc main_arg1)) (m ((c : Thread nD τ).loc main_arg2)) (m ((c : Thread nD τ).loc main_arg3)) (ix2 (row t (y 0)) (y 1)) := by
  rw [eq_ix2 y]
  exact pay_turnR _ _ _ _ _ (fun d => SB (ix2 (token (row t (y 0))) d)) _ _ _
    (fun l => (proj_blk m c t (y 0) _).trans (Rows.packed_of _ _ ⟨832 + l.val % 32, by omega⟩ (by dsimp only; omega)
      (by unfold Rows.source; dsimp only; split_ifs <;> omega)))
    (blk11 m c t (y 0)) (blk12 m c t (y 0)) (blk13 m c t (y 0))

/-- Where block `t` of the rotated keys of the latent attention lies. -/
theorem emb21 (t : Fin cfg0.N) (y : S512x128.Idx) :
    (((cfg0.win 21).blk t).view.emb y : S8192x128.Idx) = ix2 (row t (y 0)) (y 1) := by
  funext a
  match a with
  | ⟨0, _⟩ => exact Fin.ext (by blk_simp [idx t, row]; rfl)
  | ⟨1, _⟩ => exact Fin.ext (by blk_simp [idx t]; rfl)

/-- The array of the rotated keys of the latent attention after the run. -/
theorem final21 (c : Dev nD) : (dats m 0 c).arrAt 21 (cfgs 0).N
    = turnedR (m ((c : Thread nD τ).loc main_arg0)) (m ((c : Thread nD τ).loc main_arg1)) (m ((c : Thread nD τ).loc main_arg2)) (m ((c : Thread nD τ).loc main_arg3)) := by
  refine (dats m 0 c).arrAt_eq_of_covers 21 _ (by decide +kernel) fun t _ y => ?_
  have h := (point21 m c t y).trans (congrArg (turnedR (m ((c : Thread nD τ).loc main_arg0)) (m ((c : Thread nD τ).loc main_arg1)) (m ((c : Thread nD τ).loc main_arg2)) (m ((c : Thread nD τ).loc main_arg3))) (emb21 t y).symm)
  blk_simp; rw [after0_21]; frame_out
  rw [shared]
  exact h

end Cert.Kernel9Ideal.Value

end
-- ==== Proof.RopeRef.lean ====
module

public import proofs.«01_k».proof.Proof.Gen.Reference9Ideal.Read
public import proofs.«01_k».proof.Proof.InprojRows
public import proofs.«01_k».proof.Proof.Pieces
public import Idealize.ShloMosaic.Lib.Pointwise

@[expose] public section

set_option maxRecDepth 16384

noncomputable section

open Idealize.ShloMosaic Idealize.ShloMosaic.TcCoe Idealize.SL.Sem

namespace Cert.Reference9Ideal.Value
open Cert.Reference9Ideal Cert.Reference9Ideal.Gen Cert.Reference9Ideal.Read

variable (x : FVec Ideal S8192x1024 .f32) (md : FVec Ideal S2x1x6144 .f32) (g : FVec Ideal S1024 .f32)
  (w : FVec Ideal S1024x6256 .f32) (gq : FVec Ideal S192 .f32) (wq : FVec Ideal S192x384 .f32)
  (gk : FVec Ideal S128 .f32) (wk : FVec Ideal S128x512 .f32)

/-- The modulated, normalised input at a token. -/
theorem ref_in (b : Fin 2) (s : Fin 4096) (k : Fin 1024) :
    val_main_v25 (F := Ideal) x md g (ix3 b s k)
      = Rows.modulated (fun k => x (ix2 ⟨b.val * 4096 + s.val, by omega⟩ k)) (fun k => g (ix1 k))
          (fun k => md (ix3 b 0 ⟨1024 + k.val, by omega⟩)) (fun k => md (ix3 b 0 ⟨k.val, by omega⟩)) k := by
  pointwise [val_main_v0, val_main_v1, val_main_v6, val_main_v7, val_main_cst, val_main_v8, val_main_v9, val_main_cst_0,
    val_main_v10, val_main_v11, val_main_cst_1, val_main_v12, val_main_v13, val_main_v14, val_main_v15, val_main_v16,
    val_main_v17, val_main_v18, val_main_v19, val_main_cst_2, val_main_v20, val_main_v21, val_main_v22, val_main_v23,
    val_main_v24, val_main_v25, Rows.modulated, Rows.rms, Rows.div_1024]

/-- The projection of row `r`, before packing. -/
def prow (r : Fin 8192) : Fin 6256 → EReal :=
  Rows.proj (fun k => x (ix2 r k)) (fun k => g (ix1 k)) (fun k => md (ix3 ⟨r.val / 4096, by omega⟩ 0 ⟨1024 + k.val, by omega⟩))
    (fun k => md (ix3 ⟨r.val / 4096, by omega⟩ 0 ⟨k.val, by omega⟩)) (fun k n => w (ix2 k n))

/-- The row of token `s` of sequence `b`. -/
def at' (b : Fin 2) (s : Fin 4096) : Fin 8192 := ⟨b.val * 4096 + s.val, by omega⟩

/-- The input projection at a token. -/
theorem ref_proj (b : Fin 2) (s : Fin 4096) (n : Fin 6256) :
    val_main_v26 (F := Ideal) x md g w (ix3 b s n) = prow x md g w (at' b s) n := by
  have e : val_main_v26 (F := Ideal) x md g w (ix3 b s n)
      = ∑ k, val_main_v25 (F := Ideal) x md g (ix3 b s k) * w (ix2 k n) := by
    pointwise [val_main_v26]
  have hb : (⟨(at' b s).val / 4096, by omega⟩ : Fin 2) = b := Fin.ext (by unfold at'; dsimp only; omega)
  rw [e]
  simp only [ref_in]
  unfold prow
  rw [hb]
  rfl

/-! The pieces of the projection. -/

theorem piece27 (b : Fin 2) (s : Fin 4096) (l : Fin 256) :
    val_main_v27 (F := Ideal) x md g w (ix3 b s l) = prow x md g w (at' b s) ⟨l.val, by omega⟩ := by
  have h := ref_proj x md g w
  pointwise [val_main_v27, h]

theorem piece28 (b : Fin 2) (s : Fin 4096) (l : Fin 128) :
    val_main_v28 (F := Ideal) x md g w (ix3 b s l) = prow x md g w (at' b s) ⟨256 + l.val, by omega⟩ := by
  have h := ref_proj x md g w
  pointwise [val_main_v28, h]

theorem piece29 (b : Fin 2) (s : Fin 4096) (l : Fin 128) :
    val_main_v29 (F := Ideal) x md g w (ix3 b s l) = prow x md g w (at' b s) ⟨384 + l.val, by omega⟩ := by
  have h := ref_proj x md g w
  pointwise [val_main_v29, h]

theorem piece30 (b : Fin 2) (s : Fin 4096) (l : Fin 192) :
    val_main_v30 (F := Ideal) x md g w (ix3 b s l) = prow x md g w (at' b s) ⟨512 + l.val, by omega⟩ := by
  have h := ref_proj x md g w
  pointwise [val_main_v30, h]

theorem piece31 (b : Fin 2) (s : Fin 4096) (l : Fin 128) :
    val_main_v31 (F := Ideal) x md g w (ix3 b s l) = prow x md g w (at' b s) ⟨704 + l.val, by omega⟩ := by
  have h := ref_proj x md g w
  pointwise [val_main_v31, h]

theorem piece32 (b : Fin 2) (s : Fin 4096) (l : Fin 32) :
    val_main_v32 (F := Ideal) x md g w (ix3 b s l) = prow x md g w (at' b s) ⟨832 + l.val, by omega⟩ := by
  have h := ref_proj x md g w
  pointwise [val_main_v32, h]

theorem piece33 (b : Fin 2) (s : Fin 4096) (l : Fin 256) :
    val_main_v33 (F := Ideal) x md g w (ix3 b s l) = prow x md g w (at' b s) ⟨864 + l.val, by omega⟩ := by
  have h := ref_proj x md g w
  pointwise [val_main_v33, h]

theorem piece34 (b : Fin 2) (s : Fin 4096) (l : Fin 768) :
    val_main_v34 (F := Ideal) x md g w (ix3 b s l) = prow x md g w (at' b s) ⟨1120 + l.val, by omega⟩ := by
  have h := ref_proj x md g w
  pointwise [val_main_v34, h]

theorem piece35 (b : Fin 2) (s : Fin 4096) (l : Fin 256) :
    val_main_v35 (F := Ideal) x md g w (ix3 b s l) = prow x md g w (at' b s) ⟨1888 + l.val, by omega⟩ := by
  have h := ref_proj x md g w
  pointwise [val_main_v35, h]

theorem piece36 (b : Fin 2) (s : Fin 4096) (l : Fin 8) :
    val_main_v36 (F := Ideal) x md g w (ix3 b s l) = prow x md g w (at' b s) ⟨2144 + l.val, by omega⟩ := by
  have h := ref_proj x md g w
  pointwise [val_main_v36, h]

theorem piece37 (b : Fin 2) (s : Fin 4096) (l : Fin 8) :
    val_main_v37 (F := Ideal) x md g w (ix3 b s l) = prow x md g w (at' b s) ⟨2152 + l.val, by omega⟩ := by
  have h := ref_proj x md g w
  pointwise [val_main_v37, h]

theorem piece40 (b : Fin 2) (s : Fin 4096) (h : Fin 2) (d : Fin 64) :
    val_main_v40 (F := Ideal) x md g w (ix4 b s h d) = prow x md g w (at' b s) ⟨256 + (h.val * 64 + d.val), by omega⟩ := by
  have e := piece28 x md g w
  pointwise [val_main_v40, e]

theorem piece201 (b : Fin 2) (s : Fin 4096) (l : Fin 256) :
    val_main_v201 (F := Ideal) x md g w (ix3 b s l)
      = prow x md g w (at' b s) ⟨256 + (l.val / 128 * 64 + l.val % 64), by omega⟩ := by
  have e := piece40 x md g w
  have d : l.val / 64 / 2 = l.val / 128 := by omega
  pointwise [val_main_v201, val_main_v196, val_main_v195, e, d]

theorem piece41 (b : Fin 2) (s : Fin 4096) (h : Fin 2) (d : Fin 64) :
    val_main_v41 (F := Ideal) x md g w (ix4 b s h d) = prow x md g w (at' b s) ⟨384 + (h.val * 64 + d.val), by omega⟩ := by
  have e := piece29 x md g w
  pointwise [val_main_v41, e]

theorem piece202 (b : Fin 2) (s : Fin 4096) (l : Fin 256) :
    val_main_v202 (F := Ideal) x md g w (ix3 b s l)
      = prow x md g w (at' b s) ⟨384 + (l.val / 128 * 64 + l.val % 64), by omega⟩ := by
  have e := piece41 x md g w
  have d : l.val / 64 / 2 = l.val / 128 := by omega
  pointwise [val_main_v202, val_main_v198, val_main_v197, e, d]

theorem piece206 (b : Fin 2) (s : Fin 4096) (l : Fin 128) :
    val_main_v206 (F := Ideal) x md g w (ix3 b s l) = prow x md g w (at' b s) ⟨832 + l.val % 32, by omega⟩ := by
  have e := piece32 x md g w
  pointwise [val_main_v206, val_main_v205, val_main_v204, e]

set_option maxHeartbeats 2000000 in
/-- The packed projection at a token. -/
theorem ref_packed (b : Fin 2) (s : Fin 4096) (j : Fin 2688) :
    val_main_v208 (F := Ideal) x md g w (ix3 b s j) = Rows.packed (prow x md g w (at' b s)) j := by
  unfold val_main_v208
  by_cases h0 : j.val < 256
  · refine Eq.trans (Pieces.at3 _ _ b s j 0 (by simp) _ rfl 0 rfl ⟨j.val - 0, by omega⟩ (by dsimp only; omega)) ?_
    rw [piece27]
    exact (Rows.packed_of _ _ _ (by omega) (by unfold Rows.source; dsimp only; split_ifs <;> omega)).symm
  by_cases h1 : j.val < 512
  · refine Eq.trans (Pieces.at3 _ _ b s j 1 (by simp) _ rfl 256 rfl ⟨j.val - 256, by omega⟩ (by dsimp only; omega)) ?_
    rw [piece201]
    exact (Rows.packed_of _ _ _ (by omega) (by unfold Rows.source; dsimp only; split_ifs <;> omega)).symm
  by_cases h2 : j.val < 768
  · refine Eq.trans (Pieces.at3 _ _ b s j 2 (by simp) _ rfl 512 rfl ⟨j.val - 512, by omega⟩ (by dsimp only; omega)) ?_
    rw [piece202]
    exact (Rows.packed_of _ _ _ (by omega) (by unfold Rows.source; dsimp only; split_ifs <;> omega)).symm
  by_cases h3 : j.val < 960
  · refine Eq.trans (Pieces.at3 _ _ b s j 3 (by simp) _ rfl 768 rfl ⟨j.val - 768, by omega⟩ (by dsimp only; omega)) ?_
    rw [piece30]
    exact (Rows.packed_of _ _ _ (by omega) (by unfold Rows.source; dsimp only; split_ifs <;> omega)).symm
  by_cases h4 : j.val < 1024
  · refine Eq.trans (Pieces.at3 _ _ b s j 4 (by simp) _ rfl 960 rfl ⟨j.val - 960, by omega⟩ (by dsimp only; omega)) ?_
    rw [Rows.packed_zero _ _ (by omega)]
    pointwise [val_main_v203, val_main_cst_13]
  by_cases h5 : j.val < 1152
  · refine Eq.trans (Pieces.at3 _ _ b s j 5 (by simp) _ rfl 1024 rfl ⟨j.val - 1024, by omega⟩ (by dsimp only; omega)) ?_
    rw [piece31]
    exact (Rows.packed_of _ _ _ (by omega) (by unfold Rows.source; dsimp only; split_ifs <;> omega)).symm
  by_cases h6 : j.val < 1280
  · refine Eq.trans (Pieces.at3 _ _ b s j 6 (by simp) _ rfl 1152 rfl ⟨j.val - 1152, by omega⟩ (by dsimp only; omega)) ?_
    rw [piece206]
    exact (Rows.packed_of _ _ _ (by omega) (by unfold Rows.source; dsimp only; split_ifs <;> omega)).symm
  by_cases h7 : j.val < 1536
  · refine Eq.trans (Pieces.at3 _ _ b s j 7 (by simp) _ rfl 1280 rfl ⟨j.val - 1280, by omega⟩ (by dsimp only; omega)) ?_
    rw [piece33]
    exact (Rows.packed_of _ _ _ (by omega) (by unfold Rows.source; dsimp only; split_ifs <;> omega)).symm
  by_cases h8 : j.val < 2304
  · refine Eq.trans (Pieces.at3 _ _ b s j 8 (by simp) _ rfl 1536 rfl ⟨j.val - 1536, by omega⟩ (by dsimp only; omega)) ?_
    rw [piece34]
    exact (Rows.packed_of _ _ _ (by omega) (by unfold Rows.source; dsimp only; split_ifs <;> omega)).symm
  by_cases h9 : j.val < 2560
  · refine Eq.trans (Pieces.at3 _ _ b s j 9 (by simp) _ rfl 2304 rfl ⟨j.val - 2304, by omega⟩ (by dsimp only; omega)) ?_
    rw [piece35]
    exact (Rows.packed_of _ _ _ (by omega) (by unfold Rows.source; dsimp only; split_ifs <;> omega)).symm
  by_cases h10 : j.val < 2568
  · refine Eq.trans (Pieces.at3 _ _ b s j 10 (by simp) _ rfl 2560 rfl ⟨j.val - 2560, by omega⟩ (by dsimp only; omega)) ?_
    rw [piece36]
    exact (Rows.packed_of _ _ _ (by omega) (by unfold Rows.source; dsimp only; split_ifs <;> omega)).symm
  by_cases h11 : j.val < 2576
  · refine Eq.trans (Pieces.at3 _ _ b s j 11 (by simp) _ rfl 2568 rfl ⟨j.val - 2568, by omega⟩ (by dsimp only; omega)) ?_
    rw [piece37]
    exact (Rows.packed_of _ _ _ (by omega) (by unfold Rows.source; dsimp only; split_ifs <;> omega)).symm
  refine Eq.trans (Pieces.at3 _ _ b s j 12 (by simp) _ rfl 2576 rfl ⟨j.val - 2576, by omega⟩ (by dsimp only; omega)) ?_
  rw [Rows.packed_zero _ _ (by omega)]
  pointwise [val_main_v207, val_main_cst_14]

/-- The compressed queries at a token. -/
theorem ref_cq (b : Fin 2) (s : Fin 4096) (i : Fin 192) :
    val_main_v54 (F := Ideal) x md g w gq (ix3 b s i) = Rows.cq (prow x md g w (at' b s)) (fun k => gq (ix1 k)) i := by
  have h := piece30 x md g w
  pointwise [val_main_v42, val_main_cst_3, val_main_v43, val_main_v44, val_main_cst_4, val_main_v45, val_main_v46,
    val_main_cst_5, val_main_v47, val_main_v48, val_main_v49, val_main_v50, val_main_v51, val_main_v52, val_main_v53,
    val_main_v54, h, Rows.cq, Rows.div_192]

/-- The queries at a token, head by head. -/
theorem ref_uq (b : Fin 2) (s : Fin 4096) (j : Fin 384) :
    val_main_v55 (F := Ideal) x md g w gq wq (ix3 b s j)
      = ∑ i, Rows.cq (prow x md g w (at' b s)) (fun k => gq (ix1 k)) i * wq (ix2 i j) := by
  have h := ref_cq x md g w gq
  pointwise [val_main_v55, h]

/-- The packed queries at a token. -/
theorem ref_queries (b : Fin 2) (s : Fin 4096) (j : Fin 384) :
    val_main_v213 (F := Ideal) x md g w gq wq (ix3 b s j)
      = Rows.queries (prow x md g w (at' b s)) (fun k => gq (ix1 k)) (fun i n => wq (ix2 i n)) j := by
  have h := ref_uq x md g w gq wq
  unfold val_main_v213 Rows.queries Rows.qcol
  by_cases hj : j.val < 256
  · refine Eq.trans (Pieces.at3 _ _ b s j 0 (by simp) _ rfl 0 rfl ⟨j.val, by omega⟩ (by dsimp only; omega)) ?_
    simp only [dif_pos hj]
    pointwise [val_main_v210, val_main_v209, val_main_v56, h]
  · refine Eq.trans (Pieces.at3 _ _ b s j 1 (by simp) _ rfl 256 rfl ⟨j.val - 256, by omega⟩ (by dsimp only; omega)) ?_
    have d : (j.val - 256) / 32 * 96 + (64 + (j.val - 256) % 32) = (j.val - 256) / 32 * 96 + 64 + j.val % 32 := by omega
    simp only [dif_neg hj]
    pointwise [val_main_v212, val_main_v211, val_main_v56, h, d]

/-- The compressed keys and values at a token. -/
theorem ref_ckv (b : Fin 2) (s : Fin 4096) (i : Fin 128) :
    val_main_v69 (F := Ideal) x md g w gk (ix3 b s i) = Rows.ckv (prow x md g w (at' b s)) (fun k => gk (ix1 k)) i := by
  have h := piece31 x md g w
  pointwise [val_main_v57, val_main_cst_6, val_main_v58, val_main_v59, val_main_cst_7, val_main_v60, val_main_v61,
    val_main_cst_8, val_main_v62, val_main_v63, val_main_v64, val_main_v65, val_main_v66, val_main_v67, val_main_v68,
    val_main_v69, h, Rows.ckv, Rows.div_128]

/-- The keys and values at a token, head by head. -/
theorem ref_ukv (b : Fin 2) (s : Fin 4096) (j : Fin 512) :
    val_main_v70 (F := Ideal) x md g w gk wk (ix3 b s j)
      = ∑ i, Rows.ckv (prow x md g w (at' b s)) (fun k => gk (ix1 k)) i * wk (ix2 i j) := by
  have h := ref_ckv x md g w gk
  pointwise [val_main_v70, h]

/-- The packed keys and values at a token. -/
theorem ref_kv (b : Fin 2) (s : Fin 4096) (j : Fin 512) :
    val_main_v218 (F := Ideal) x md g w gk wk (ix3 b s j)
      = Rows.keysValues (prow x md g w (at' b s)) (fun k => gk (ix1 k)) (fun i n => wk (ix2 i n)) j := by
  have h := ref_ukv x md g w gk wk
  unfold val_main_v218 Rows.keysValues Rows.kvcol
  by_cases hj : j.val < 256
  · refine Eq.trans (Pieces.at3 _ _ b s j 0 (by simp) _ rfl 0 rfl ⟨j.val, by omega⟩ (by dsimp only; omega)) ?_
    simp only [dif_pos hj]
    pointwise [val_main_v215, val_main_v214, val_main_v71, h]
  · refine Eq.trans (Pieces.at3 _ _ b s j 1 (by simp) _ rfl 256 rfl ⟨j.val - 256, by omega⟩ (by dsimp only; omega)) ?_
    have d : (j.val - 256) / 64 * 128 + (64 + (j.val - 256) % 64) = (j.val - 256) / 64 * 128 + 64 + j.val % 64 := by omega
    simp only [dif_neg hj]
    pointwise [val_main_v217, val_main_v216, val_main_v71, h, d]

/-- Row `r` is token `r mod 4096` of sequence `r / 4096`. -/
theorem at_row (r : Fin 8192) : at' ⟨r.val / 4096, by omega⟩ ⟨r.val % 4096, by omega⟩ = r :=
  Fin.ext (by unfold at'; dsimp only; omega)

/-- The packed projection at row `r`, column `j`. -/
theorem out_packed (r : Fin 8192) (j : Fin 2688) :
    val_main_v219 (F := Ideal) x md g w (ix2 r j) = Rows.packed (prow x md g w r) j := by
  have h := ref_packed x md g w ⟨r.val / 4096, by omega⟩ ⟨r.val % 4096, by omega⟩ j
  rw [at_row] at h
  rw [← h]
  pointwise [val_main_v219]

/-- The packed queries at row `r`, column `j`. -/
theorem out_queries (r : Fin 8192) (j : Fin 384) :
    val_main_v220 (F := Ideal) x md g w gq wq (ix2 r j)
      = Rows.queries (prow x md g w r) (fun k => gq (ix1 k)) (fun i n => wq (ix2 i n)) j := by
  have h := ref_queries x md g w gq wq ⟨r.val / 4096, by omega⟩ ⟨r.val % 4096, by omega⟩ j
  rw [at_row] at h
  rw [← h]
  pointwise [val_main_v220]

/-- The packed keys and values at row `r`, column `j`. -/
theorem out_kv (r : Fin 8192) (j : Fin 512) :
    val_main_v223 (F := Ideal) x md g w gk wk (ix2 r j)
      = Rows.keysValues (prow x md g w r) (fun k => gk (ix1 k)) (fun i n => wk (ix2 i n)) j := by
  have h := ref_kv x md g w gk wk ⟨r.val / 4096, by omega⟩ ⟨r.val % 4096, by omega⟩ j
  rw [at_row] at h
  rw [← h]
  pointwise [val_main_v223, val_main_v222]

/-- The compressed keys and values at row `r`, column `j`. -/
theorem out_ckv (r : Fin 8192) (j : Fin 128) :
    val_main_v221 (F := Ideal) x md g w gk (ix2 r j) = Rows.ckv (prow x md g w r) (fun k => gk (ix1 k)) j := by
  have h := ref_ckv x md g w gk ⟨r.val / 4096, by omega⟩ ⟨r.val % 4096, by omega⟩ j
  rw [at_row] at h
  rw [← h]
  pointwise [val_main_v221]

end Cert.Reference9Ideal.Value

end
-- ==== Proof.RopeRefTurn.lean ====
module

public import proofs.«01_k».proof.Proof.RopeRef
public import proofs.«01_k».proof.Proof.RopeRows
public import proofs.«01_k».proof.Proof.Pieces4
public import Idealize.ShloMosaic.Lib.Pointwise

@[expose] public section

set_option maxRecDepth 16384

noncomputable section

open Idealize.ShloMosaic Idealize.ShloMosaic.TcCoe Idealize.SL.Sem

namespace Cert.Reference9Ideal.Value
open Cert.Reference9Ideal Cert.Reference9Ideal.Gen Cert.Reference9Ideal.Read

variable (x : FVec Ideal S8192x1024 .f32) (md : FVec Ideal S2x1x6144 .f32) (g : FVec Ideal S1024 .f32)
  (w : FVec Ideal S1024x6256 .f32) (gq : FVec Ideal S192 .f32) (wq : FVec Ideal S192x384 .f32)
  (gk : FVec Ideal S128 .f32) (wk : FVec Ideal S128x512 .f32)

/-- The turned quarters of the windowed queries: each even quarter is the next one negated, each odd one the one before. -/
theorem turned134 (b : Fin 2) (s : Fin 4096) (h : Fin 4) (d : Fin 64) :
    val_main_v134 (F := Ideal) x md g w (ix4 b s h d)
      = if k : d.val / 16 % 2 = 0 then -val_main_v39 (F := Ideal) x md g w (ix4 b s h ⟨d.val + 16, by omega⟩)
        else val_main_v39 (F := Ideal) x md g w (ix4 b s h ⟨d.val - 16, by omega⟩) := by
  unfold val_main_v134
  by_cases h0 : d.val < 16
  · refine Eq.trans (Pieces.at4 _ _ b s h d 0 (by simp) _ rfl 0 rfl ⟨d.val - 0, by omega⟩ (by dsimp only; omega)) ?_
    have e : 16 + d.val = d.val + 16 := by omega
    rw [dif_pos (by omega)]
    pointwise [val_main_v132, val_main_v129, e]
  by_cases h1 : d.val < 32
  · refine Eq.trans (Pieces.at4 _ _ b s h d 1 (by simp) _ rfl 16 rfl ⟨d.val - 16, by omega⟩ (by dsimp only; omega)) ?_
    have e : 0 + (d.val - 16) = d.val - 16 := by omega
    rw [dif_neg (by omega)]
    pointwise [val_main_v128, e]
  by_cases h2 : d.val < 48
  · refine Eq.trans (Pieces.at4 _ _ b s h d 2 (by simp) _ rfl 32 rfl ⟨d.val - 32, by omega⟩ (by dsimp only; omega)) ?_
    have e : 48 + (d.val - 32) = d.val + 16 := by omega
    rw [dif_pos (by omega)]
    pointwise [val_main_v133, val_main_v131, e]
  refine Eq.trans (Pieces.at4 _ _ b s h d 3 (by simp) _ rfl 48 rfl ⟨d.val - 48, by omega⟩ (by dsimp only; omega)) ?_
  have e : 32 + (d.val - 48) = d.val - 16 := by omega
  rw [dif_neg (by omega)]
  pointwise [val_main_v130, e]

/-- The turned quarters of the windowed keys: each even quarter is the next one negated, each odd one the one before. -/
theorem turned150 (b : Fin 2) (s : Fin 4096) (h : Fin 2) (d : Fin 64) :
    val_main_v150 (F := Ideal) x md g w (ix4 b s h d)
      = if k : d.val / 16 % 2 = 0 then -val_main_v40 (F := Ideal) x md g w (ix4 b s h ⟨d.val + 16, by omega⟩)
        else val_main_v40 (F := Ideal) x md g w (ix4 b s h ⟨d.val - 16, by omega⟩) := by
  unfold val_main_v150
  by_cases h0 : d.val < 16
  · refine Eq.trans (Pieces.at4 _ _ b s h d 0 (by simp) _ rfl 0 rfl ⟨d.val - 0, by omega⟩ (by dsimp only; omega)) ?_
    have e : 16 + d.val = d.val + 16 := by omega
    rw [dif_pos (by omega)]
    pointwise [val_main_v148, val_main_v145, e]
  by_cases h1 : d.val < 32
  · refine Eq.trans (Pieces.at4 _ _ b s h d 1 (by simp) _ rfl 16 rfl ⟨d.val - 16, by omega⟩ (by dsimp only; omega)) ?_
    have e : 0 + (d.val - 16) = d.val - 16 := by omega
    rw [dif_neg (by omega)]
    pointwise [val_main_v144, e]
  by_cases h2 : d.val < 48
  · refine Eq.trans (Pieces.at4 _ _ b s h d 2 (by simp) _ rfl 32 rfl ⟨d.val - 32, by omega⟩ (by dsimp only; omega)) ?_
    have e : 48 + (d.val - 32) = d.val + 16 := by omega
    rw [dif_pos (by omega)]
    pointwise [val_main_v149, val_main_v147, e]
  refine Eq.trans (Pieces.at4 _ _ b s h d 3 (by simp) _ rfl 48 rfl ⟨d.val - 48, by omega⟩ (by dsimp only; omega)) ?_
  have e : 32 + (d.val - 48) = d.val - 16 := by omega
  rw [dif_neg (by omega)]
  pointwise [val_main_v146, e]

/-- The turned quarters of the latent queries: each even quarter is the next one negated, each odd one the one before. -/
theorem turned167 (b : Fin 2) (s : Fin 4096) (h : Fin 4) (d : Fin 32) :
    val_main_v167 (F := Ideal) x md g w gq wq (ix4 b s h d)
      = if k : d.val / 8 % 2 = 0 then -val_main_v160 (F := Ideal) x md g w gq wq (ix4 b s h ⟨d.val + 8, by omega⟩)
        else val_main_v160 (F := Ideal) x md g w gq wq (ix4 b s h ⟨d.val - 8, by omega⟩) := by
  unfold val_main_v167
  by_cases h0 : d.val < 8
  · refine Eq.trans (Pieces.at4 _ _ b s h d 0 (by simp) _ rfl 0 rfl ⟨d.val - 0, by omega⟩ (by dsimp only; omega)) ?_
    have e : 8 + d.val = d.val + 8 := by omega
    rw [dif_pos (by omega)]
    pointwise [val_main_v165, val_main_v162, e]
  by_cases h1 : d.val < 16
  · refine Eq.trans (Pieces.at4 _ _ b s h d 1 (by simp) _ rfl 8 rfl ⟨d.val - 8, by omega⟩ (by dsimp only; omega)) ?_
    have e : 0 + (d.val - 8) = d.val - 8 := by omega
    rw [dif_neg (by omega)]
    pointwise [val_main_v161, e]
  by_cases h2 : d.val < 24
  · refine Eq.trans (Pieces.at4 _ _ b s h d 2 (by simp) _ rfl 16 rfl ⟨d.val - 16, by omega⟩ (by dsimp only; omega)) ?_
    have e : 24 + (d.val - 16) = d.val + 8 := by omega
    rw [dif_pos (by omega)]
    pointwise [val_main_v166, val_main_v164, e]
  refine Eq.trans (Pieces.at4 _ _ b s h d 3 (by simp) _ rfl 24 rfl ⟨d.val - 24, by omega⟩ (by dsimp only; omega)) ?_
  have e : 16 + (d.val - 24) = d.val - 8 := by omega
  rw [dif_neg (by omega)]
  pointwise [val_main_v163, e]

/-- The turned quarters of the latent keys: each even quarter is the next one negated, each odd one the one before. -/
theorem turned184 (b : Fin 2) (s : Fin 4096) (d : Fin 32) :
    val_main_v184 (F := Ideal) x md g w (ix4 b s 0 d)
      = if k : d.val / 8 % 2 = 0 then -val_main_v177 (F := Ideal) x md g w (ix4 b s 0 ⟨d.val + 8, by omega⟩)
        else val_main_v177 (F := Ideal) x md g w (ix4 b s 0 ⟨d.val - 8, by omega⟩) := by
  unfold val_main_v184
  by_cases h0 : d.val < 8
  · refine Eq.trans (Pieces.at4 _ _ b s 0 d 0 (by simp) _ rfl 0 rfl ⟨d.val - 0, by omega⟩ (by dsimp only; omega)) ?_
    have e : 8 + d.val = d.val + 8 := by omega
    rw [dif_pos (by omega)]
    pointwise [val_main_v182, val_main_v179, e]
  by_cases h1 : d.val < 16
  · refine Eq.trans (Pieces.at4 _ _ b s 0 d 1 (by simp) _ rfl 8 rfl ⟨d.val - 8, by omega⟩ (by dsimp only; omega)) ?_
    have e : 0 + (d.val - 8) = d.val - 8 := by omega
    rw [dif_neg (by omega)]
    pointwise [val_main_v178, e]
  by_cases h2 : d.val < 24
  · refine Eq.trans (Pieces.at4 _ _ b s 0 d 2 (by simp) _ rfl 16 rfl ⟨d.val - 16, by omega⟩ (by dsimp only; omega)) ?_
    have e : 24 + (d.val - 16) = d.val + 8 := by omega
    rw [dif_pos (by omega)]
    pointwise [val_main_v183, val_main_v181, e]
  refine Eq.trans (Pieces.at4 _ _ b s 0 d 3 (by simp) _ rfl 24 rfl ⟨d.val - 24, by omega⟩ (by dsimp only; omega)) ?_
  have e : 16 + (d.val - 24) = d.val - 8 := by omega
  rw [dif_neg (by omega)]
  pointwise [val_main_v180, e]

/-- The windowed queries, rotated. -/
theorem rotated143 (b : Fin 2) (s : Fin 4096) (h : Fin 4) (d : Fin 64) :
    val_main_v143 (F := Ideal) x md g w (ix4 b s h d)
      = val_main_v39 (F := Ideal) x md g w (ix4 b s h d) * val_main_v98 (F := Ideal) (ix2 s d)
        + val_main_v134 (F := Ideal) x md g w (ix4 b s h d) * val_main_v99 (F := Ideal) (ix2 s d) := by
  pointwise [val_main_v135, val_main_v136, val_main_v137, val_main_v138, val_main_v139, val_main_v140, val_main_v141, val_main_v142, val_main_v143]

/-- The windowed keys, rotated. -/
theorem rotated159 (b : Fin 2) (s : Fin 4096) (h : Fin 2) (d : Fin 64) :
    val_main_v159 (F := Ideal) x md g w (ix4 b s h d)
      = val_main_v40 (F := Ideal) x md g w (ix4 b s h d) * val_main_v98 (F := Ideal) (ix2 s d)
        + val_main_v150 (F := Ideal) x md g w (ix4 b s h d) * val_main_v99 (F := Ideal) (ix2 s d) := by
  pointwise [val_main_v151, val_main_v152, val_main_v153, val_main_v154, val_main_v155, val_main_v156, val_main_v157, val_main_v158, val_main_v159]

/-- The latent queries, rotated. -/
theorem rotated176 (b : Fin 2) (s : Fin 4096) (h : Fin 4) (d : Fin 32) :
    val_main_v176 (F := Ideal) x md g w gq wq (ix4 b s h d)
      = val_main_v160 (F := Ideal) x md g w gq wq (ix4 b s h d) * val_main_v126 (F := Ideal) (ix2 s d)
        + val_main_v167 (F := Ideal) x md g w gq wq (ix4 b s h d) * val_main_v127 (F := Ideal) (ix2 s d) := by
  pointwise [val_main_v168, val_main_v169, val_main_v170, val_main_v171, val_main_v172, val_main_v173, val_main_v174, val_main_v175, val_main_v176]

/-- The latent keys, rotated. -/
theorem rotated193 (b : Fin 2) (s : Fin 4096) (d : Fin 32) :
    val_main_v193 (F := Ideal) x md g w (ix4 b s 0 d)
      = val_main_v177 (F := Ideal) x md g w (ix4 b s 0 d) * val_main_v126 (F := Ideal) (ix2 s d)
        + val_main_v184 (F := Ideal) x md g w (ix4 b s 0 d) * val_main_v127 (F := Ideal) (ix2 s d) := by
  pointwise [val_main_v185, val_main_v186, val_main_v187, val_main_v188, val_main_v189, val_main_v190, val_main_v191, val_main_v192, val_main_v193]

theorem piece39 (b : Fin 2) (s : Fin 4096) (h : Fin 4) (d : Fin 64) :
    val_main_v39 (F := Ideal) x md g w (ix4 b s h d) = prow x md g w (at' b s) ⟨h.val * 64 + d.val, by omega⟩ := by
  have e := piece27 x md g w
  pointwise [val_main_v39, e]

theorem piece160 (b : Fin 2) (s : Fin 4096) (h : Fin 4) (d : Fin 32) :
    val_main_v160 (F := Ideal) x md g w gq wq (ix4 b s h d)
      = Rows.queries (prow x md g w (at' b s)) (fun k => gq (ix1 k)) (fun i n => wq (ix2 i n)) ⟨256 + (h.val * 32 + d.val), by omega⟩ := by
  have e := ref_uq x md g w gq wq
  have hn : ¬ 256 + (h.val * 32 + d.val) < 256 := by omega
  have hd : (256 + (h.val * 32 + d.val) - 256) / 32 * 96 + 64 + (256 + (h.val * 32 + d.val)) % 32 = h.val * 96 + (64 + d.val) := by omega
  unfold Rows.queries Rows.qcol
  simp only [dif_neg hn, hd]
  pointwise [val_main_v160, val_main_v56, e]

theorem piece177 (b : Fin 2) (s : Fin 4096) (d : Fin 32) :
    val_main_v177 (F := Ideal) x md g w (ix4 b s 0 d) = prow x md g w (at' b s) ⟨832 + d.val, by omega⟩ := by
  have e := piece32 x md g w
  pointwise [val_main_v177, e]

/-- The rotated windowed queries at row `r`, column `l`. -/
theorem out_turnQ (r : Fin 8192) (l : Fin 256) :
    val_main_v225 (F := Ideal) x md g w (ix2 r l)
      = Rows.turnA (fun l => prow x md g w r ⟨l.val, by omega⟩)
          (fun d => val_main_v98 (F := Ideal) (ix2 ⟨r.val % 4096, by omega⟩ d))
          (fun d => val_main_v99 (F := Ideal) (ix2 ⟨r.val % 4096, by omega⟩ d)) l := by
  have e : val_main_v225 (F := Ideal) x md g w (ix2 r l)
      = val_main_v143 (F := Ideal) x md g w (ix4 ⟨r.val / 4096, by omega⟩ ⟨r.val % 4096, by omega⟩ ⟨l.val / 64, by omega⟩ ⟨l.val % 64, by omega⟩) := by
    pointwise [val_main_v225, val_main_v224]
  rw [e, rotated143, turned134, piece39, at_row]
  unfold Rows.turnA
  dsimp only
  by_cases k : l.val % 64 / 16 % 2 = 0
  · rw [dif_pos k, dif_pos k, piece39, at_row]
    have e1 : l.val / 64 * 64 + l.val % 64 = l.val := by omega
    have e2 : l.val / 64 * 64 + (l.val % 64 + 16) = (l.val + 16) := by omega
    simp only [e1, e2]
  · rw [dif_neg k, dif_neg k, piece39, at_row]
    have e1 : l.val / 64 * 64 + l.val % 64 = l.val := by omega
    have e2 : l.val / 64 * 64 + (l.val % 64 - 16) = (l.val - 16) := by omega
    simp only [e1, e2]

/-- The rotated windowed keys at row `r`, column `l`. -/
theorem out_turnK (r : Fin 8192) (l : Fin 256) :
    val_main_v227 (F := Ideal) x md g w (ix2 r l)
      = Rows.turnA (fun l => prow x md g w r ⟨256 + (l.val / 128 * 64 + l.val % 64), by omega⟩)
          (fun d => val_main_v98 (F := Ideal) (ix2 ⟨r.val % 4096, by omega⟩ d))
          (fun d => val_main_v99 (F := Ideal) (ix2 ⟨r.val % 4096, by omega⟩ d)) l := by
  have e : val_main_v227 (F := Ideal) x md g w (ix2 r l)
      = val_main_v159 (F := Ideal) x md g w (ix4 ⟨r.val / 4096, by omega⟩ ⟨r.val % 4096, by omega⟩ ⟨l.val / 128, by omega⟩ ⟨l.val % 64, by omega⟩) := by
    have d : l.val / 64 / 2 = l.val / 128 := by omega
    pointwise [val_main_v227, val_main_v226, val_main_v200, val_main_v199, d]
  rw [e, rotated159, turned150, piece40, at_row]
  unfold Rows.turnA
  dsimp only
  by_cases k : l.val % 64 / 16 % 2 = 0
  · rw [dif_pos k, dif_pos k, piece40, at_row]
    have e2 : l.val / 128 * 64 + (l.val % 64 + 16) = (l.val + 16) / 128 * 64 + (l.val + 16) % 64 := by omega
    simp only [e2]
  · rw [dif_neg k, dif_neg k, piece40, at_row]
    have e2 : l.val / 128 * 64 + (l.val % 64 - 16) = (l.val - 16) / 128 * 64 + (l.val - 16) % 64 := by omega
    simp only [e2]

/-- The rotated latent queries at row `r`, column `l`. -/
theorem out_turnP (r : Fin 8192) (l : Fin 128) :
    val_main_v229 (F := Ideal) x md g w gq wq (ix2 r l)
      = Rows.turnB (fun l => Rows.queries (prow x md g w r) (fun k => gq (ix1 k)) (fun i n => wq (ix2 i n)) ⟨256 + l.val, by omega⟩)
          (fun d => val_main_v126 (F := Ideal) (ix2 ⟨r.val % 4096, by omega⟩ d))
          (fun d => val_main_v127 (F := Ideal) (ix2 ⟨r.val % 4096, by omega⟩ d)) l := by
  have e : val_main_v229 (F := Ideal) x md g w gq wq (ix2 r l)
      = val_main_v176 (F := Ideal) x md g w gq wq (ix4 ⟨r.val / 4096, by omega⟩ ⟨r.val % 4096, by omega⟩ ⟨l.val / 32, by omega⟩ ⟨l.val % 32, by omega⟩) := by
    pointwise [val_main_v229, val_main_v228]
  rw [e, rotated176, turned167, piece160, at_row]
  unfold Rows.turnB
  dsimp only
  by_cases k : l.val % 32 / 8 % 2 = 0
  · rw [dif_pos k, dif_pos k, piece160, at_row]
    have e1 : l.val / 32 * 32 + l.val % 32 = l.val := by omega
    have e2 : l.val / 32 * 32 + (l.val % 32 + 8) = (l.val + 8) := by omega
    simp only [e1, e2]
  · rw [dif_neg k, dif_neg k, piece160, at_row]
    have e1 : l.val / 32 * 32 + l.val % 32 = l.val := by omega
    have e2 : l.val / 32 * 32 + (l.val % 32 - 8) = (l.val - 8) := by omega
    simp only [e1, e2]

/-- The rotated latent keys at row `r`, column `l`. -/
theorem out_turnR (r : Fin 8192) (l : Fin 128) :
    val_main_v234 (F := Ideal) x md g w (ix2 r l)
      = Rows.turnB (fun l => prow x md g w r ⟨832 + l.val % 32, by omega⟩)
          (fun d => val_main_v126 (F := Ideal) (ix2 ⟨r.val % 4096, by omega⟩ d))
          (fun d => val_main_v127 (F := Ideal) (ix2 ⟨r.val % 4096, by omega⟩ d)) l := by
  have e : val_main_v234 (F := Ideal) x md g w (ix2 r l)
      = val_main_v193 (F := Ideal) x md g w (ix4 ⟨r.val / 4096, by omega⟩ ⟨r.val % 4096, by omega⟩ 0 ⟨l.val % 32, by omega⟩) := by
    pointwise [val_main_v234, val_main_v233, val_main_v232, val_main_v231, val_main_v230, val_main_v194]
  rw [e, rotated193, turned184, piece177, at_row]
  unfold Rows.turnB
  dsimp only
  by_cases k : l.val % 32 / 8 % 2 = 0
  · rw [dif_pos k, dif_pos k, piece177, at_row]
    have e2 : (l.val % 32 + 8) = (l.val + 8) % 32 := by omega
    simp only [e2]
  · rw [dif_neg k, dif_neg k, piece177, at_row]
    have e2 : (l.val % 32 - 8) = (l.val - 8) % 32 := by omega
    simp only [e2]

end Cert.Reference9Ideal.Value

end
-- ==== Proof.RopeClaim.lean ====
module

public import proofs.«01_k».proof.Defs
public import proofs.«01_k».proof.Proof.RopeTurn
public import proofs.«01_k».proof.Proof.RopeRefTurn
public import Idealize.ShloMosaic.Lib.Claim

@[expose] public section

set_option maxRecDepth 16384

noncomputable section

open Idealize.ShloMosaic Idealize.ShloMosaic.TcCoe Idealize.SL.Sem

namespace Cert.Proof.Rope

variable (m : (ℓ : Loc Cert.Kernel9Ideal.nD Cert.Kernel9Ideal.τ Cert.Kernel9Ideal.sig) → Buf (Elt Ideal) ℓ)

/-- The reference's packed projection is the kernel's. -/
theorem packed (c : Dev 1) : Cert.Reference9Ideal.Read.val_main_v219 (F := Ideal)
      (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1))
      (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3))
    = (Cert.Kernel9Ideal.Gen.dats m 0 c).arrAt 14 (Cert.Kernel9Ideal.cfgs 0).N := by
  rw [Cert.Kernel9Ideal.Value.final14]
  funext i
  obtain ⟨r, j, rfl⟩ : ∃ r j, i = ix2 r j := ⟨i 0, i 1, eq_ix2 i⟩
  exact Cert.Reference9Ideal.Value.out_packed _ _ _ _ r j

/-- The reference's packed queries are the kernel's. -/
theorem queries (c : Dev 1) : Cert.Reference9Ideal.Read.val_main_v220 (F := Ideal)
      (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1))
      (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3))
      (m ((c : Thread Cert.Kernel9Ideal.nD Cert.Kernel9Ideal.τ).loc Cert.Kernel9Ideal.main_arg4)) (m ((c : Thread Cert.Kernel9Ideal.nD Cert.Kernel9Ideal.τ).loc Cert.Kernel9Ideal.main_arg5))
    = (Cert.Kernel9Ideal.Gen.dats m 0 c).arrAt 15 (Cert.Kernel9Ideal.cfgs 0).N := by
  rw [Cert.Kernel9Ideal.Value.final15]
  funext i
  obtain ⟨r, j, rfl⟩ : ∃ r j, i = ix2 r j := ⟨i 0, i 1, eq_ix2 i⟩
  exact Cert.Reference9Ideal.Value.out_queries _ _ _ _ _ _ r j

/-- The reference's compressed keys and values are the kernel's. -/
theorem compressed (c : Dev 1) : Cert.Reference9Ideal.Read.val_main_v221 (F := Ideal)
      (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1))
      (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3))
      (m ((c : Thread Cert.Kernel9Ideal.nD Cert.Kernel9Ideal.τ).loc Cert.Kernel9Ideal.main_arg6))
    = (Cert.Kernel9Ideal.Gen.dats m 0 c).arrAt 16 (Cert.Kernel9Ideal.cfgs 0).N := by
  rw [Cert.Kernel9Ideal.Value.final16]
  funext i
  obtain ⟨r, j, rfl⟩ : ∃ r j, i = ix2 r j := ⟨i 0, i 1, eq_ix2 i⟩
  exact Cert.Reference9Ideal.Value.out_ckv _ _ _ _ _ r j

/-- The reference's packed keys and values are the kernel's. -/
theorem keysValues (c : Dev 1) : Cert.Reference9Ideal.Read.val_main_v223 (F := Ideal)
      (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1))
      (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3))
      (m ((c : Thread Cert.Kernel9Ideal.nD Cert.Kernel9Ideal.τ).loc Cert.Kernel9Ideal.main_arg6)) (m ((c : Thread Cert.Kernel9Ideal.nD Cert.Kernel9Ideal.τ).loc Cert.Kernel9Ideal.main_arg7))
    = (Cert.Kernel9Ideal.Gen.dats m 0 c).arrAt 17 (Cert.Kernel9Ideal.cfgs 0).N := by
  rw [Cert.Kernel9Ideal.Value.final17]
  funext i
  obtain ⟨r, j, rfl⟩ : ∃ r j, i = ix2 r j := ⟨i 0, i 1, eq_ix2 i⟩
  exact Cert.Reference9Ideal.Value.out_kv _ _ _ _ _ _ r j

/-- The reference's rotated windowed queries are the kernel's. -/
theorem turnQ (c : Dev 1) : Cert.Reference9Ideal.Read.val_main_v225 (F := Ideal)
      (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1))
      (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3))
    = (Cert.Kernel9Ideal.Gen.dats m 0 c).arrAt 18 (Cert.Kernel9Ideal.cfgs 0).N := by
  rw [Cert.Kernel9Ideal.Value.final18]
  funext i
  obtain ⟨r, j, rfl⟩ : ∃ r j, i = ix2 r j := ⟨i 0, i 1, eq_ix2 i⟩
  exact Cert.Reference9Ideal.Value.out_turnQ _ _ _ _ r j

/-- The reference's rotated windowed keys are the kernel's. -/
theorem turnK (c : Dev 1) : Cert.Reference9Ideal.Read.val_main_v227 (F := Ideal)
      (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1))
      (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3))
    = (Cert.Kernel9Ideal.Gen.dats m 0 c).arrAt 19 (Cert.Kernel9Ideal.cfgs 0).N := by
  rw [Cert.Kernel9Ideal.Value.final19]
  funext i
  obtain ⟨r, j, rfl⟩ : ∃ r j, i = ix2 r j := ⟨i 0, i 1, eq_ix2 i⟩
  exact Cert.Reference9Ideal.Value.out_turnK _ _ _ _ r j

/-- The reference's rotated latent queries are the kernel's. -/
theorem turnP (c : Dev 1) : Cert.Reference9Ideal.Read.val_main_v229 (F := Ideal)
      (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1))
      (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3))
      (m ((c : Thread Cert.Kernel9Ideal.nD Cert.Kernel9Ideal.τ).loc Cert.Kernel9Ideal.main_arg4)) (m ((c : Thread Cert.Kernel9Ideal.nD Cert.Kernel9Ideal.τ).loc Cert.Kernel9Ideal.main_arg5))
    = (Cert.Kernel9Ideal.Gen.dats m 0 c).arrAt 20 (Cert.Kernel9Ideal.cfgs 0).N := by
  rw [Cert.Kernel9Ideal.Value.final20]
  funext i
  obtain ⟨r, j, rfl⟩ : ∃ r j, i = ix2 r j := ⟨i 0, i 1, eq_ix2 i⟩
  exact Cert.Reference9Ideal.Value.out_turnP _ _ _ _ _ _ r j

/-- The reference's rotated latent keys are the kernel's. -/
theorem turnR (c : Dev 1) : Cert.Reference9Ideal.Read.val_main_v234 (F := Ideal)
      (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1))
      (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3))
    = (Cert.Kernel9Ideal.Gen.dats m 0 c).arrAt 21 (Cert.Kernel9Ideal.cfgs 0).N := by
  rw [Cert.Kernel9Ideal.Value.final21]
  funext i
  obtain ⟨r, j, rfl⟩ : ∃ r j, i = ix2 r j := ⟨i 0, i 1, eq_ix2 i⟩
  exact Cert.Reference9Ideal.Value.out_turnR _ _ _ _ r j

set_option maxHeartbeats 2000000 in
/-- The input projection of the sample rows and its reference give the same eight arrays. -/
theorem algebraic : Cert.algebraic_Kernel9Ideal_Reference9Ideal := by
  intro m g m' g' _ hagree
  refine ⟨fun c => (Cert.Kernel9Ideal.Gen.dats m 0 c).arrAt 14 (Cert.Kernel9Ideal.cfgs 0).N,
    fun c => (Cert.Kernel9Ideal.Gen.dats m 0 c).arrAt 15 (Cert.Kernel9Ideal.cfgs 0).N,
    fun c => (Cert.Kernel9Ideal.Gen.dats m 0 c).arrAt 16 (Cert.Kernel9Ideal.cfgs 0).N,
    fun c => (Cert.Kernel9Ideal.Gen.dats m 0 c).arrAt 17 (Cert.Kernel9Ideal.cfgs 0).N,
    fun c => (Cert.Kernel9Ideal.Gen.dats m 0 c).arrAt 18 (Cert.Kernel9Ideal.cfgs 0).N,
    fun c => (Cert.Kernel9Ideal.Gen.dats m 0 c).arrAt 19 (Cert.Kernel9Ideal.cfgs 0).N,
    fun c => (Cert.Kernel9Ideal.Gen.dats m 0 c).arrAt 20 (Cert.Kernel9Ideal.cfgs 0).N,
    fun c => (Cert.Kernel9Ideal.Gen.dats m 0 c).arrAt 21 (Cert.Kernel9Ideal.cfgs 0).N, ?_, ?_⟩
  · exact θ_run_mono (θ_run_and (Cert.Kernel9Ideal.Gen.run_main m g) (Cert.Kernel9Ideal.Gen.unchanged m g))
      fun r h c => ⟨(h.1 c).1 14, (h.1 c).1 15, (h.1 c).1 16, (h.1 c).1 17, (h.1 c).1 18, (h.1 c).1 19, (h.1 c).1 20, (h.1 c).1 21, h.2 c⟩
  · refine θ_run_mono (Cert.Reference9Ideal.Value.run m' g') fun r h c => ?_
    obtain ⟨h0, h1, h2, h3, h4, h5, h6, h7⟩ := hagree c
    have e0 : StableHlo.launchContents m' c (Proc.devRef .tc Cert.Reference9Ideal.main_arg0)
        = m ((c : Thread Cert.Kernel9Ideal.nD Cert.Kernel9Ideal.τ).loc Cert.Kernel9Ideal.main_arg0) := h0
    have e1 : StableHlo.launchContents m' c (Proc.devRef .tc Cert.Reference9Ideal.main_arg1)
        = m ((c : Thread Cert.Kernel9Ideal.nD Cert.Kernel9Ideal.τ).loc Cert.Kernel9Ideal.main_arg1) := h1
    have e2 : StableHlo.launchContents m' c (Proc.devRef .tc Cert.Reference9Ideal.main_arg2)
        = m ((c : Thread Cert.Kernel9Ideal.nD Cert.Kernel9Ideal.τ).loc Cert.Kernel9Ideal.main_arg2) := h2
    have e3 : StableHlo.launchContents m' c (Proc.devRef .tc Cert.Reference9Ideal.main_arg3)
        = m ((c : Thread Cert.Kernel9Ideal.nD Cert.Kernel9Ideal.τ).loc Cert.Kernel9Ideal.main_arg3) := h3
    have e4 : StableHlo.launchContents m' c (Proc.devRef .tc Cert.Reference9Ideal.main_arg4)
        = m ((c : Thread Cert.Kernel9Ideal.nD Cert.Kernel9Ideal.τ).loc Cert.Kernel9Ideal.main_arg4) := h4
    have e5 : StableHlo.launchContents m' c (Proc.devRef .tc Cert.Reference9Ideal.main_arg5)
        = m ((c : Thread Cert.Kernel9Ideal.nD Cert.Kernel9Ideal.τ).loc Cert.Kernel9Ideal.main_arg5) := h5
    have e6 : StableHlo.launchContents m' c (Proc.devRef .tc Cert.Reference9Ideal.main_arg6)
        = m ((c : Thread Cert.Kernel9Ideal.nD Cert.Kernel9Ideal.τ).loc Cert.Kernel9Ideal.main_arg6) := h6
    have e7 : StableHlo.launchContents m' c (Proc.devRef .tc Cert.Reference9Ideal.main_arg7)
        = m ((c : Thread Cert.Kernel9Ideal.nD Cert.Kernel9Ideal.τ).loc Cert.Kernel9Ideal.main_arg7) := h7
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩
    · rw [Cert.Reference9Ideal.Read.val_main_v219_eq, e0, e1, e2, e3]; exact packed m c
    · rw [Cert.Reference9Ideal.Read.val_main_v220_eq, e0, e1, e2, e3, e4, e5]; exact queries m c
    · rw [Cert.Reference9Ideal.Read.val_main_v221_eq, e0, e1, e2, e3, e6]; exact compressed m c
    · rw [Cert.Reference9Ideal.Read.val_main_v223_eq, e0, e1, e2, e3, e6, e7]; exact keysValues m c
    · rw [Cert.Reference9Ideal.Read.val_main_v225_eq, e0, e1, e2, e3]; exact turnQ m c
    · rw [Cert.Reference9Ideal.Read.val_main_v227_eq, e0, e1, e2, e3]; exact turnK m c
    · rw [Cert.Reference9Ideal.Read.val_main_v229_eq, e0, e1, e2, e3, e4, e5]; exact turnP m c
    · rw [Cert.Reference9Ideal.Read.val_main_v234_eq, e0, e1, e2, e3]; exact turnR m c

end Cert.Proof.Rope

end
-- ==== Proof.lean ====
module

public import proofs.«01_k».proof.Defs
public import proofs.«01_k».proof.Proof.Frames
public import proofs.«01_k».proof.Proof.FfnClaim
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.MlaClaim
public import proofs.«01_k».proof.Proof.MergeClaim
public import proofs.«01_k».proof.Proof.InprojClaim
public import proofs.«01_k».proof.Proof.FfnCtxClaim
public import proofs.«01_k».proof.Proof.MergeCtxClaim
public import proofs.«01_k».proof.Proof.RopeClaim
public import proofs.«01_k».proof.Proof.Gen.Pre_finite
public import proofs.«01_k».proof.Proof.Gen.Pre_finite3
public import proofs.«01_k».proof.Proof.Gen.Pre_finite8

@[expose] public section

noncomputable section

namespace Cert.Proof

open Idealize.ShloMosaic Idealize.SL.Sem

/-- Every claim of the certificate. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Pre_finite.Gen.facts,
    Cert.Pre_finite3.Gen.facts,
    Cert.Pre_finite8.Gen.facts,
    fun m ρ _ => Cert.Kernel.Gen.frame m ρ,
    fun m ρ _ => Cert.KernelIdeal.Gen.frame m ρ,
    fun m ρ _ => Cert.KernelIdeal.Gen.frame m ρ,
    Frames.reference,
    fun m ρ _ => Frames.reference m ρ trivial,
    fun m ρ _ => Cert.Kernel2.Gen.frame m ρ,
    fun m ρ _ => Cert.Kernel2Ideal.Gen.frame m ρ,
    Ffn.quiescent_ref,
    fun m ρ _ => Cert.Kernel3.Gen.frame m ρ,
    fun m ρ _ => Cert.Kernel3Ideal.Gen.frame m ρ,
    fun m ρ _ => Cert.Kernel3Ideal.Gen.frame m ρ,
    Frames.reference3,
    fun m ρ _ => Frames.reference3 m ρ trivial,
    fun m ρ _ => Cert.Kernel4.Gen.frame m ρ,
    fun m ρ _ => Cert.Kernel4Ideal.Gen.frame m ρ,
    Frames.reference4,
    fun m ρ _ => Cert.Kernel5.Gen.frame m ρ,
    fun m ρ _ => Cert.Kernel5Ideal.Gen.frame m ρ,
    Frames.reference5,
    fun m ρ _ => Cert.Kernel6.Gen.frame m ρ,
    fun m ρ _ => Cert.Kernel6Ideal.Gen.frame m ρ,
    Frames.reference6,
    fun m ρ _ => Cert.Kernel7.Gen.frame m ρ,
    fun m ρ _ => Cert.Kernel7Ideal.Gen.frame m ρ,
    FfnCtx.quiescent_ref,
    fun m ρ _ => Cert.Kernel8.Gen.frame m ρ,
    fun m ρ _ => Cert.Kernel8Ideal.Gen.frame m ρ,
    fun m ρ _ => Cert.Kernel8Ideal.Gen.frame m ρ,
    Frames.reference8,
    fun m ρ _ => Frames.reference8 m ρ trivial,
    fun m ρ _ => Cert.Kernel9.Gen.frame m ρ,
    fun m ρ _ => Cert.Kernel9Ideal.Gen.frame m ρ,
    Frames.reference9,
    trivial,
    Mla.algebraic,
    trivial,
    Ffn.algebraic,
    trivial,
    Merge.algebraic,
    Frames.preserves4,
    Inproj.algebraic,
    trivial,
    trivial,
    trivial,
    FfnCtx.algebraic,
    trivial,
    MergeCtx.algebraic,
    Frames.preserves9,
    Rope.algebraic⟩

end Cert.Proof

end
